-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_nonzero_sums [hPre_nonzero_sums : Cert.Pre_nonzero_sums.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_nonzero_sums.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_nonzero_sums [hPre_nonzero_sums : Cert.Pre_nonzero_sums.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_nonzero_sums.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_nonzero_sums [hKernel2Ideal : Cert.Kernel2Ideal.Facts] [hPre_nonzero_sums : Cert.Pre_nonzero_sums.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_nonzero_sums m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_nonzero_sums [hReference2Ideal : Cert.Reference2Ideal.Facts] [hPre_nonzero_sums : Cert.Pre_nonzero_sums.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_nonzero_sums m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_nonzero_sums [hKernel2Ideal : Cert.Kernel2Ideal.Facts] [hReference2Ideal : Cert.Reference2Ideal.Facts] [hPre_nonzero_sums : Cert.Pre_nonzero_sums.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_nonzero_sums m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_operands : Cert.Pre_finite_operands.Facts) (hPre_nonzero_sums : Cert.Pre_nonzero_sums.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel2 (hKernel2 := hKernel2)
    ∧ quiescent_Kernel2Ideal (hKernel2Ideal := hKernel2Ideal)
    ∧ quiescent_Kernel2Ideal_pre_nonzero_sums (hKernel2Ideal := hKernel2Ideal) (hPre_nonzero_sums := hPre_nonzero_sums)
    ∧ quiescent_Reference2Ideal (hReference2Ideal := hReference2Ideal)
    ∧ quiescent_Reference2Ideal_pre_nonzero_sums (hReference2Ideal := hReference2Ideal) (hPre_nonzero_sums := hPre_nonzero_sums)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_Kernel2_Kernel2Ideal
    ∧ algebraic_Kernel2Ideal_Reference2Ideal_pre_nonzero_sums (hKernel2Ideal := hKernel2Ideal) (hReference2Ideal := hReference2Ideal) (hPre_nonzero_sums := hPre_nonzero_sums)
-- ==== Pre_finite_operands.lean ====
abbrev S1 : Shape := ⟨1, ![1]⟩
abbrev S512x16384 : Shape := ⟨2, ![512, 16384]⟩
abbrev S4x16384x128 : Shape := ⟨3, ![4, 16384, 128]⟩
abbrev S4x64 : Shape := ⟨2, ![4, 64]⟩
abbrev S128x1 : Shape := ⟨2, ![128, 1]⟩
abbrev S_ : Shape := ⟨0, ![]⟩

class Facts : Prop where
  bitsLt_bf16_f32 : FTy.bits .bf16 < FTy.bits .f32
  bcast_S_S512x16384 : S_.BroadcastsInDim S512x16384 (![] : Fin 0 → Fin S512x16384.rank)
  bcast_S_S4x16384x128 : S_.BroadcastsInDim S4x16384x128 (![] : Fin 0 → Fin S4x16384x128.rank)
  bcast_S_S4x64 : S_.BroadcastsInDim S4x64 (![] : Fin 0 → Fin S4x64.rank)

variable [Facts]

def fn {F : FTy → Type} [FloatOps F] (main_arg0 : FVec F S1 .f32) (main_arg1 : FVec F S512x16384 .bf16) (main_arg2 : FVec F S4x16384x128 .bf16) (main_arg3 : FVec F S512x16384 .bf16) (main_arg4 : FVec F S4x64 .f32) (main_arg5 : FVec F S128x1 .f32) : IVec S512x16384 1 × IVec S4x16384x128 1 × IVec S512x16384 1 × IVec S4x64 1 :=
  let main_v0 : FVec F S512x16384 .f32 := (extf .f32 · bitsLt_bf16_f32) main_arg1
  let main_v1 : FVec F S512x16384 .f32 := Host.absf main_v0
  let main_cst : FVec F S_ .f32 := constant S_ .f32 0x7F800000#32
  let main_v2 : FVec F S512x16384 .f32 := broadcastInDim S512x16384 ![] bcast_S_S512x16384 main_cst
  let main_v3 : IVec S512x16384 1 := cmpf .olt main_v1 main_v2
  let main_v4 : FVec F S4x16384x128 .f32 := (extf .f32 · bitsLt_bf16_f32) main_arg2
  let main_v5 : FVec F S4x16384x128 .f32 := Host.absf main_v4
  let main_cst_0 : FVec F S_ .f32 := constant S_ .f32 0x7F800000#32
  let main_v6 : FVec F S4x16384x128 .f32 := broadcastInDim S4x16384x128 ![] bcast_S_S4x16384x128 main_cst_0
  let main_v7 : IVec S4x16384x128 1 := cmpf .olt main_v5 main_v6
  let main_v8 : FVec F S512x16384 .f32 := (extf .f32 · bitsLt_bf16_f32) main_arg3
  let main_v9 : FVec F S512x16384 .f32 := Host.absf main_v8
  let main_cst_1 : FVec F S_ .f32 := constant S_ .f32 0x7F800000#32
  let main_v10 : FVec F S512x16384 .f32 := broadcastInDim S512x16384 ![] bcast_S_S512x16384 main_cst_1
  let main_v11 : IVec S512x16384 1 := cmpf .olt main_v9 main_v10
  let main_v12 : FVec F S4x64 .f32 := Host.absf main_arg4
  let main_cst_2 : FVec F S_ .f32 := constant S_ .f32 0x7F800000#32
  let main_v13 : FVec F S4x64 .f32 := broadcastInDim S4x64 ![] bcast_S_S4x64 main_cst_2
  let main_v14 : IVec S4x64 1 := cmpf .olt main_v12 main_v13
  (main_v3, main_v7, main_v11, main_v14)
-- ==== Pre_nonzero_sums.lean ====
abbrev S16384x1024 : Shape := ⟨2, ![16384, 1024]⟩
abbrev S8x128x8192 : Shape := ⟨3, ![8, 128, 8192]⟩
abbrev S8x128x2048 : Shape := ⟨3, ![8, 128, 2048]⟩
abbrev S512x16384 : Shape := ⟨2, ![512, 16384]⟩
abbrev S1024x1024 : Shape := ⟨2, ![1024, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S16384x8x16 : Shape := ⟨3, ![16384, 8, 16]⟩
abbrev S16384x8x1 : Shape := ⟨3, ![16384, 8, 1]⟩
abbrev S16384x8 : Shape := ⟨2, ![16384, 8]⟩
abbrev S_ : Shape := ⟨0, ![]⟩

class Facts : Prop where
  shapeCasts_S8x128x2048_S16384x8x16 : S8x128x2048.ShapeCasts S16384x8x16
  slices_S16384x8x16_S16384x8x1_0_0_0 : S16384x8x16.Slices ![0, 0, 0] S16384x8x1
  shapeCasts_S16384x8x1_S16384x8 : S16384x8x1.ShapeCasts S16384x8
  bcast_S_S16384x8 : S_.BroadcastsInDim S16384x8 (![] : Fin 0 → Fin S16384x8.rank)

variable [Facts]

def fn {F : FTy → Type} [FloatOps F] (main_arg0 : FVec F S16384x1024 .f32) (main_arg1 : FVec F S8x128x8192 .f32) (main_arg2 : FVec F S8x128x2048 .f32) (main_arg3 : FVec F S512x16384 .f32) (main_arg4 : FVec F S16384x1024 .f32) (main_arg5 : FVec F S1024x1024 .bf16) (main_arg6 : FVec F S1024 .f32) (main_arg7 : FVec F S1024x6144 .bf16) (main_arg8 : FVec F S2048 .f32) (main_arg9 : FVec F S2048 .f32) (main_arg10 : FVec F S8x128x128 .f32) (main_arg11 : FVec F S8x128 .f32) (main_arg12 : FVec F S2048x1024 .bf16) : IVec S16384x8 1 :=
  let main_v0 : FVec F S16384x8x16 .f32 := shapeCast S16384x8x16 main_arg2 shapeCasts_S8x128x2048_S16384x8x16
  let main_v1 : FVec F S16384x8x1 .f32 := (extractStridedSlice S16384x8x1 ![0, 0, 0] · slices_S16384x8x16_S16384x8x1_0_0_0) main_v0
  let main_v2 : FVec F S16384x8 .f32 := shapeCast S16384x8 main_v1 shapeCasts_S16384x8x1_S16384x8
  let main_cst : FVec F S_ .f32 := constant S_ .f32 0x00000000#32
  let main_v3 : FVec F S16384x8 .f32 := broadcastInDim S16384x8 ![] bcast_S_S16384x8 main_cst
  let main_v4 : IVec S16384x8 1 := cmpf .une main_v2 main_v3
  main_v4
-- ==== Kernel.lean ====
abbrev S1 : Shape := ⟨1, ![1]⟩
abbrev S512x16384 : Shape := ⟨2, ![512, 16384]⟩
abbrev S4x16384x128 : Shape := ⟨3, ![4, 16384, 128]⟩
abbrev S4x64 : Shape := ⟨2, ![4, 64]⟩
abbrev S128x1 : Shape := ⟨2, ![128, 1]⟩
abbrev S128x1024 : Shape := ⟨2, ![128, 1024]⟩
abbrev S1x16384x128 : Shape := ⟨3, ![1, 16384, 128]⟩
abbrev S128x16384 : Shape := ⟨2, ![128, 16384]⟩
abbrev S2x1x1024 : Shape := ⟨3, ![2, 1, 1024]⟩
abbrev S2x8x1024 : Shape := ⟨3, ![2, 8, 1024]⟩
abbrev S2x128x1024 : Shape := ⟨3, ![2, 128, 1024]⟩
abbrev S64x1024 : Shape := ⟨2, ![64, 1024]⟩
abbrev S1x1024x128 : Shape := ⟨3, ![1, 1024, 128]⟩
abbrev S1024x128 : Shape := ⟨2, ![1024, 128]⟩
abbrev S1024x1024 : Shape := ⟨2, ![1024, 1024]⟩
abbrev S1x8x1024 : Shape := ⟨3, ![1, 8, 1024]⟩
abbrev S8x1024 : Shape := ⟨2, ![8, 1024]⟩
abbrev S128x8x1024 : Shape := ⟨3, ![128, 8, 1024]⟩
abbrev S1x128x1024 : Shape := ⟨3, ![1, 128, 1024]⟩
abbrev S512x512 : Shape := ⟨2, ![512, 512]⟩
abbrev S128x512 : Shape := ⟨2, ![128, 512]⟩
abbrev S1x512x128 : Shape := ⟨3, ![1, 512, 128]⟩
abbrev S512x128 : Shape := ⟨2, ![512, 128]⟩
abbrev S1x8x512 : Shape := ⟨3, ![1, 8, 512]⟩
abbrev S8x512 : Shape := ⟨2, ![8, 512]⟩
abbrev S64x8x512 : Shape := ⟨3, ![64, 8, 512]⟩
abbrev S1x128x512 : Shape := ⟨3, ![1, 128, 512]⟩
abbrev S1024x512 : Shape := ⟨2, ![1024, 512]⟩
abbrev S128x8x512 : Shape := ⟨3, ![128, 8, 512]⟩
abbrev S1024 : Shape := ⟨1, ![1024]⟩
abbrev S1x1024 : Shape := ⟨2, ![1, 1024]⟩
abbrev S1x64 : Shape := ⟨2, ![1, 64]⟩
abbrev S1x1 : Shape := ⟨2, ![1, 1]⟩
abbrev S1x1x1024 : Shape := ⟨3, ![1, 1, 1024]⟩

abbrev nBuf : Space → Nat
  | .hbm => 7
  | .vmem => 14
  | .smem => 1
  | _ => 0

abbrev bufTy : (tb : Table) → Fin (tcTables nBuf tb) → BufTy
  | .hbm, ⟨0, _⟩ => ⟨S1, .f32⟩
  | .hbm, ⟨1, _⟩ => ⟨S512x16384, .bf16⟩
  | .hbm, ⟨2, _⟩ => ⟨S4x16384x128, .bf16⟩
  | .hbm, ⟨3, _⟩ => ⟨S512x16384, .bf16⟩
  | .hbm, ⟨4, _⟩ => ⟨S4x64, .f32⟩
  | .hbm, ⟨5, _⟩ => ⟨S128x1, .f32⟩
  | .hbm, ⟨6, _⟩ => ⟨S512x16384, .f32⟩
  | .local _ .vmem, ⟨0, _⟩ => ⟨S128x1024, .bf16⟩
  | .local _ .vmem, ⟨1, _⟩ => ⟨S128x1024, .bf16⟩
  | .local _ .vmem, ⟨2, _⟩ => ⟨S1x16384x128, .bf16⟩
  | .local _ .vmem, ⟨3, _⟩ => ⟨S1x16384x128, .bf16⟩
  | .local _ .vmem, ⟨4, _⟩ => ⟨S128x16384, .bf16⟩
  | .local _ .vmem, ⟨5, _⟩ => ⟨S128x16384, .bf16⟩
  | .local _ .vmem, ⟨6, _⟩ => ⟨S4x64, .f32⟩
  | .local _ .vmem, ⟨7, _⟩ => ⟨S128x1, .f32⟩
  | .local _ .vmem, ⟨8, _⟩ => ⟨S128x1024, .f32⟩
  | .local _ .vmem, ⟨9, _⟩ => ⟨S128x1024, .f32⟩
  | .local _ .vmem, ⟨10, _⟩ => ⟨S2x1x1024, .f32⟩
  | .local _ .vmem, ⟨11, _⟩ => ⟨S2x1x1024, .f32⟩
  | .local _ .vmem, ⟨12, _⟩ => ⟨S2x8x1024, .f32⟩
  | .local _ .vmem, ⟨13, _⟩ => ⟨S2x128x1024, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_14 : BitVec 32 := 1#32
  ⟨c0_i32_13, v26, c1_i32_14⟩
def k0_mult1 (i : grid0.Coords) (k0_t1 : Fin (k0_t1_loop i).trips) : BitVec 32 :=
  let c4_i32 : BitVec 32 := 4#32
  let c0_i32_13 : BitVec 32 := 0#32
  let c1_i32_14 : BitVec 32 := 1#32
  let arg13 : BitVec 32 := Scf.iv c0_i32_13 c1_i32_14 k0_t1
  let v197 : BitVec 32 := Scalar.muli c4_i32 arg13
  let c0_i32_121 : BitVec 32 := 0#32
  let v198 : BitVec 32 := Scalar.addi v197 c0_i32_121
  let c1024_i32_122 : BitVec 32 := 1024#32
  let v199 : BitVec 32 := Scalar.muli v198 c1024_i32_122
  v199
def k0_off1 (i : grid0.Coords) (k0_t1 : Fin (k0_t1_loop i).trips) (c0_i32_121 : BitVec 32) : Fin 2 → Nat :=
  let c0_123 : Index := 0#32
  let c4_i32 : BitVec 32 := 4#32
  let c0_i32_13 : BitVec 32 := 0#32
  let c1_i32_14 : BitVec 32 := 1#32
  let arg13 : BitVec 32 := Scf.iv c0_i32_13 c1_i32_14 k0_t1
  let v197 : BitVec 32 := Scalar.muli c4_i32 arg13
  let v198 : BitVec 32 := Scalar.addi v197 c0_i32_121
  let c1024_i32_122 : BitVec 32 := 1024#32
  let v199 : BitVec 32 := Scalar.muli v198 c1024_i32_122
  let v200 : BitVec 32 := v199
  let v201 : Index := Scalar.indexCast v200
  ![0, v201.toNat]
def k0_off2 (i : grid0.Coords) (k0_t1 : Fin (k0_t1_loop i).trips) (c0_i32_121 : BitVec 32) : Fin 3 → Nat :=
  let c0_124 : Index := 0#32
  let c4_i32 : BitVec 32 := 4#32
  let c0_i32_13 : BitVec 32 := 0#32
  let c1_i32_14 : BitVec 32 := 1#32
  let arg13 : BitVec 32 := Scf.iv c0_i32_13 c1_i32_14 k0_t1
  let v197 : BitVec 32 := Scalar.muli c4_i32 arg13
  let v198 : BitVec 32 := Scalar.addi v197 c0_i32_121
  let c1024_i32_122 : BitVec 32 := 1024#32
  let v199 : BitVec 32 := Scalar.muli v198 c1024_i32_122
  let v200 : BitVec 32 := v199
  let v203 : Index := Scalar.indexCast v200
  let c0_125 : Index := 0#32
  ![0, v203.toNat, 0]
def k0_mult2 (i : grid0.Coords) (k0_t1 : Fin (k0_t1_loop i).trips) : BitVec 32 :=
  let c4_i32_158 : BitVec 32 := 4#32
  let c0_i32_13 : BitVec 32 := 0#32
  let c1_i32_14 : BitVec 32 := 1#32
  let arg13 : BitVec 32 := Scf.iv c0_i32_13 c1_i32_14 k0_t1
  let v245 : BitVec 32 := Scalar.muli c4_i32_158 arg13
  let c1_i32_159 : BitVec 32 := 1#32
  let v246 : BitVec 32 := Scalar.addi v245 c1_i32_159
  let c1024_i32_160 : BitVec 32 := 1024#32
  let v247 : BitVec 32 := Scalar.muli v246 c1024_i32_160
  v247
def k0_mult3 (i : grid0.Coords) (k0_t1 : Fin (k0_t1_loop i).trips) : BitVec 32 :=
  let c4_i32_196 : BitVec 32 := 4#32
  let c0_i32_13 : BitVec 32 := 0#32
  let c1_i32_14 : BitVec 32 := 1#32
  let arg13 : BitVec 32 := Scf.iv c0_i32_13 c1_i32_14 k0_t1
  let v293 : BitVec 32 := Scalar.muli c4_i32_196 arg13
  let c2_i32_197 : BitVec 32 := 2#32
  let v294 : BitVec 32 := Scalar.addi v293 c2_i32_197
  let c1024_i32_198 : BitVec 32 := 1024#32
  let v295 : BitVec 32 := Scalar.muli v294 c1024_i32_198
  v295
def k0_mult4 (i : grid0.Coords) (k0_t1 : Fin (k0_t1_loop i).trips) : BitVec 32 :=
  let c4_i32_234 : BitVec 32 := 4#32
  let c0_i32_13 : BitVec 32 := 0#32
  let c1_i32_14 : BitVec 32 := 1#32
  let arg13 : BitVec 32 := Scf.iv c0_i32_13 c1_i32_14 k0_t1
  let v341 : BitVec 32 := Scalar.muli c4_i32_234 arg13
  let c3_i32 : BitVec 32 := 3#32
  let v342 : BitVec 32 := Scalar.addi v341 c3_i32
  let c1024_i32_235 : BitVec 32 := 1024#32
  let v343 : BitVec 32 := Scalar.muli v342 c1024_i32_235
  v343
@[reducible] def k0_t2_loop (i : grid0.Coords) : Scf.Loop 32 :=
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let v23 : BitVec 32 := Scalar.addi c0_i32_13 v22
  let c1_i32_15 : BitVec 32 := 1#32
  ⟨v26, v23, c1_i32_15⟩
def k0_mult5 (i : grid0.Coords) (k0_t2 : Fin (k0_t2_loop i).trips) : BitVec 32 :=
  let c4_i32 : BitVec 32 := 4#32
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_15 : BitVec 32 := 1#32
  let arg13 : BitVec 32 := Scf.iv v26 c1_i32_15 k0_t2
  let v197 : BitVec 32 := Scalar.muli c4_i32 arg13
  let c0_i32_121 : BitVec 32 := 0#32
  let v198 : BitVec 32 := Scalar.addi v197 c0_i32_121
  let c1024_i32_122 : BitVec 32 := 1024#32
  let v199 : BitVec 32 := Scalar.muli v198 c1024_i32_122
  v199
def k0_off3 (i : grid0.Coords) (k0_t2 : Fin (k0_t2_loop i).trips) (c0_i32_121 : BitVec 32) : Fin 2 → Nat :=
  let c0_123 : Index := 0#32
  let c4_i32 : BitVec 32 := 4#32
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_15 : BitVec 32 := 1#32
  let arg13 : BitVec 32 := Scf.iv v26 c1_i32_15 k0_t2
  let v197 : BitVec 32 := Scalar.muli c4_i32 arg13
  let v198 : BitVec 32 := Scalar.addi v197 c0_i32_121
  let c1024_i32_122 : BitVec 32 := 1024#32
  let v199 : BitVec 32 := Scalar.muli v198 c1024_i32_122
  let v200 : BitVec 32 := v199
  let v201 : Index := Scalar.indexCast v200
  ![0, v201.toNat]
def k0_off4 (i : grid0.Coords) (k0_t2 : Fin (k0_t2_loop i).trips) (c0_i32_121 : BitVec 32) : Fin 3 → Nat :=
  let c0_124 : Index := 0#32
  let c4_i32 : BitVec 32 := 4#32
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_15 : BitVec 32 := 1#32
  let arg13 : BitVec 32 := Scf.iv v26 c1_i32_15 k0_t2
  let v197 : BitVec 32 := Scalar.muli c4_i32 arg13
  let v198 : BitVec 32 := Scalar.addi v197 c0_i32_121
  let c1024_i32_122 : BitVec 32 := 1024#32
  let v199 : BitVec 32 := Scalar.muli v198 c1024_i32_122
  let v200 : BitVec 32 := v199
  let v203 : Index := Scalar.indexCast v200
  let c0_125 : Index := 0#32
  ![0, v203.toNat, 0]
def k0_mult6 (i : grid0.Coords) (k0_t2 : Fin (k0_t2_loop i).trips) : BitVec 32 :=
  let c4_i32_158 : BitVec 32 := 4#32
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_15 : BitVec 32 := 1#32
  let arg13 : BitVec 32 := Scf.iv v26 c1_i32_15 k0_t2
  let v245 : BitVec 32 := Scalar.muli c4_i32_158 arg13
  let c1_i32_159 : BitVec 32 := 1#32
  let v246 : BitVec 32 := Scalar.addi v245 c1_i32_159
  let c1024_i32_160 : BitVec 32 := 1024#32
  let v247 : BitVec 32 := Scalar.muli v246 c1024_i32_160
  v247
def k0_mult7 (i : grid0.Coords) (k0_t2 : Fin (k0_t2_loop i).trips) : BitVec 32 :=
  let c4_i32_196 : BitVec 32 := 4#32
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_15 : BitVec 32 := 1#32
  let arg13 : BitVec 32 := Scf.iv v26 c1_i32_15 k0_t2
  let v293 : BitVec 32 := Scalar.muli c4_i32_196 arg13
  let c2_i32_197 : BitVec 32 := 2#32
  let v294 : BitVec 32 := Scalar.addi v293 c2_i32_197
  let c1024_i32_198 : BitVec 32 := 1024#32
  let v295 : BitVec 32 := Scalar.muli v294 c1024_i32_198
  v295
def k0_mult8 (i : grid0.Coords) (k0_t2 : Fin (k0_t2_loop i).trips) : BitVec 32 :=
  let c4_i32_234 : BitVec 32 := 4#32
  let c0_i32_13 : BitVec 32 := 0#32
  let arg1 : BitVec 32 := BitVec.ofNat 32 (i 1).val
  let c2_i32 : BitVec 32 := 2#32
  let v21 : BitVec 32 := Scalar.shrui arg1 c2_i32
  let v22 : BitVec 32 := Scalar.subi v21 c0_i32_13
  let c1_i32 : BitVec 32 := 1#32
  let v24 : BitVec 32 := Scalar.divsi v22 c1_i32
  let v25 : BitVec 32 := Scalar.muli v24 c1_i32
  let v26 : BitVec 32 := Scalar.addi c0_i32_13 v25
  let c1_i32_15 : BitVec 32 := 1#32
  let arg13 : BitVec 32 := Scf.iv v26 c1_i32_15 k0_t2
  let v341 : BitVec 32 := Scalar.muli c4_i32_234 arg13
  let c3_i32 : BitVec 32 := 3#32
  let v342 : BitVec 32 := Scalar.addi v341 c3_i32
  let c1024_i32_235 : BitVec 32 := 1024#32
  let v343 : BitVec 32 := Scalar.muli v342 c1024_i32_235
  v343
def k0_cond2 (i : grid0.Coords) : BitVec 1 :=
  let arg1 : BitVec 32 := BitVec.ofNat 32 (i 1).val
  let c2_i32_16 : BitVec 32 := 2#32
  let v27 : BitVec 32 := Scalar.andi arg1 c2_i32_16
  let c2_i32_17 : BitVec 32 := 2#32
  let v28 : BitVec 1 := Scalar.cmpi .eq v27 c2_i32_17
  let v29 : BitVec 32 := Scalar.extui v28
  let c0_i32_18 : BitVec 32 := 0#32
  let v30 : BitVec 1 := Scalar.cmpi .ne v29 c0_i32_18
  v30

def k0_mult9 (i : grid0.Coords) : BitVec 32 :=
  let c4_i32 : BitVec 32 := 4#32
  let arg1 : BitVec 32 := BitVec.ofNat 32 (i 1).val
  let c2_i32 : BitVec 32 := 2#32
  let v21 : BitVec 32 := Scalar.shrui arg1 c2_i32
  let v197 : BitVec 32 := Scalar.muli c4_i32 v21
  let c1024_i32_121 : BitVec 32 := 1024#32
  let v198 : BitVec 32 := Scalar.muli v197 c1024_i32_121
  v198
def k0_off5 (i : grid0.Coords) : Fin 2 → Nat :=
  let c0_122 : Index := 0#32
  let c4_i32 : BitVec 32 := 4#32
  let arg1 : BitVec 32 := BitVec.ofNat 32 (i 1).val
  let c2_i32 : BitVec 32 := 2#32
  let v21 : BitVec 32 := Scalar.shrui arg1 c2_i32
  let v197 : BitVec 32 := Scalar.muli c4_i32 v21
  let c1024_i32_121 : BitVec 32 := 1024#32
  let v198 : BitVec 32 := Scalar.muli v197 c1024_i32_121
  let v199 : BitVec 32 := v198
  let v200 : Index := Scalar.indexCast v199
  ![0, v200.toNat]
def k0_off6 (i : grid0.Coords) : Fin 3 → Nat :=
  let c0_123 : Index := 0#32
  let c4_i32 : BitVec 32 := 4#32
  let arg1 : BitVec 32 := BitVec.ofNat 32 (i 1).val
  let c2_i32 : BitVec 32 := 2#32
  let v21 : BitVec 32 := Scalar.shrui arg1 c2_i32
  let v197 : BitVec 32 := Scalar.muli c4_i32 v21
  let c1024_i32_121 : BitVec 32 := 1024#32
  let v198 : BitVec 32 := Scalar.muli v197 c1024_i32_121
  let v199 : BitVec 32 := v198
  let v202 : Index := Scalar.indexCast v199
  let c0_124 : Index := 0#32
  ![0, v202.toNat, 0]
def k0_mult10 (i : grid0.Coords) : BitVec 32 :=
  let c4_i32_157 : BitVec 32 := 4#32
  let arg1 : BitVec 32 := BitVec.ofNat 32 (i 1).val
  let c2_i32 : BitVec 32 := 2#32
  let v21 : BitVec 32 := Scalar.shrui arg1 c2_i32
  let v244 : BitVec 32 := Scalar.muli c4_i32_157 v21
  let c1_i32_158 : BitVec 32 := 1#32
  let v245 : BitVec 32 := Scalar.addi v244 c1_i32_158
  let c1024_i32_159 : BitVec 32 := 1024#32
  let v246 : BitVec 32 := Scalar.muli v245 c1024_i32_159
  v246
def k0_off7 (i : grid0.Coords) : Fin 2 → Nat :=
  let c0_160 : Index := 0#32
  let c4_i32_157 : BitVec 32 := 4#32
  let arg1 : BitVec 32 := BitVec.ofNat 32 (i 1).val
  let c2_i32 : BitVec 32 := 2#32
  let v21 : BitVec 32 := Scalar.shrui arg1 c2_i32
  let v244 : BitVec 32 := Scalar.muli c4_i32_157 v21
  let c1_i32_158 : BitVec 32 := 1#32
  let v245 : BitVec 32 := Scalar.addi v244 c1_i32_158
  let c1024_i32_159 : BitVec 32 := 1024#32
  let v246 : BitVec 32 := Scalar.muli v245 c1024_i32_159
  let v247 : BitVec 32 := v246
  let v248 : Index := Scalar.indexCast v247
  ![0, v248.toNat]
def k0_off8 (i : grid0.Coords) : Fin 3 → Nat :=
  let c0_161 : Index := 0#32
  let c4_i32_157 : BitVec 32 := 4#32
  let arg1 : BitVec 32 := BitVec.ofNat 32 (i 1).val
  let c2_i32 : BitVec 32 := 2#32
  let v21 : BitVec 32 := Scalar.shrui arg1 c2_i32
  let v244 : BitVec 32 := Scalar.muli c4_i32_157 v21
  let c1_i32_158 : BitVec 32 := 1#32
  let v245 : BitVec 32 := Scalar.addi v244 c1_i32_158
  let c1024_i32_159 : BitVec 32 := 1024#32
  let v246 : BitVec 32 := Scalar.muli v245 c1024_i32_159
  let v247 : BitVec 32 := v246
  let v250 : Index := Scalar.indexCast v247
  let c0_162 : Index := 0#32
  ![0, v250.toNat, 0]
def k0_cond3 (i : grid0.Coords) : BitVec 1 :=
  let arg1 : BitVec 32 := BitVec.ofNat 32 (i 1).val
  let c1_i32_19 : BitVec 32 := 1#32
  let v31 : BitVec 32 := Scalar.andi arg1 c1_i32_19
  let c1_i32_20 : BitVec 32 := 1#32
  let v32 : BitVec 1 := Scalar.cmpi .eq v31 c1_i32_20
  let v33 : BitVec 32 := Scalar.extui v32
  let c0_i32_21 : BitVec 32 := 0#32
  let v34 : BitVec 1 := Scalar.cmpi .ne v33 c0_i32_21
  v34

def k0_mult11 (i : grid0.Coords) : BitVec 32 :=
  let arg1 : BitVec 32 := BitVec.ofNat 32 (i 1).val
  let c1_i32_121 : BitVec 32 := 1#32
  let v197 : BitVec 32 := Scalar.subi arg1 c1_i32_121
  let c1024_i32_122 : BitVec 32 := 1024#32
  let v198 : BitVec 32 := Scalar.muli v197 c1024_i32_122
  v198
def k0_off9 (i : grid0.Coords) : Fin 2 → Nat :=
  let c0_123 : Index := 0#32
  let arg1 : BitVec 32 := BitVec.ofNat 32 (i 1).val
  let c1_i32_121 : BitVec 32 := 1#32
  let v197 : BitVec 32 := Scalar.subi arg1 c1_i32_121
  let c1024_i32_122 : BitVec 32 := 1024#32
  let v198 : BitVec 32 := Scalar.muli v197 c1024_i32_122
  let v199 : BitVec 32 := v198
  let v200 : Index := Scalar.indexCast v199
  ![0, v200.toNat]
def k0_off10 (i : grid0.Coords) : Fin 3 → Nat :=
  let c0_124 : Index := 0#32
  let arg1 : BitVec 32 := BitVec.ofNat 32 (i 1).val
  let c1_i32_121 : BitVec 32 := 1#32
  let v197 : BitVec 32 := Scalar.subi arg1 c1_i32_121
  let c1024_i32_122 : BitVec 32 := 1024#32
  let v198 : BitVec 32 := Scalar.muli v197 c1024_i32_122
  let v199 : BitVec 32 := v198
  let v202 : Index := Scalar.indexCast v199
  let c0_125 : Index := 0#32
  ![0, v202.toNat, 0]
def k0_mult12 (i : grid0.Coords) : BitVec 32 :=
  let arg1 : BitVec 32 := BitVec.ofNat 32 (i 1).val
  let c1024_i32 : BitVec 32 := 1024#32
  let v35 : BitVec 32 := Scalar.muli arg1 c1024_i32
  v35
def k0_off11 (i : grid0.Coords) : Fin 2 → Nat :=
  let c0_22 : Index := 0#32
  let arg1 : BitVec 32 := BitVec.ofNat 32 (i 1).val
  let c1024_i32 : BitVec 32 := 1024#32
  let v35 : BitVec 32 := Scalar.muli arg1 c1024_i32
  let v36 : BitVec 32 := v35
  let v40 : Index := Scalar.indexCast v36
  ![0, v40.toNat]
def k0_off12 (i : grid0.Coords) : Fin 3 → Nat :=
  let c0_23 : Index := 0#32
  let arg1 : BitVec 32 := BitVec.ofNat 32 (i 1).val
  let c1024_i32 : BitVec 32 := 1024#32
  let v35 : BitVec 32 := Scalar.muli arg1 c1024_i32
  let v36 : BitVec 32 := v35
  let v42 : Index := Scalar.indexCast v36
  let c0_24 : Index := 0#32
  ![0, v42.toNat, 0]
def k0_off13 (i : grid0.Coords) : Fin 2 → Nat :=
  let c0_58 : Index := 0#32
  let arg1 : BitVec 32 := BitVec.ofNat 32 (i 1).val
  let c1024_i32 : BitVec 32 := 1024#32
  let v35 : BitVec 32 := Scalar.muli arg1 c1024_i32
  let v36 : BitVec 32 := v35
  let v90 : Index := Scalar.indexCast v36
  ![0, v90.toNat]
def k0_off14 (i : grid0.Coords) : Fin 3 → Nat :=
  let c0_59 : Index := 0#32
  let arg1 : BitVec 32 := BitVec.ofNat 32 (i 1).val
  let c1024_i32 : BitVec 32 := 1024#32
  let v35 : BitVec 32 := Scalar.muli arg1 c1024_i32
  let v36 : BitVec 32 := v35
  let v92 : Index := Scalar.indexCast v36
  let c0_60 : Index := 0#32
  ![0, v92.toNat, 0]
@[reducible] def k0_t3_loop (i : grid0.Coords) : Scf.Loop 32 :=
  let c0_i32_23 : BitVec 32 := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_25 : BitVec 32 := 1#32
  ⟨c0_i32_23, v47, c1_i32_25⟩
def k0_mult13 (i : grid0.Coords) (k0_t3 : Fin (k0_t3_loop i).trips) : BitVec 32 :=
  let c0_i32_23 : BitVec 32 := 0#32
  let c1_i32_25 : BitVec 32 := 1#32
  let arg13 : BitVec 32 := Scf.iv c0_i32_23 c1_i32_25 k0_t3
  let c1024_i32_106 : BitVec 32 := 1024#32
  let v192 : BitVec 32 := Scalar.muli arg13 c1024_i32_106
  v192
def k0_off15 (i : grid0.Coords) (k0_t3 : Fin (k0_t3_loop i).trips) : Fin 2 → Nat :=
  let c0_107 : Index := 0#32
  let c0_i32_23 : BitVec 32 := 0#32
  let c1_i32_25 : BitVec 32 := 1#32
  let arg13 : BitVec 32 := Scf.iv c0_i32_23 c1_i32_25 k0_t3
  let c1024_i32_106 : BitVec 32 := 1024#32
  let v192 : BitVec 32 := Scalar.muli arg13 c1024_i32_106
  let v193 : BitVec 32 := v192
  let v194 : Index := Scalar.indexCast v193
  ![0, v194.toNat]
def k0_off16 (i : grid0.Coords) (k0_t3 : Fin (k0_t3_loop i).trips) : Fin 3 → Nat :=
  let c0_108 : Index := 0#32
  let c0_i32_23 : BitVec 32 := 0#32
  let c1_i32_25 : BitVec 32 := 1#32
  let arg13 : BitVec 32 := Scf.iv c0_i32_23 c1_i32_25 k0_t3
  let c1024_i32_106 : BitVec 32 := 1024#32
  let v192 : BitVec 32 := Scalar.muli arg13 c1024_i32_106
  let v193 : BitVec 32 := v192
  let v196 : Index := Scalar.indexCast v193
  let c0_109 : Index := 0#32
  ![0, v196.toNat, 0]
@[reducible] def k0_t4_loop (i : grid0.Coords) : Scf.Loop 32 :=
  let c0_i32_23 : BitVec 32 := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let v44 : BitVec 32 := Scalar.addi c0_i32_23 v43
  let c1_i32_26 : BitVec 32 := 1#32
  ⟨v47, v44, c1_i32_26⟩
def k0_mult14 (i : grid0.Coords) (k0_t4 : Fin (k0_t4_loop i).trips) : BitVec 32 :=
  let c0_i32_23 : BitVec 32 := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg13 : BitVec 32 := Scf.iv v47 c1_i32_26 k0_t4
  let c1024_i32_106 : BitVec 32 := 1024#32
  let v192 : BitVec 32 := Scalar.muli arg13 c1024_i32_106
  v192
def k0_off17 (i : grid0.Coords) (k0_t4 : Fin (k0_t4_loop i).trips) : Fin 2 → Nat :=
  let c0_107 : Index := 0#32
  let c0_i32_23 : BitVec 32 := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg13 : BitVec 32 := Scf.iv v47 c1_i32_26 k0_t4
  let c1024_i32_106 : BitVec 32 := 1024#32
  let v192 : BitVec 32 := Scalar.muli arg13 c1024_i32_106
  let v193 : BitVec 32 := v192
  let v194 : Index := Scalar.indexCast v193
  ![0, v194.toNat]
def k0_off18 (i : grid0.Coords) (k0_t4 : Fin (k0_t4_loop i).trips) : Fin 3 → Nat :=
  let c0_108 : Index := 0#32
  let c0_i32_23 : BitVec 32 := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let v43 : BitVec 32 := Scalar.subi v42 c0_i32_23
  let c1_i32_24 : BitVec 32 := 1#32
  let v45 : BitVec 32 := Scalar.divsi v43 c1_i32_24
  let v46 : BitVec 32 := Scalar.muli v45 c1_i32_24
  let v47 : BitVec 32 := Scalar.addi c0_i32_23 v46
  let c1_i32_26 : BitVec 32 := 1#32
  let arg13 : BitVec 32 := Scf.iv v47 c1_i32_26 k0_t4
  let c1024_i32_106 : BitVec 32 := 1024#32
  let v192 : BitVec 32 := Scalar.muli arg13 c1024_i32_106
  let v193 : BitVec 32 := v192
  let v196 : Index := Scalar.indexCast v193
  let c0_109 : Index := 0#32
  ![0, v196.toNat, 0]
def k0_mult15 (i : grid0.Coords) : BitVec 32 :=
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let c0_i32_27 : BitVec 32 := 0#32
  let v48 : BitVec 32 := Scalar.addi v42 c0_i32_27
  let c1024_i32_28 : BitVec 32 := 1024#32
  let v49 : BitVec 32 := Scalar.muli v48 c1024_i32_28
  v49
def k0_off19 (i : grid0.Coords) : Fin 2 → Nat :=
  let c0_29 : Index := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let c0_i32_27 : BitVec 32 := 0#32
  let v48 : BitVec 32 := Scalar.addi v42 c0_i32_27
  let c1024_i32_28 : BitVec 32 := 1024#32
  let v49 : BitVec 32 := Scalar.muli v48 c1024_i32_28
  let v50 : BitVec 32 := v49
  let v51 : Index := Scalar.indexCast v50
  ![0, v51.toNat]
def k0_off20 (i : grid0.Coords) : Fin 3 → Nat :=
  let c0_30 : Index := 0#32
  let arg1 : BitVec 32 := BitVec.ofNat 32 (i 1).val
  let c1024_i32 : BitVec 32 := 1024#32
  let v25 : BitVec 32 := Scalar.muli arg1 c1024_i32
  let c0_i32_17 : BitVec 32 := 0#32
  let v27 : BitVec 1 := Scalar.cmpi .sgt v25 c0_i32_17
  let v28 : BitVec 32 := Scalar.extui v27
  let c0_i32_18 : BitVec 32 := 0#32
  let v29 : BitVec 1 := Scalar.cmpi .slt v25 c0_i32_18
  let v30 : BitVec 32 := Scalar.extui v29
  let v31 : BitVec 32 := Scalar.subi v28 v30
  let c1024_i32_16 : BitVec 32 := 1024#32
  let c0_i32_19 : BitVec 32 := 0#32
  let v32 : BitVec 1 := Scalar.cmpi .sgt c1024_i32_16 c0_i32_19
  let v33 : BitVec 32 := Scalar.extui v32
  let c0_i32_20 : BitVec 32 := 0#32
  let v34 : BitVec 1 := Scalar.cmpi .slt c1024_i32_16 c0_i32_20
  let v35 : BitVec 32 := Scalar.extui v34
  let v36 : BitVec 32 := Scalar.subi v33 v35
  let v37 : BitVec 1 := Scalar.cmpi .ne v31 v36
  let v38 : BitVec 32 := Scalar.remsi v25 c1024_i32_16
  let c0_i32_21 : BitVec 32 := 0#32
  let v39 : BitVec 1 := Scalar.cmpi .ne v38 c0_i32_21
  let v40 : BitVec 1 := Scalar.andi v37 v39
  let v26 : BitVec 32 := Scalar.divsi v25 c1024_i32_16
  let c1_i32 : BitVec 32 := 1#32
  let v41 : BitVec 32 := Scalar.subi v26 c1_i32
  let v42 : BitVec 32 := Scalar.select v40 v41 v26
  let c0_i32_27 : BitVec 32 := 0#32
  let v48 : BitVec 32 := Scalar.addi v42 c0_i32_27
  let c1024_i32_28 : BitVec 32 := 1024#32
  let v49 : BitVec 32 := Scalar.muli v48 c1024_i32_28
  let v50 : BitVec 32 := v49
  let v53 : Index := Scalar.indexCast v50
  let c0_31 : Index := 0#32
  ![0, v53.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1 : Shape := ⟨1, ![1]⟩
abbrev S512x16384 : Shape := ⟨2, ![512, 16384]⟩
abbrev S4x16384x128 : Shape := ⟨3, ![4, 16384, 128]⟩
abbrev S4x64 : Shape := ⟨2, ![4, 64]⟩
abbrev S128x1 : Shape := ⟨2, ![128, 1]⟩
abbrev S4x2x64x16384 : Shape := ⟨4, ![4, 2, 64, 16384]⟩
abbrev S2x4x16384x64 : Shape := ⟨4, ![2, 4, 16384, 64]⟩
abbrev S4x16384x2x64 : Shape := ⟨4, ![4, 16384, 2, 64]⟩
abbrev S4x128x16384 : Shape := ⟨3, ![4, 128, 16384]⟩
abbrev S2x4x16384x16384 : Shape := ⟨4, ![2, 4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S1x64 : Shape := ⟨2, ![1, 64]⟩
abbrev S64 : Shape := ⟨1, ![64]⟩
abbrev S1x4x16384x16384 : Shape := ⟨4, ![1, 4, 16384, 16384]⟩
abbrev S4x16384x16384 : Shape := ⟨3, ![4, 16384, 16384]⟩
abbrev S128 : Shape := ⟨1, ![128]⟩
abbrev S4x16384 : Shape := ⟨2, ![4, 16384]⟩
abbrev S4x16384x1 : Shape := ⟨3, ![4, 16384, 1]⟩
abbrev S1x1x128 : Shape := ⟨3, ![1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S1, .f32⟩
  | .hbm, ⟨1, _⟩ => ⟨S512x16384, .bf16⟩
  | .hbm, ⟨2, _⟩ => ⟨S4x16384x128, .bf16⟩
  | .hbm, ⟨3, _⟩ => ⟨S512x16384, .bf16⟩
  | .hbm, ⟨4, _⟩ => ⟨S4x64, .f32⟩
  | .hbm, ⟨5, _⟩ => ⟨S128x1, .f32⟩
  | .hbm, ⟨6, _⟩ => ⟨S512x16384, .f32⟩
  | .hbm, ⟨7, _⟩ => ⟨S4x2x64x16384, .f32⟩
  | .hbm, ⟨8, _⟩ => ⟨S2x4x16384x64, .f32⟩
  | .hbm, ⟨9, _⟩ => ⟨S4x16384x128, .f32⟩
  | .hbm, ⟨10, _⟩ => ⟨S4x16384x2x64, .f32⟩
  | .hbm, ⟨11, _⟩ => ⟨S2x4x16384x64, .f32⟩
  | .hbm, ⟨12, _⟩ => ⟨S512x16384, .f32⟩
  | .hbm, ⟨13, _⟩ => ⟨S4x128x16384, .f32⟩
  | .hbm, ⟨14, _⟩ => ⟨S4x16384x128, .f32⟩
  | .hbm, ⟨15, _⟩ => ⟨S2x4x16384x16384, .f32⟩
  | .hbm, ⟨16, _⟩ => ⟨S_, .f32⟩
  | .hbm, ⟨17, _⟩ => ⟨S_, .f32⟩
  | .hbm, ⟨18, _⟩ => ⟨S2x4x16384x16384, .f32⟩
  | .hbm, ⟨19, _⟩ => ⟨S2x4x16384x16384, .f32⟩
  | .hbm, ⟨20, _⟩ => ⟨S16384, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S2x4x16384x16384, .i1⟩
  | .hbm, ⟨29, _⟩ => ⟨S2x4x16384x16384, .f32⟩
  | .hbm, ⟨30, _⟩ => ⟨S2x4x16384x16384, .f32⟩
  | .hbm, ⟨31, _⟩ => ⟨S_, .f32⟩
  | .hbm, ⟨32, _⟩ => ⟨S2x4x16384, .f32⟩
  | .hbm, ⟨33, _⟩ => ⟨S_, .f32⟩
  | .hbm, ⟨34, _⟩ => ⟨S2x4x16384, .f32⟩
  | .hbm, ⟨35, _⟩ => ⟨S2x4x16384, .f32⟩
  | .hbm, ⟨36, _⟩ => ⟨S2x4x16384x1, .f32⟩
  | .hbm, ⟨37, _⟩ => ⟨S2x4x16384x16384, .f32⟩
  | .hbm, ⟨38, _⟩ => ⟨S2x4x16384x16384, .f32⟩
  | .hbm, ⟨39, _⟩ => ⟨S2x4x16384x16384, .f32⟩
  | .hbm, ⟨40, _⟩ => ⟨S_, .f32⟩
  | .hbm, ⟨41, _⟩ => ⟨S2x4x16384, .f32⟩
  | .hbm, ⟨42, _⟩ => ⟨S2x4x16384x1, .f32⟩
  | .hbm, ⟨43, _⟩ => ⟨S2x4x16384x16384, .f32⟩
  | .hbm, ⟨44, _⟩ => ⟨S2x4x16384x16384, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S1x4x16384x16384, .f32⟩
  | .hbm, ⟨65, _⟩ => ⟨S4x16384x16384, .f32⟩
  | .hbm, ⟨66, _⟩ => ⟨S1x4x16384x16384, .f32⟩
  | .hbm, ⟨67, _⟩ => ⟨S4x16384x16384, .f32⟩
  | .hbm, ⟨68, _⟩ => ⟨S4x16384x16384, .f32⟩
  | .hbm, ⟨69, _⟩ => ⟨S4x16384x16384, .f32⟩
  | .hbm, ⟨70, _⟩ => ⟨S4x16384x16384, .f32⟩
  | .hbm, ⟨71, _⟩ => ⟨S4x16384x128, .f32⟩
  | .hbm, ⟨72, _⟩ => ⟨S128, .f32⟩
  | .hbm, ⟨73, _⟩ => ⟨S4x16384x128, .f32⟩
  | .hbm, ⟨74, _⟩ => ⟨S_, .f32⟩
  | .hbm, ⟨75, _⟩ => ⟨S4x16384, .f32⟩
  | .hbm, ⟨76, _⟩ => ⟨S4x16384x1, .f32⟩
  | .hbm, ⟨77, _⟩ => ⟨S_, .f32⟩
  | .hbm, ⟨78, _⟩ => ⟨S4x16384x1, .f32⟩
  | .hbm, ⟨79, _⟩ => ⟨S4x16384x1, .f32⟩
  | .hbm, ⟨80, _⟩ => ⟨S_, .f32⟩
  | .hbm, ⟨81, _⟩ => ⟨S4x16384x1, .f32⟩
  | .hbm, ⟨82, _⟩ => ⟨S4x16384x1, .f32⟩
  | .hbm, ⟨83, _⟩ => ⟨S4x16384x1, .f32⟩
  | .hbm, ⟨84, _⟩ => ⟨S4x16384x128, .f32⟩
  | .hbm, ⟨85, _⟩ => ⟨S4x16384x128, .f32⟩
  | .hbm, ⟨86, _⟩ => ⟨S1x1x128, .f32⟩
  | .hbm, ⟨87, _⟩ => ⟨S4x16384x128, .f32⟩
  | .hbm, ⟨88, _⟩ => ⟨S4x16384x128, .f32⟩
  | .hbm, ⟨89, _⟩ => ⟨S_, .f32⟩
  | .hbm, ⟨90, _⟩ => ⟨S4x16384x128, .f32⟩
  | .hbm, ⟨91, _⟩ => ⟨S4x16384x128, .f32⟩
  | .hbm, ⟨92, _⟩ => ⟨S4x128x16384, .f32⟩
  | .hbm, ⟨93, _⟩ => ⟨S512x16384, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Kernel2.lean ====
abbrev S16384x1024 : Shape := ⟨2, ![16384, 1024]⟩
abbrev S8x128x8192 : Shape := ⟨3, ![8, 128, 8192]⟩
abbrev S8x128x2048 : Shape := ⟨3, ![8, 128, 2048]⟩
abbrev S512x16384 : Shape := ⟨2, ![512, 16384]⟩
abbrev S1024x1024 : Shape := ⟨2, ![1024, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S128x512 : Shape := ⟨2, ![128, 512]⟩
abbrev S_ : Shape := ⟨0, ![]⟩
abbrev S1x1024 : Shape := ⟨2, ![1, 1024]⟩
abbrev S1x2048 : Shape := ⟨2, ![1, 2048]⟩
abbrev S8x128x1 : Shape := ⟨3, ![8, 128, 1]⟩
abbrev S512x1024 : Shape := ⟨2, ![512, 1024]⟩
abbrev S1x32x8192 : Shape := ⟨3, ![1, 32, 8192]⟩
abbrev S1x32x2048 : Shape := ⟨3, ![1, 32, 2048]⟩
abbrev S512x512 : Shape := ⟨2, ![512, 512]⟩
abbrev S5x512x128 : Shape := ⟨3, ![5, 512, 128]⟩
abbrev S1x32x128 : Shape := ⟨3, ![1, 32, 128]⟩
abbrev S32x128 : Shape := ⟨2, ![32, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x256 : Shape := ⟨2, ![128, 256]⟩
abbrev S512x256 : Shape := ⟨2, ![512, 256]⟩

abbrev nBuf : Space → Nat
  | .hbm => 28
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S8x128x8192, .f32⟩
  | .hbm, ⟨2, _⟩ => ⟨S8x128x2048, .f32⟩
  | .hbm, ⟨3, _⟩ => ⟨S512x16384, .f32⟩
  | .hbm, ⟨4, _⟩ => ⟨S16384x1024, .f32⟩
  | .hbm, ⟨5, _⟩ => ⟨S1024x1024, .bf16⟩
  | .hbm, ⟨6, _⟩ => ⟨S1024, .f32⟩
  | .hbm, ⟨7, _⟩ => ⟨S1024x6144, .bf16⟩
  | .hbm, ⟨8, _⟩ => ⟨S2048, .f32⟩
  | .hbm, ⟨9, _⟩ => ⟨S2048, .f32⟩
  | .hbm, ⟨10, _⟩ => ⟨S8x128x128, .f32⟩
  | .hbm, ⟨11, _⟩ => ⟨S8x128, .f32⟩
  | .hbm, ⟨12, _⟩ => ⟨S2048x1024, .bf16⟩
  | .hbm, ⟨13, _⟩ => ⟨S128x512, .i32⟩
  | .hbm, ⟨14, _⟩ => ⟨S128x512, .i32⟩
  | .hbm, ⟨15, _⟩ => ⟨S_, .i32⟩
  | .hbm, ⟨16, _⟩ => ⟨S128x512, .i32⟩
  | .hbm, ⟨17, _⟩ => ⟨S128x512, .i32⟩
  | .hbm, ⟨18, _⟩ => ⟨S_, .i32⟩
  | .hbm, ⟨19, _⟩ => ⟨S128x512, .i32⟩
  | .hbm, ⟨20, _⟩ => ⟨S128x512, .i32⟩
  | .hbm, ⟨21, _⟩ => ⟨S128x512, .i1⟩
  | .hbm, ⟨22, _⟩ => ⟨S128x512, .bf16⟩
  | .hbm, ⟨23, _⟩ => ⟨S1x1024, .f32⟩
  | .hbm, ⟨24, _⟩ => ⟨S1x2048, .f32⟩
  | .hbm, ⟨25, _⟩ => ⟨S1x2048, .f32⟩
  | .hbm, ⟨26, _⟩ => ⟨S8x128x1, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x32x8192, .f32⟩
  | .local _ .vmem, ⟨3, _⟩ => ⟨S1x32x8192, .f32⟩
  | .local _ .vmem, ⟨4, _⟩ => ⟨S1x32x2048, .f32⟩
  | .local _ .vmem, ⟨5, _⟩ => ⟨S1x32x2048, .f32⟩
  | .local _ .vmem, ⟨6, _⟩ => ⟨S128x512, .bf16⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1x1024, .f32⟩
  | .local _ .vmem, ⟨13, _⟩ => ⟨S1024x6144, .bf16⟩
  | .local _ .vmem, ⟨14, _⟩ => ⟨S1x2048, .f32⟩
  | .local _ .vmem, ⟨15, _⟩ => ⟨S1x2048, .f32⟩
  | .local _ .vmem, ⟨16, _⟩ => ⟨S8x128x128, .f32⟩
  | .local _ .vmem, ⟨17, _⟩ => ⟨S8x128x1, .f32⟩
  | .local _ .vmem, ⟨18, _⟩ => ⟨S2048x1024, .bf16⟩
  | .local _ .vmem, ⟨19, _⟩ => ⟨S512x1024, .f32⟩
  | .local _ .vmem, ⟨20, _⟩ => ⟨S512x1024, .f32⟩
  | .local _ .vmem, ⟨21, _⟩ => ⟨S5x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S8x128x8192 : Shape := ⟨3, ![8, 128, 8192]⟩
abbrev S8x128x2048 : Shape := ⟨3, ![8, 128, 2048]⟩
abbrev S512x16384 : Shape := ⟨2, ![512, 16384]⟩
abbrev S1024x1024 : Shape := ⟨2, ![1024, 1024]⟩
abbrev S1024 : Shape := ⟨1, ![1024]⟩
abbrev S1024x6144 : Shape := ⟨2, ![1024, 6144]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S16384x8x64 : Shape := ⟨3, ![16384, 8, 64]⟩
abbrev S16384x8x16 : Shape := ⟨3, ![16384, 8, 16]⟩
abbrev S16384x8x1 : Shape := ⟨3, ![16384, 8, 1]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩
abbrev S16384x2048 : Shape := ⟨2, ![16384, 2048]⟩
abbrev S1x2048 : Shape := ⟨2, ![1, 2048]⟩
abbrev S128x128x8x256 : Shape := ⟨4, ![128, 128, 8, 256]⟩
abbrev S128x128 : Shape := ⟨2, ![128, 128]⟩
abbrev S1x128x128 : Shape := ⟨3, ![1, 128, 128]⟩
abbrev S8x128x256x128 : Shape := ⟨4, ![8, 128, 256, 128]⟩
abbrev S128x8 : Shape := ⟨2, ![128, 8]⟩
abbrev S1x128x8x1 : Shape := ⟨4, ![1, 128, 8, 1]⟩

abbrev nBuf : Space → Nat
  | .hbm => 139
  | .vmem => 0
  | .smem => 0
  | _ => 0

abbrev hbmTy0_0 (i : Nat) : BufTy := match i % 128 with
  | 0 => ⟨S16384x1024, .f32⟩
  | 1 => ⟨S8x128x8192, .f32⟩
  | 2 => ⟨S8x128x2048, .f32⟩
  | 3 => ⟨S512x16384, .f32⟩
  | 4 => ⟨S16384x1024, .f32⟩
  | 5 => ⟨S1024x1024, .bf16⟩
  | 6 => ⟨S1024, .f32⟩
  | 7 => ⟨S1024x6144, .bf16⟩
  | 8 => ⟨S2048, .f32⟩
  | 9 => ⟨S2048, .f32⟩
  | 10 => ⟨S8x128x128, .f32⟩
  | 11 => ⟨S8x128, .f32⟩
  | 12 => ⟨S2048x1024, .bf16⟩
  | 13 => ⟨S16384x8x64, .f32⟩
  | 14 => ⟨S16384x8x16, .f32⟩
  | 15 => ⟨S16384x8x1, .f32⟩
  | 16 => ⟨S16384x8x64, .f32⟩
  | 17 => ⟨S16384x8x64, .f32⟩
  | 18 => ⟨S16384x512, .f32⟩
  | 19 => ⟨S16384x512, .f32⟩
  | 20 => ⟨S16384x1024, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S16384x1024, .f32⟩
  | 31 => ⟨S1024x1024, .f32⟩
  | 32 => ⟨S16384x1024, .f32⟩
  | 33 => ⟨S16384x1024, .f32⟩
  | 34 => ⟨S16384x1024, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1, .f32⟩
  | 45 => ⟨S16384x1024, .f32⟩
  | 46 => ⟨S16384x1024, .f32⟩
  | 47 => ⟨S1x1024, .f32⟩
  | 48 => ⟨S16384x1024, .f32⟩
  | 49 => ⟨S16384x1024, .f32⟩
  | 50 => ⟨S1024x6144, .f32⟩
  | 51 => ⟨S16384x6144, .f32⟩
  | 52 => ⟨S16384x2048, .f32⟩
  | 53 => ⟨S16384x2048, .f32⟩
  | 54 => ⟨S16384x2048, .f32⟩
  | 55 => ⟨S_, .f32⟩
  | 56 => ⟨S16384x2048, .f32⟩
  | 57 => ⟨S16384x2048, .f32⟩
  | 58 => ⟨S16384x2048, .f32⟩
  | 59 => ⟨S_, .f32⟩
  | 60 => ⟨S16384x2048, .f32⟩
  | 61 => ⟨S16384x2048, .f32⟩
  | 62 => ⟨S16384x2048, .f32⟩
  | 63 => ⟨S16384x2048, .f32⟩
  | 64 => ⟨S_, .f32⟩
  | 65 => ⟨S16384x2048, .f32⟩
  | 66 => ⟨S16384x2048, .f32⟩
  | 67 => ⟨S16384x2048, .f32⟩
  | 68 => ⟨S_, .f32⟩
  | 69 => ⟨S16384x2048, .f32⟩
  | 70 => ⟨S16384x2048, .f32⟩
  | 71 => ⟨S16384x2048, .f32⟩
  | 72 => ⟨S16384x2048, .f32⟩
  | 73 => ⟨S_, .f32⟩
  | 74 => ⟨S16384, .f32⟩
  | 75 => ⟨S16384x1, .f32⟩
  | 76 => ⟨S_, .f32⟩
  | 77 => ⟨S16384x1, .f32⟩
  | 78 => ⟨S16384x1, .f32⟩
  | 79 => ⟨S16384x2048, .f32⟩
  | 80 => ⟨S16384x2048, .f32⟩
  | 81 => ⟨S16384x2048, .f32⟩
  | 82 => ⟨S_, .f32⟩
  | 83 => ⟨S16384, .f32⟩
  | 84 => ⟨S16384x1, .f32⟩
  | 85 => ⟨S_, .f32⟩
  | 86 => ⟨S16384x1, .f32⟩
  | 87 => ⟨S16384x1, .f32⟩
  | 88 => ⟨S_, .f32⟩
  | 89 => ⟨S16384x1, .f32⟩
  | 90 => ⟨S16384x1, .f32⟩
  | 91 => ⟨S16384x1, .f32⟩
  | 92 => ⟨S16384x2048, .f32⟩
  | 93 => ⟨S16384x2048, .f32⟩
  | 94 => ⟨S1x2048, .f32⟩
  | 95 => ⟨S16384x2048, .f32⟩
  | 96 => ⟨S16384x2048, .f32⟩
  | 97 => ⟨S1x2048, .f32⟩
  | 98 => ⟨S16384x2048, .f32⟩
  | 99 => ⟨S16384x2048, .f32⟩
  | 100 => ⟨S128x128x8x256, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .i32⟩
  | 114 => ⟨S_, .f32⟩
  | 115 => ⟨S8x128x128, .i1⟩
  | 116 => ⟨S8x128x128, .f32⟩
  | 117 => ⟨S8x128x128, .f32⟩
  | 118 => ⟨S8x128x256x128, .f32⟩
  | 119 => ⟨S128x128x8x256, .f32⟩
  | 120 => ⟨S128x8, .f32⟩
  | 121 => ⟨S1x128x8x1, .f32⟩
  | 122 => ⟨S128x128x8x256, .f32⟩
  | 123 => ⟨S128x128x8x256, .f32⟩
  | 124 => ⟨S16384x2048, .f32⟩
  | 125 => ⟨S16384x2048, .f32⟩
  | 126 => ⟨S16384x2048, .f32⟩
  | 127 => ⟨S16384x2048, .f32⟩
  | _ => ⟨S16384x1024, .f32⟩

abbrev hbmTy0_1 (i : Nat) : BufTy := match i % 128 with
  | 0 => ⟨S_, .f32⟩
  | 1 => ⟨S16384x2048, .f32⟩
  | 2 => ⟨S16384x2048, .f32⟩
  | 3 => ⟨S_, .f32⟩
  | 4 => ⟨S16384x2048, .f32⟩
  | 5 => ⟨S16384x2048, .f32⟩
  | 6 => ⟨S16384x2048, .f32⟩
  | 7 => ⟨S16384x2048, .f32⟩
  | 8 => ⟨S2048x1024, .f32⟩
  | 9 => ⟨S16384x1024, .f32⟩
  | 10 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c : Ref sig .tc := ⟨.hbm, 101, rfl⟩
abbrev main_v68 : Ref sig .tc := ⟨.hbm, 102, rfl⟩
abbrev main_call1_v0 : Ref sig .tc := ⟨.hbm, 103, rfl⟩
abbrev main_call1_c : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_c_0 : Ref sig .tc := ⟨.hbm, 109, rfl⟩
abbrev main_call1_v5 : Ref sig .tc := ⟨.hbm, 110, rfl⟩
abbrev main_v69 : Ref sig .tc := ⟨.hbm, 111, rfl⟩
abbrev main_v70 : Ref sig .tc := ⟨.hbm, 112, rfl⟩
abbrev main_c_11 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call3_v0 : Ref sig .tc := ⟨.hbm, 126, rfl⟩
abbrev main_call3_v1 : Ref sig .tc := ⟨.hbm, 127, rfl⟩
abbrev main_call3_cst : Ref sig .tc := ⟨.hbm, 128, rfl⟩
abbrev main_call3_v2 : Ref sig .tc := ⟨.hbm, 129, rfl⟩
abbrev main_call3_v3 : Ref sig .tc := ⟨.hbm, 130, rfl⟩
abbrev main_call3_cst_0 : Ref sig .tc := ⟨.hbm, 131, rfl⟩
abbrev main_call3_v4 : Ref sig .tc := ⟨.hbm, 132, rfl⟩
abbrev main_call3_v5 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩

abbrev nD : Nat := 1
abbrev τ : Topo := Topo.v7x

variable {F : FTy → Type} [FloatOps F]
-- ==== Proof.Bits.Body.lean ====
/-
  The kernel over bit patterns: its body runs from any contents of its buffers, changing only the output's buffer and the
  scratch buffers.  Nothing is said of what they end at.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Frame
public import Idealize.ShloMosaic.Lib.VecWindow
public import Idealize.ShloMosaic.Lib.Pipeline.FrameBody

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The pipeline library's resource algebra. -/
local notation "𝕄" => MT nD τ sig Unit (Elt F) ℕ (UR sig nD τ) ℕ

/-- Memref `M`'s buffer on core `c` held whole at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

variable (𝒱 : Variants) (c : Dev nD) (bd : Option 𝒱.V) (E : Set ℕ) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole)

/-- The branch is taken when its bit is set. -/
theorem taken (b : BitVec 1) (h : b = 1#1) : Scalar.cmpi .ne (Scalar.extui b : BitVec 32) 0#32 = 1#1 := by subst h; decide
/-- The other branch is not taken when the bit is set. -/
theorem not_taken (b : BitVec 1) (h : b = 1#1) : ¬ Scalar.cmpi .ne (Scalar.extui (Scalar.xori b 1#1) : BitVec 32) 0#32 = 1#1 := by subst h; decide
/-- The branch is not taken when its bit is clear. -/
theorem not_taken' (b : BitVec 1) (h : ¬ b = 1#1) : ¬ Scalar.cmpi .ne (Scalar.extui b : BitVec 32) 0#32 = 1#1 := by
  have : b = 0#1 := by revert h; revert b; decide
  subst this; decide
/-- The other branch is taken when the bit is clear. -/
theorem taken' (b : BitVec 1) (h : ¬ b = 1#1) : Scalar.cmpi .ne (Scalar.extui (Scalar.xori b 1#1) : BitVec 32) 0#32 = 1#1 := by
  have : b = 0#1 := by revert h; revert b; decide
  subst this; decide

/-- The only position of the bound's array. -/
abbrev only : S1.Idx := fun _ => ⟨0, by rename_i a; revert a; decide⟩

/-- Reading the bound's array at any position reads its only element. -/
theorem readAt_only (v : View sig .tc .smem S1 .f32) (f : v.ty.Contents (Elt F)) (x : S1.Idx) :
    v.readAt (Elt F) (Rect.unit (s := S1) ![0] S1.size inb_S1_S1_0).toLoadRect f x = v.read (Elt F) f only := by
  have h : v.readAt (Elt F) (Rect.unit (s := S1) ![0] S1.size inb_S1_S1_0).toLoadRect f = v.read (Elt F) f := View.readAt_full _ _ _
  refine (congrFun h x).trans (congrArg _ ?_)
  funext a
  match a with
  | ⟨0, _⟩ => exact Subsingleton.elim (α := Fin 1) _ _

/-- The two chunks after the walk in fours run from any contents. -/
theorem part15_runs (q0 q1 : FVec F S128x1024 .bf16) (v21 : BitVec 32) (f4 : BufTy.Contents (Elt F) arg4.view.ty) (f5 : BufTy.Contents (Elt F) arg5.view.ty) (f11 : BufTy.Contents (Elt F) arg11.view.ty) (f12 : BufTy.Contents (Elt F) arg12.view.ty) (h2 : k0_cond2 i = 1#1) :
    iprop(pt c arg4 f4 ∗ pt c arg5 f5 ∗ pt c arg11 f11 ∗ pt c arg12 f12)
    ⊢ wp frame (wpE (defs₀ (F := F)) 𝒱 (c : Thread nD τ) bd) E
        (k0_part15 (F := F) i arg2 harg2 arg3 harg3 arg4 harg4 arg5 harg5 arg6 harg6 arg7 harg7 arg8 harg8 arg9 harg9 arg10 harg10 arg11 harg11 arg12 harg12 q0 q1 v21 h2)
        (fun _ => iprop(pt c arg4 f4 ∗ pt c arg5 f5
          ∗ ∃ f11' f12' , pt c arg11 f11' ∗ pt c arg12 f12')) := by
  rw [k0_part15_eq_skeleton]; unfold k0_part15_skel
  iintro ⟨H4, H5, H11, H12⟩
  sl_exec
  sl_step
  isplitl [H4]; · iexact H4
  isplitl [H5]; · iexact H5
  iexists _; iexists _
  isplitl [H11]; · iexact H11
  iexact H12

/-- The walk over the unmasked chunks runs from any contents. -/
theorem part17_runs (arg1 : BitVec 32) (f3 : BufTy.Contents (Elt F) arg3.view.ty) (f4 : BufTy.Contents (Elt F) arg4.view.ty) (f5 : BufTy.Contents (Elt F) arg5.view.ty) (f11 : BufTy.Contents (Elt F) arg11.view.ty) (f12 : BufTy.Contents (Elt F) arg12.view.ty) :
    iprop(pt c arg3 f3 ∗ pt c arg4 f4 ∗ pt c arg5 f5 ∗ pt c arg11 f11 ∗ pt c arg12 f12)
    ⊢ wp frame (wpE (defs₀ (F := F)) 𝒱 (c : Thread nD τ) bd) E
        (k0_part17 (F := F) i arg2 harg2 arg3 harg3 arg4 harg4 arg5 harg5 arg6 harg6 arg7 harg7 arg8 harg8 arg9 harg9 arg10 harg10 arg11 harg11 arg12 harg12 arg1)
        (fun _ => iprop(pt c arg3 f3 ∗ pt c arg4 f4 ∗ pt c arg5 f5
          ∗ ∃ f11' f12' , pt c arg11 f11' ∗ pt c arg12 f12')) := by
  rw [k0_part17_eq_skeleton]; unfold k0_part17_skel
  have cut := fun (q0 q1 : FVec F S128x1024 .bf16) (g11 : BufTy.Contents (Elt F) arg11.view.ty) (g12 : BufTy.Contents (Elt F) arg12.view.ty) (h2 : k0_cond2 i = 1#1) =>
    part15_runs 𝒱 c bd E i arg2 harg2 arg3 harg3 arg4 harg4 arg5 harg5 arg6 harg6 arg7 harg7 arg8 harg8 arg9 harg9 arg10 harg10 arg11 harg11 arg12 harg12 q0 q1 (Scalar.shrui arg1 2#32) f4 f5 g11 g12 h2
  by_cases h2 : k0_cond2 i = 1#1 <;> by_cases h3 : k0_cond3 i = 1#1
  · iintro ⟨H3, H4, H5, H11, H12⟩
    sl_exec (disch := first | sl_exact h2 | sl_exact h3)
    sl_step
    isplitl [H3]; · iexact H3
    isplitl [Hk0_part15_0]; · iexact Hk0_part15_0
    isplitl [Hk0_part15_1]; · iexact Hk0_part15_1
    iexists _; iexists _
    isplitl [Hk0_part15_2]; · iexact Hk0_part15_2
    iexact Hk0_part15_3
  · iintro ⟨H3, H4, H5, H11, H12⟩
    sl_exec (disch := first | sl_exact h2 | sl_exact h3)
    sl_step
    isplitl [H3]; · iexact H3
    isplitl [Hk0_part15_0]; · iexact Hk0_part15_0
    isplitl [Hk0_part15_1]; · iexact Hk0_part15_1
    iexists _; iexists _
    isplitl [Hk0_part15_2]; · iexact Hk0_part15_2
    iexact Hk0_part15_3
  · iintro ⟨H3, H4, H5, H11, H12⟩
    sl_exec (disch := first | sl_exact h2 | sl_exact h3)
    sl_step
    isplitl [H3]; · iexact H3
    isplitl [H4]; · iexact H4
    isplitl [H5]; · iexact H5
    iexists _; iexists _
    isplitl [H11]; · iexact H11
    iexact H12
  · iintro ⟨H3, H4, H5, H11, H12⟩
    sl_exec (disch := first | sl_exact h2 | sl_exact h3)
    sl_step
    isplitl [H3]; · iexact H3
    isplitl [H4]; · iexact H4
    isplitl [H5]; · iexact H5
    iexists _; iexists _
    isplitl [H11]; · iexact H11
    iexact H12

/-- The body runs from any contents, and leaves its operands' buffers as they were. -/
theorem body_runs (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱 (c : Thread nD τ) bd) E
        (cc0_diff_attention (F := F) i arg2 harg2 arg3 harg3 arg4 harg4 arg5 harg5 arg6 harg6 arg7 harg7 arg8 harg8 arg9 harg9 arg10 harg10 arg11 harg11 arg12 harg12)
        (fun _ => iprop(pt c arg2 f2 ∗ pt c arg3 f3 ∗ pt c arg4 f4 ∗ pt c arg5 f5 ∗ pt c arg6 f6 ∗ pt c arg7 f7
          ∗ ∃ f8' f9' f10' f11' f12' , pt c arg8 f8' ∗ pt c arg9 f9' ∗ pt c arg10 f10' ∗ pt c arg11 f11' ∗ pt c arg12 f12')) := by
  rw [cc0_diff_attention_eq_skeleton]; unfold cc0_diff_attention_skel
  have cut := fun (g11 : BufTy.Contents (Elt F) arg11.view.ty) (g12 : BufTy.Contents (Elt F) arg12.view.ty) =>
    part17_runs 𝒱 c bd E i arg2 harg2 arg3 harg3 arg4 harg4 arg5 harg5 arg6 harg6 arg7 harg7 arg8 harg8 arg9 harg9 arg10 harg10 arg11 harg11 arg12 harg12 (BitVec.ofNat 32 (i 1).val) f3 f4 f5 g11 g12
  by_cases hb : Scalar.cmpf .ole (arg2.view.read (Elt F) f2 only) (Scalar.ofBits (F := F) .f32 0x42C00000#32) = 1#1
  · iintro ⟨H2, H3, H4, H5, H6, H7, H8, H9, H10, H11, H12⟩
    sl_exec
    have hb' : body_runs.sl.v1 arg2 f2 = 1#1 :=
      (congrArg (fun r => Scalar.cmpf .ole r (Scalar.ofBits (F := F) .f32 0x42C00000#32)) (readAt_only arg2.view f2 _)).trans hb
    have hv3 : body_runs.sl.v3 arg2 f2 = 1#1 := taken _ hb'
    sl_exec
    have hv6 : ¬ body_runs.sl.v6 arg2 f2 = 1#1 := not_taken _ hb'
    sl_exec
    sl_step
    isplitl [H2]; · iexact H2
    isplitl [Hk0_part17_0]; · iexact Hk0_part17_0
    isplitl [Hk0_part17_1]; · iexact Hk0_part17_1
    isplitl [Hk0_part17_2]; · iexact Hk0_part17_2
    isplitl [H6]; · iexact H6
    isplitl [H7]; · iexact H7
    iexists _; iexists _; iexists _; iexists _; iexists _
    isplitl [H8]; · iexact H8
    isplitl [H9]; · iexact H9
    isplitl [H10]; · iexact H10
    isplitl [Hk0_part17_3]; · iexact Hk0_part17_3
    iexact Hk0_part17_4
  · iintro ⟨H2, H3, H4, H5, H6, H7, H8, H9, H10, H11, H12⟩
    sl_exec
    have hb' : ¬ body_runs.sl.v1_1 arg2 f2 = 1#1 := fun h => hb
      ((congrArg (fun r => Scalar.cmpf .ole r (Scalar.ofBits (F := F) .f32 0x42C00000#32)) (readAt_only arg2.view f2 _)).symm.trans h)
    have hv3 : ¬ body_runs.sl.v3_1 arg2 f2 = 1#1 := not_taken' _ hb'
    sl_exec
    have hv6 : body_runs.sl.v6_1 arg2 f2 = 1#1 := taken' _ hb'
    sl_exec
    sl_step
    isplitl [H2]; · iexact H2
    isplitl [H3]; · iexact H3
    isplitl [H4]; · iexact H4
    isplitl [H5]; · iexact H5
    isplitl [H6]; · iexact H6
    isplitl [H7]; · iexact H7
    iexists _; iexists _; iexists _; iexists _; iexists _
    isplitl [H8]; · iexact H8
    isplitl [H9]; · iexact H9
    isplitl [H10]; · iexact H10
    isplitl [H11]; · iexact H11
    iexact H12

end Cert.Kernel.Hand

end
-- ==== Proof.Bits.Frame.lean ====
/-
  The frame of the kernel over bit patterns: every launch ends, with the arguments unchanged and every counter at zero.
-/
module

public import proofs.«01_k».proof.Proof.Bits.Body
public import Idealize.ShloMosaic.Lib.LoopRemainder

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The pipeline library's resource algebra. -/
local notation "𝕄" => MT nD τ sig Unit (Elt F) ℕ (UR sig nD τ) ℕ

variable (m : (ℓ : Loc nD τ sig) → Buf (Elt F) ℓ) (ρ : Dev nD → PrngReg)

/-- The pipeline's proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Scalar.ofBits (F := F) .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
/-- The output window, of whose contents nothing is said. -/
abbrev output (w : Fin cfg0.W) : Bool := w == 6

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

/-- A whole scratch buffer, through its memref or by its location. -/
theorem scratch_eq (c : Dev nD) (b : Ref sig .tc) (f : Buf (Elt F) ((c : Thread nD τ).loc b)) :
    ((c : Thread nD τ).loc b ↦{fullShare} f : sProp 𝕄) = pt c (Memref.whole b) f := by
  unfold pt; rw [show (Memref.whole b).view.set = Finset.univ from View.set_whole b]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl]
  simp only [before_0, after_0, before_1, after_1, before_2, after_2, before_3, after_3, before_4, after_4, before_5, after_5]
  unfold Pipeline.ΦA
  rw [scopedRest0_eq]
  simp only [scratch_eq]
  unfold Dat.owesAt Pipeline.owesWithin
  rw [show (dats m 0 c).owed t.castSucc = 0 from rfl, show (dats m 0 c).owed t.succ = 0 from rfl]
  unfold owns
  iintro ⟨⟨⟨⟨%g9, S9⟩, ⟨%g10, S10⟩, ⟨%g11, S11⟩, ⟨%g12, S12⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (wp_wand_r Idealize.ShloMosaic.frame (wpE (defs₀ (F := F)) Variants.none (c : Thread nD τ) none) Set.univ)
  isplitl [H0 H1 H2 H3 H4 H5 H6 S9 S10 S11 S12]
  · iapply body_runs Variants.none c none Set.univ (grid0.coords t) (st0_0 t) _ (st0_1 t) _ (st0_2 t) _ (st0_3 t) _ (st0_4 t) _ (st0_5 t) _ (st0_6 t) _ (Memref.whole cc0_scratch0) _ (Memref.whole cc0_scratch1) _ (Memref.whole cc0_scratch2) _ (Memref.whole cc0_scratch3) _ f0 f1 f2 f3 f4 f5 f6 g9 g10 g11 g12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S9]; · iexact S9
    isplitl [S10]; · iexact S10
    isplitl [S11]; · iexact S11
    iexact S12
  iintro %_ ⟨H0, H1, H2, H3, H4, H5, %f8', %f9', %f10', %f11', %f12', H6, S9, S10, S11, S12⟩
  isplitl [S9 S10 S11 S12 Hg]
  · isplitl [S9 S10 S11 S12]
    · isplitl [S9]; · iexists _; iexact S9
      isplitl [S10]; · iexists _; iexact S10
      isplitl [S11]; · iexists _; iexact S11
      iexists _; iexact S12
    iexact Hg
  isplitl [HW]; · iexact HW
  isplitl [H0]
  · iexists _; isplitr; swap
    · iexact H0
    ipureintro; exact e0
  isplitl [H1]
  · iexists _; isplitr; swap
    · iexact H1
    ipureintro; exact e1
  isplitl [H2]
  · iexists _; isplitr; swap
    · iexact H2
    ipureintro; exact e2
  isplitl [H3]
  · iexists _; isplitr; swap
    · iexact H3
    ipureintro; exact e3
  isplitl [H4]
  · iexists _; isplitr; swap
    · iexact H4
    ipureintro; exact e4
  isplitl [H5]
  · iexists _; isplitr; swap
    · iexact H5
    ipureintro; exact e5
  iexists _; iexists _; isplitr; swap
  · iexact H6
  ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ output := fun t => by
  rw [bigSep_W0, bigSep_W0, defs₀_row]
  exact triple_restated (sound_body m c t) rfl .rfl fun _ => .rfl

set_option backward.isDefEq.respectTransparency.types false in
/-- The run: the arrays end as the pipeline's data say and every semaphore counter ends at zero. -/
theorem run_main : θ_run defs (onTc (τ := τ) (main (F := F))) (s₀ m ρ) (fun r => Pipeline.RDat.FramePost cfg0 (fun c => (dats m 0 c).toRForget output) (V m) r ∧ r.2.sem = fun _ => 0) :=
  Pipeline.θ_run_frame_forget (Q' := _) cfgs (dats m) (0 : Fin 1) launch0 defs₀ Variants.none output m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c))⟩, h.2⟩) (run_main m ρ)

end Cert.Kernel.Hand

end
-- ==== Proof.Hand.Model.lean ====
/-
  What the two-component causal attention kernel keeps while it walks the key chunks, as plain functions of the
  blocks it reads: the state after `k` chunks of the branch without a running maximum, and how a state is read off
  the two scratch buffers.
-/
module

public import proofs.«01_k».proof.Proof.Gen.KernelIdeal.Loops
public import Idealize.ShloMosaic.Lib.VecWindow
public import Idealize.ShloMosaic.Lib.Pipeline.FrameBody

@[expose] public section

noncomputable section

namespace Cert.KernelIdeal.Hand

open Cert.KernelIdeal Cert.KernelIdeal.Gen
open Idealize.ShloMosaic

variable {F : FTy → Type} [FloatOps F] [Named F]

/-! ## Reading a rectangle after writes -/

section Pieces
variable {sig : RefSig} {κ : Kind} {sp : Space} {s : Shape} {e : EltTy} {Val : EltTy → Type}

/-- A load of the rectangle just stored reads the payload. -/
theorem readAt_hit (v : View sig κ sp s e) (f : v.ty.Contents Val) {off size : Fin s.rank → ℕ} (inb : ∀ a, off a + size a ≤ s.size a)
    (w : (Rect.unit off size inb).shape.Idx → Val e) (L : List (View.Piece Val s e)) :
    v.readAt Val (Rect.unit off size inb).toLoadRect (v.writes Val f (⟨Rect.unit off size inb, w⟩ :: L)) = w := by
  funext x
  rw [View.readAt_apply]
  exact View.read_writes_cons_unit_of_mem v f inb w L _ x rfl (fun a => by
    show off a + 1 * (x a).val = off a + (x a).val
    rw [Nat.one_mul])

/-- A load of a rectangle apart, on one axis, from the one just stored reads what was there before. -/
theorem readAt_miss (v : View sig κ sp s e) (f : v.ty.Contents Val) {off size off' size' : Fin s.rank → ℕ} (inb : ∀ a, off a + size a ≤ s.size a)
    (inb' : ∀ a, off' a + size' a ≤ s.size a)
    (w : (Rect.unit off size inb).shape.Idx → Val e) (L : List (View.Piece Val s e)) (a : Fin s.rank)
    (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  funext x
  rw [View.readAt_apply, View.readAt_apply]
  refine View.read_writes_cons_unit_of_not_mem v f inb w L _ rfl a ?_
  have hx : (x a).val < size' a := (x a).isLt
  have he : ((Rect.unit off' size' inb').toLoadRect.idx x a).val = off' a + (x a).val := by
    show off' a + 1 * (x a).val = off' a + (x a).val
    rw [Nat.one_mul]
  rw [he]; omega

end Pieces

/-! ## The state of the branch without a running maximum -/

/-- The two components' partial sums (eight sub-rows of weights, and the weighted values). -/
structure St (F : FTy → Type) [FloatOps F] where
  l0 : Vec F S1x8x1024 .f32
  l1 : Vec F S1x8x1024 .f32
  a0 : Vec F S1x128x1024 .f32
  a1 : Vec F S1x128x1024 .f32

/-- Key chunk `k` of a head's keys. -/
def kchunk (X : Vec F S1x16384x128 .bf16) (k : ℕ) (h : k < 16) : Vec F S1x1024x128 .bf16 :=
  View.ld X (Rect.unit (s := S1x16384x128) ![0, 1024 * k, 0] S1x1024x128.size (fun a => by fin_cases a <;> simp <;> omega))

/-- Value chunk `k` of a head's values. -/
def vchunk (X : Vec F S128x16384 .bf16) (k : ℕ) (h : k < 16) : Vec F S128x1024 .bf16 :=
  View.ld X (Rect.unit (s := S128x16384) ![0, 1024 * k] S128x1024.size (fun a => by fin_cases a <;> simp <;> omega))

/-- One chunk of 1024 keys, every query attending to all of them. -/
def St.step (q : Vec F S128x1024 .bf16) (kb : Vec F S1x1024x128 .bf16) (vb : Vec F S128x1024 .bf16) (s : St F) : St F where
  l0 := k0_pay4 (k0_pay73 q) kb s.l0
  l1 := k0_pay4 (k0_pay74 q) kb s.l1
  a0 := k0_pay5 (k0_pay73 q) vb kb s.a0
  a1 := k0_pay5 (k0_pay74 q) vb kb s.a1

/-- The state before the first chunk: zeros. -/
def St.init : St F where
  l0 := View.ld (k0_pay75 (F := F)) (Rect.unit (s := S2x8x1024) ![0, 0, 0] S1x8x1024.size inb_S2x8x1024_S1x8x1024_0_0_0)
  l1 := View.ld (k0_pay75 (F := F)) (Rect.unit (s := S2x8x1024) ![1, 0, 0] S1x8x1024.size inb_S2x8x1024_S1x8x1024_1_0_0)
  a0 := View.ld (k0_pay76 (F := F)) (Rect.unit (s := S2x128x1024) ![0, 0, 0] S1x128x1024.size inb_S2x128x1024_S1x128x1024_0_0_0)
  a1 := View.ld (k0_pay76 (F := F)) (Rect.unit (s := S2x128x1024) ![1, 0, 0] S1x128x1024.size inb_S2x128x1024_S1x128x1024_1_0_0)

/-- The state after the first `k` chunks. -/
def stAt (q : Vec F S128x1024 .bf16) (X4 : Vec F S1x16384x128 .bf16) (X5 : Vec F S128x16384 .bf16) : ℕ → St F
  | 0 => St.init
  | k + 1 => if h : k < 16 then St.step q (kchunk X4 k h) (vchunk X5 k h) (stAt q X4 X5 k) else stAt q X4 X5 k

/-- The scratch buffers hold the state `s`, slot by slot. -/
structure Holds (v11 : View sig .tc .vmem S2x8x1024 .f32) (v12 : View sig .tc .vmem S2x128x1024 .f32)
    (f11 : v11.ty.Contents (Elt F)) (f12 : v12.ty.Contents (Elt F)) (s : St F) : Prop where
  l0 : v11.readAt (Elt F) (Rect.unit (s := S2x8x1024) ![0, 0, 0] S1x8x1024.size inb_S2x8x1024_S1x8x1024_0_0_0).toLoadRect f11 = s.l0
  l1 : v11.readAt (Elt F) (Rect.unit (s := S2x8x1024) ![1, 0, 0] S1x8x1024.size inb_S2x8x1024_S1x8x1024_1_0_0).toLoadRect f11 = s.l1
  a0 : v12.readAt (Elt F) (Rect.unit (s := S2x128x1024) ![0, 0, 0] S1x128x1024.size inb_S2x128x1024_S1x128x1024_0_0_0).toLoadRect f12 = s.a0
  a1 : v12.readAt (Elt F) (Rect.unit (s := S2x128x1024) ![1, 0, 0] S1x128x1024.size inb_S2x128x1024_S1x128x1024_1_0_0).toLoadRect f12 = s.a1

/-- Storing both slots of both buffers, the second slot last, leaves the stored state. -/
theorem Holds.of_writes (v11 : View sig .tc .vmem S2x8x1024 .f32) (v12 : View sig .tc .vmem S2x128x1024 .f32)
    (f11 : v11.ty.Contents (Elt F)) (f12 : v12.ty.Contents (Elt F)) (s : St F) (L11 : List (View.Piece (Elt F) S2x8x1024 .f32))
    (L12 : List (View.Piece (Elt F) S2x128x1024 .f32)) {wl0 wl1 : Vec F S1x8x1024 .f32} {wa0 wa1 : Vec F S1x128x1024 .f32}
    (hl0 : wl0 = s.l0) (hl1 : wl1 = s.l1) (ha0 : wa0 = s.a0) (ha1 : wa1 = s.a1) :
    Holds v11 v12
      (v11.writes (Elt F) f11 (⟨Rect.unit (s := S2x8x1024) ![1, 0, 0] S1x8x1024.size inb_S2x8x1024_S1x8x1024_1_0_0, wl1⟩
        :: ⟨Rect.unit (s := S2x8x1024) ![0, 0, 0] S1x8x1024.size inb_S2x8x1024_S1x8x1024_0_0_0, wl0⟩ :: L11))
      (v12.writes (Elt F) f12 (⟨Rect.unit (s := S2x128x1024) ![1, 0, 0] S1x128x1024.size inb_S2x128x1024_S1x128x1024_1_0_0, wa1⟩
        :: ⟨Rect.unit (s := S2x128x1024) ![0, 0, 0] S1x128x1024.size inb_S2x128x1024_S1x128x1024_0_0_0, wa0⟩ :: L12)) s where
  l0 := by rw [readAt_miss (a := 0) (h := Or.inl (by decide)), readAt_hit, hl0]
  l1 := (readAt_hit ..).trans hl1
  a0 := by rw [readAt_miss (a := 0) (h := Or.inl (by decide)), readAt_hit, ha0]
  a1 := (readAt_hit ..).trans ha1

/-- Storing the payloads of one step, computed from a state held, leaves the state after the step. -/
theorem Holds.step (v11 : View sig .tc .vmem S2x8x1024 .f32) (v12 : View sig .tc .vmem S2x128x1024 .f32) (s : St F)
    {kl kb : Vec F S1x1024x128 .bf16} {vl vb : Vec F S128x1024 .bf16} (ek : kl = kb) (ev : vl = vb) (q : Vec F S128x1024 .bf16)
    (g11 : v11.ty.Contents (Elt F)) (g12 : v12.ty.Contents (Elt F))
    (L11 : List (View.Piece (Elt F) S2x8x1024 .f32)) (L12 : List (View.Piece (Elt F) S2x128x1024 .f32))
    {rl0 rl1 : Vec F S1x8x1024 .f32} {ra0 ra1 : Vec F S1x128x1024 .f32}
    (hl0 : rl0 = s.l0) (hl1 : rl1 = s.l1) (ha0 : ra0 = s.a0) (ha1 : ra1 = s.a1) :
    Holds v11 v12
      (v11.writes (Elt F) g11 (⟨Rect.unit (s := S2x8x1024) ![1, 0, 0] S1x8x1024.size inb_S2x8x1024_S1x8x1024_1_0_0, k0_pay4 (k0_pay74 q) kl rl1⟩
        :: ⟨Rect.unit (s := S2x8x1024) ![0, 0, 0] S1x8x1024.size inb_S2x8x1024_S1x8x1024_0_0_0, k0_pay4 (k0_pay73 q) kl rl0⟩ :: L11))
      (v12.writes (Elt F) g12 (⟨Rect.unit (s := S2x128x1024) ![1, 0, 0] S1x128x1024.size inb_S2x128x1024_S1x128x1024_1_0_0, k0_pay5 (k0_pay74 q) vl kl ra1⟩
        :: ⟨Rect.unit (s := S2x128x1024) ![0, 0, 0] S1x128x1024.size inb_S2x128x1024_S1x128x1024_0_0_0, k0_pay5 (k0_pay73 q) vl kl ra0⟩ :: L12))
      (St.step q kb vb s) := by
  subst ek ev hl0 hl1 ha0 ha1
  exact Holds.of_writes _ _ _ _ _ _ _ rfl rfl rfl rfl

/-! ## The state of the branch with a running maximum -/

/-- The two components' running maxima, weight sums and weighted values. -/
structure Sh (F : FTy → Type) [FloatOps F] where
  m0 : Vec F S1x1x1024 .f32
  m1 : Vec F S1x1x1024 .f32
  l0 : Vec F S1x1x1024 .f32
  l1 : Vec F S1x1x1024 .f32
  a0 : Vec F S1x128x1024 .f32
  a1 : Vec F S1x128x1024 .f32

/-- One chunk of 1024 keys, every query attending to all of them. -/
def Sh.step (q : Vec F S128x1024 .bf16) (kb : Vec F S1x1024x128 .bf16) (vb : Vec F S128x1024 .bf16) (s : Sh F) : Sh F where
  m0 := k0_pay107 (k0_pay101 (k0_pay132 q) kb s.m0)
  m1 := k0_pay107 (k0_pay101 (k0_pay133 q) kb s.m1)
  l0 := k0_pay104 (k0_pay132 q) kb s.m0 s.l0
  l1 := k0_pay104 (k0_pay133 q) kb s.m1 s.l1
  a0 := k0_pay106 (k0_pay105 (k0_pay132 q) vb kb s.m0 s.a0)
  a1 := k0_pay106 (k0_pay105 (k0_pay133 q) vb kb s.m1 s.a1)

/-- The state before the first chunk: the maxima at the mask, the rest zero. -/
def Sh.init : Sh F where
  m0 := View.ld (k0_pay134 (F := F)) (Rect.unit (s := S2x1x1024) ![0, 0, 0] S1x1x1024.size inb_S2x1x1024_S1x1x1024_0_0_0)
  m1 := View.ld (k0_pay134 (F := F)) (Rect.unit (s := S2x1x1024) ![1, 0, 0] S1x1x1024.size inb_S2x1x1024_S1x1x1024_1_0_0)
  l0 := View.ld (k0_pay135 (F := F)) (Rect.unit (s := S2x1x1024) ![0, 0, 0] S1x1x1024.size inb_S2x1x1024_S1x1x1024_0_0_0)
  l1 := View.ld (k0_pay135 (F := F)) (Rect.unit (s := S2x1x1024) ![1, 0, 0] S1x1x1024.size inb_S2x1x1024_S1x1x1024_1_0_0)
  a0 := View.ld (k0_pay136 (F := F)) (Rect.unit (s := S2x128x1024) ![0, 0, 0] S1x128x1024.size inb_S2x128x1024_S1x128x1024_0_0_0)
  a1 := View.ld (k0_pay136 (F := F)) (Rect.unit (s := S2x128x1024) ![1, 0, 0] S1x128x1024.size inb_S2x128x1024_S1x128x1024_1_0_0)

/-- The state after the first `k` chunks. -/
def shAt (q : Vec F S128x1024 .bf16) (X4 : Vec F S1x16384x128 .bf16) (X5 : Vec F S128x16384 .bf16) : ℕ → Sh F
  | 0 => Sh.init
  | k + 1 => if h : k < 16 then Sh.step q (kchunk X4 k h) (vchunk X5 k h) (shAt q X4 X5 k) else shAt q X4 X5 k

/-- The scratch buffers hold the state `s`, slot by slot. -/
structure Holds3 (v9 v10 : View sig .tc .vmem S2x1x1024 .f32) (v12 : View sig .tc .vmem S2x128x1024 .f32)
    (f9 : v9.ty.Contents (Elt F)) (f10 : v10.ty.Contents (Elt F)) (f12 : v12.ty.Contents (Elt F)) (s : Sh F) : Prop where
  m0 : v9.readAt (Elt F) (Rect.unit (s := S2x1x1024) ![0, 0, 0] S1x1x1024.size inb_S2x1x1024_S1x1x1024_0_0_0).toLoadRect f9 = s.m0
  m1 : v9.readAt (Elt F) (Rect.unit (s := S2x1x1024) ![1, 0, 0] S1x1x1024.size inb_S2x1x1024_S1x1x1024_1_0_0).toLoadRect f9 = s.m1
  l0 : v10.readAt (Elt F) (Rect.unit (s := S2x1x1024) ![0, 0, 0] S1x1x1024.size inb_S2x1x1024_S1x1x1024_0_0_0).toLoadRect f10 = s.l0
  l1 : v10.readAt (Elt F) (Rect.unit (s := S2x1x1024) ![1, 0, 0] S1x1x1024.size inb_S2x1x1024_S1x1x1024_1_0_0).toLoadRect f10 = s.l1
  a0 : v12.readAt (Elt F) (Rect.unit (s := S2x128x1024) ![0, 0, 0] S1x128x1024.size inb_S2x128x1024_S1x128x1024_0_0_0).toLoadRect f12 = s.a0
  a1 : v12.readAt (Elt F) (Rect.unit (s := S2x128x1024) ![1, 0, 0] S1x128x1024.size inb_S2x128x1024_S1x128x1024_1_0_0).toLoadRect f12 = s.a1

/-- Storing both slots of the three buffers, the second slot last, leaves the stored state. -/
theorem Holds3.of_writes (v9 v10 : View sig .tc .vmem S2x1x1024 .f32) (v12 : View sig .tc .vmem S2x128x1024 .f32)
    (f9 : v9.ty.Contents (Elt F)) (f10 : v10.ty.Contents (Elt F)) (f12 : v12.ty.Contents (Elt F)) (s : Sh F)
    (L9 L10 : List (View.Piece (Elt F) S2x1x1024 .f32)) (L12 : List (View.Piece (Elt F) S2x128x1024 .f32))
    {wm0 wm1 wl0 wl1 : Vec F S1x1x1024 .f32} {wa0 wa1 : Vec F S1x128x1024 .f32}
    (hm0 : wm0 = s.m0) (hm1 : wm1 = s.m1) (hl0 : wl0 = s.l0) (hl1 : wl1 = s.l1) (ha0 : wa0 = s.a0) (ha1 : wa1 = s.a1) :
    Holds3 v9 v10 v12
      (v9.writes (Elt F) f9 (⟨Rect.unit (s := S2x1x1024) ![1, 0, 0] S1x1x1024.size inb_S2x1x1024_S1x1x1024_1_0_0, wm1⟩
        :: ⟨Rect.unit (s := S2x1x1024) ![0, 0, 0] S1x1x1024.size inb_S2x1x1024_S1x1x1024_0_0_0, wm0⟩ :: L9))
      (v10.writes (Elt F) f10 (⟨Rect.unit (s := S2x1x1024) ![1, 0, 0] S1x1x1024.size inb_S2x1x1024_S1x1x1024_1_0_0, wl1⟩
        :: ⟨Rect.unit (s := S2x1x1024) ![0, 0, 0] S1x1x1024.size inb_S2x1x1024_S1x1x1024_0_0_0, wl0⟩ :: L10))
      (v12.writes (Elt F) f12 (⟨Rect.unit (s := S2x128x1024) ![1, 0, 0] S1x128x1024.size inb_S2x128x1024_S1x128x1024_1_0_0, wa1⟩
        :: ⟨Rect.unit (s := S2x128x1024) ![0, 0, 0] S1x128x1024.size inb_S2x128x1024_S1x128x1024_0_0_0, wa0⟩ :: L12)) s where
  m0 := by rw [readAt_miss (a := 0) (h := Or.inl (by decide)), readAt_hit, hm0]
  m1 := (readAt_hit ..).trans hm1
  l0 := by rw [readAt_miss (a := 0) (h := Or.inl (by decide)), readAt_hit, hl0]
  l1 := (readAt_hit ..).trans hl1
  a0 := by rw [readAt_miss (a := 0) (h := Or.inl (by decide)), readAt_hit, ha0]
  a1 := (readAt_hit ..).trans ha1

/-- A load of 1024 key rows at `1024 k` is chunk `k`. -/
theorem readAt_kchunk (v : View sig .tc .vmem S1x16384x128 .bf16) (X : v.ty.Contents (Elt F)) (k : ℕ) (h : k < 16) (off : Fin 3 → ℕ)
    (ho : off = ![0, 1024 * k, 0]) (inb : ∀ a, off a + S1x1024x128.size a ≤ S1x16384x128.size a) :
    v.readAt (Elt F) (Rect.unit (s := S1x16384x128) off S1x1024x128.size inb).toLoadRect X = kchunk (v.read (Elt F) X) k h := by
  subst ho; rfl

/-- A load of 1024 value columns at `1024 k` is chunk `k`. -/
theorem readAt_vchunk (v : View sig .tc .vmem S128x16384 .bf16) (X : v.ty.Contents (Elt F)) (k : ℕ) (h : k < 16) (off : Fin 2 → ℕ)
    (ho : off = ![0, 1024 * k]) (inb : ∀ a, off a + S128x1024.size a ≤ S128x16384.size a) :
    v.readAt (Elt F) (Rect.unit (s := S128x16384) off S128x1024.size inb).toLoadRect X = vchunk (v.read (Elt F) X) k h := by
  subst ho; rfl

/-! ## The offsets of the chunk loads -/

theorem off1_eq : ∀ (i : grid0.Coords) (t : Fin (k0_t1_loop i).trips) (r : Fin 4),
    k0_off1 i t (BitVec.ofNat 32 r.val) = ![0, 1024 * (4 * t.val + r.val)] := by decide +kernel
theorem off2_eq : ∀ (i : grid0.Coords) (t : Fin (k0_t1_loop i).trips) (r : Fin 4),
    k0_off2 i t (BitVec.ofNat 32 r.val) = ![0, 1024 * (4 * t.val + r.val), 0] := by decide +kernel
theorem trips1_eq : ∀ i : grid0.Coords, (k0_t1_loop i).trips = (i 1).val / 4 := by decide +kernel
theorem trips2_eq : ∀ i : grid0.Coords, (k0_t2_loop i).trips = 0 := by decide +kernel
theorem trips3_eq : ∀ i : grid0.Coords, (k0_t3_loop i).trips = (i 1).val := by decide +kernel
theorem trips4_eq : ∀ i : grid0.Coords, (k0_t4_loop i).trips = 0 := by decide +kernel
theorem cond2_eq : ∀ i : grid0.Coords, k0_cond2 i = 1#1 ↔ (i 1).val / 2 % 2 = 1 := by decide +kernel
theorem cond3_eq : ∀ i : grid0.Coords, k0_cond3 i = 1#1 ↔ (i 1).val % 2 = 1 := by decide +kernel

end Cert.KernelIdeal.Hand

end
-- ==== Proof.Hand.Trip.lean ====
/-
  What one trip of the chunk loop (four chunks) leaves in the scratch, as the state four chunks on.
-/
module

public import proofs.«01_k».proof.Proof.Hand.Model
public import Idealize.ShloMosaic.Lib.Tactic

@[expose] public section

set_option maxHeartbeats 1000000

noncomputable section

namespace Cert.KernelIdeal.Hand

open Cert.KernelIdeal Cert.KernelIdeal.Gen
open Idealize.ShloMosaic Idealize.ShloMosaic.TcCoe

variable {F : FTy → Type} [FloatOps F] [Named F]

variable (𝒱 : Variants) (c : Dev nD) (bd : Option 𝒱.V) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole) (arg1 : BitVec 32)
  (v7 : Vec F S128x1024 .bf16) (X4 : BufTy.Contents (Elt F) arg4.view.ty) (X5 : BufTy.Contents (Elt F) arg5.view.ty)

/-- One trip of the loop over quadruples of chunks. -/
theorem holds_trip1 (k : Fin (k0_t1_loop i).trips) (f11 : BufTy.Contents (Elt F) arg11.view.ty) (f12 : BufTy.Contents (Elt F) arg12.view.ty)
    (s : St F) (hs : Holds arg11.view arg12.view f11 f12 s) (h0 : 4 * k.val < 16) (h1 : 4 * k.val + 1 < 16) (h2 : 4 * k.val + 2 < 16) (h3 : 4 * k.val + 3 < 16) :
    Holds arg11.view arg12.view
      (arg11.view.writes (Elt F) f11 (tripL_k0_t1 (F := F) 𝒱 c bd i arg2 harg2 arg3 harg3 arg4 harg4 arg5 harg5 arg6 harg6 arg7 harg7 arg8 harg8 arg9 harg9 arg10 harg10 arg11 harg11 arg12 harg12 arg1 v7 X4 X5 k f11 f12).1)
      (arg12.view.writes (Elt F) f12 (tripL_k0_t1 (F := F) 𝒱 c bd i arg2 harg2 arg3 harg3 arg4 harg4 arg5 harg5 arg6 harg6 arg7 harg7 arg8 harg8 arg9 harg9 arg10 harg10 arg11 harg11 arg12 harg12 arg1 v7 X4 X5 k f11 f12).2)
      (St.step v7 (kchunk (arg4.view.read (Elt F) X4) (4 * k.val + 3) h3) (vchunk (arg5.view.read (Elt F) X5) (4 * k.val + 3) h3)
      (St.step v7 (kchunk (arg4.view.read (Elt F) X4) (4 * k.val + 2) h2) (vchunk (arg5.view.read (Elt F) X5) (4 * k.val + 2) h2)
      (St.step v7 (kchunk (arg4.view.read (Elt F) X4) (4 * k.val + 1) h1) (vchunk (arg5.view.read (Elt F) X5) (4 * k.val + 1) h1)
      (St.step v7 (kchunk (arg4.view.read (Elt F) X4) (4 * k.val) h0) (vchunk (arg5.view.read (Elt F) X5) (4 * k.val) h0) s)))) := by
  unfold tripL_k0_t1 trip_k0_t1
  dsimp only
  let s0 := St.step v7 (kchunk (arg4.view.read (Elt F) X4) (4 * k.val) h0) (vchunk (arg5.view.read (Elt F) X5) (4 * k.val) h0) s
  let s1 := St.step v7 (kchunk (arg4.view.read (Elt F) X4) (4 * k.val + 1) h1) (vchunk (arg5.view.read (Elt F) X5) (4 * k.val + 1) h1) s0
  let s2 := St.step v7 (kchunk (arg4.view.read (Elt F) X4) (4 * k.val + 2) h2) (vchunk (arg5.view.read (Elt F) X5) (4 * k.val + 2) h2) s1
  let s3 := St.step v7 (kchunk (arg4.view.read (Elt F) X4) (4 * k.val + 3) h3) (vchunk (arg5.view.read (Elt F) X5) (4 * k.val + 3) h3) s2
  have ek0 := readAt_kchunk arg4.view X4 (4 * k.val + 0) h0 _ (off2_eq i k 0) (k0_off2_inb i k 0)
  have ev0 := readAt_vchunk arg5.view X5 (4 * k.val + 0) h0 _ (off1_eq i k 0) (k0_off1_inb i k 0)
  have ek1 := readAt_kchunk arg4.view X4 (4 * k.val + 1) h1 _ (off2_eq i k 1) (k0_off2_inb i k 1)
  have ev1 := readAt_vchunk arg5.view X5 (4 * k.val + 1) h1 _ (off1_eq i k 1) (k0_off1_inb i k 1)
  have ek2 := readAt_kchunk arg4.view X4 (4 * k.val + 2) h2 _ (off2_eq i k 2) (k0_off2_inb i k 2)
  have ev2 := readAt_vchunk arg5.view X5 (4 * k.val + 2) h2 _ (off1_eq i k 2) (k0_off1_inb i k 2)
  have ek3 := readAt_kchunk arg4.view X4 (4 * k.val + 3) h3 _ (off2_eq i k 3) (k0_off2_inb i k 3)
  have ev3 := readAt_vchunk arg5.view X5 (4 * k.val + 3) h3 _ (off1_eq i k 3) (k0_off1_inb i k 3)
  have l00 : trip_k0_t1.sl.v215 i arg4 arg11 v7 X4 k f11 = s0.l0 := (show _ = (k0_pay4 (k0_pay73 v7) (arg4.view.readAt (Elt F) (Rect.unit (s := S1x16384x128) (k0_off2 i k (BitVec.ofNat 32 ((0 : Fin 4).val))) S1x1024x128.size (k0_off2_inb i k 0)).toLoadRect X4) (arg11.view.readAt (Elt F) (Rect.unit (s := S2x8x1024) ![0, 0, 0] S1x8x1024.size inb_S2x8x1024_S1x8x1024_0_0_0).toLoadRect f11)) from rfl).trans (by rw [ek0, hs.l0] <;> rfl)
  have a00 : trip_k0_t1.sl.v223 i arg4 arg5 arg12 v7 X4 X5 k f12 = s0.a0 := (show _ = (k0_pay5 (k0_pay73 v7) (arg5.view.readAt (Elt F) (Rect.unit (s := S128x16384) (k0_off1 i k (BitVec.ofNat 32 ((0 : Fin 4).val))) S128x1024.size (k0_off1_inb i k 0)).toLoadRect X5) (arg4.view.readAt (Elt F) (Rect.unit (s := S1x16384x128) (k0_off2 i k (BitVec.ofNat 32 ((0 : Fin 4).val))) S1x1024x128.size (k0_off2_inb i k 0)).toLoadRect X4) (arg12.view.readAt (Elt F) (Rect.unit (s := S2x128x1024) ![0, 0, 0] S1x128x1024.size inb_S2x128x1024_S1x128x1024_0_0_0).toLoadRect f12)) from rfl).trans (by rw [ek0, ev0, hs.a0] <;> rfl)
  have l10 : trip_k0_t1.sl.v236 i arg4 arg11 v7 X4 k f11 = s0.l1 := (show _ = (k0_pay4 (k0_pay74 v7) (arg4.view.readAt (Elt F) (Rect.unit (s := S1x16384x128) (k0_off2 i k (BitVec.ofNat 32 ((0 : Fin 4).val))) S1x1024x128.size (k0_off2_inb i k 0)).toLoadRect X4) (arg11.view.readAt (Elt F) (Rect.unit (s := S2x8x1024) ![1, 0, 0] S1x8x1024.size inb_S2x8x1024_S1x8x1024_1_0_0).toLoadRect f11)) from rfl).trans (by rw [ek0, hs.l1] <;> rfl)
  have a10 : trip_k0_t1.sl.v244 i arg4 arg5 arg12 v7 X4 X5 k f12 = s0.a1 := (show _ = (k0_pay5 (k0_pay74 v7) (arg5.view.readAt (Elt F) (Rect.unit (s := S128x16384) (k0_off1 i k (BitVec.ofNat 32 ((0 : Fin 4).val))) S128x1024.size (k0_off1_inb i k 0)).toLoadRect X5) (arg4.view.readAt (Elt F) (Rect.unit (s := S1x16384x128) (k0_off2 i k (BitVec.ofNat 32 ((0 : Fin 4).val))) S1x1024x128.size (k0_off2_inb i k 0)).toLoadRect X4) (arg12.view.readAt (Elt F) (Rect.unit (s := S2x128x1024) ![1, 0, 0] S1x128x1024.size inb_S2x128x1024_S1x128x1024_1_0_0).toLoadRect f12)) from rfl).trans (by rw [ek0, ev0, hs.a1] <;> rfl)
  have rl01 : (arg11.view.readCov (trip_k0_t1.sl.HW_arg11_2 i arg4 arg11 v7 X4 k f11) (Rect.unit (s := S2x8x1024) ![0, 0, 0] S1x8x1024.size inb_S2x8x1024_S1x8x1024_0_0_0).toLoadRect) = trip_k0_t1.sl.v215 i arg4 arg11 v7 X4 k f11 :=
    (readAt_miss _ _ _ _ _ _ 0 (Or.inl (by decide))).trans (readAt_hit ..)
  have ra01 : (arg12.view.readCov (trip_k0_t1.sl.HW_arg12_2 i arg4 arg5 arg12 v7 X4 X5 k f12) (Rect.unit (s := S2x128x1024) ![0, 0, 0] S1x128x1024.size inb_S2x128x1024_S1x128x1024_0_0_0).toLoadRect) = trip_k0_t1.sl.v223 i arg4 arg5 arg12 v7 X4 X5 k f12 :=
    (readAt_miss _ _ _ _ _ _ 0 (Or.inl (by decide))).trans (readAt_hit ..)
  have l01 : trip_k0_t1.sl.v263 i arg4 arg11 v7 X4 k f11 = s1.l0 := (show _ = (k0_pay4 (k0_pay73 v7) (arg4.view.readAt (Elt F) (Rect.unit (s := S1x16384x128) (k0_off2 i k (BitVec.ofNat 32 ((1 : Fin 4).val))) S1x1024x128.size (k0_off2_inb i k 1)).toLoadRect X4) (arg11.view.readCov (trip_k0_t1.sl.HW_arg11_2 i arg4 arg11 v7 X4 k f11) (Rect.unit (s := S2x8x1024) ![0, 0, 0] S1x8x1024.size inb_S2x8x1024_S1x8x1024_0_0_0).toLoadRect)) from rfl).trans (by rw [ek1, rl01, l00] <;> rfl)
  have a01 : trip_k0_t1.sl.v271 i arg4 arg5 arg12 v7 X4 X5 k f12 = s1.a0 := (show _ = (k0_pay5 (k0_pay73 v7) (arg5.view.readAt (Elt F) (Rect.unit (s := S128x16384) (k0_off1 i k (BitVec.ofNat 32 ((1 : Fin 4).val))) S128x1024.size (k0_off1_inb i k 1)).toLoadRect X5) (arg4.view.readAt (Elt F) (Rect.unit (s := S1x16384x128) (k0_off2 i k (BitVec.ofNat 32 ((1 : Fin 4).val))) S1x1024x128.size (k0_off2_inb i k 1)).toLoadRect X4) (arg12.view.readCov (trip_k0_t1.sl.HW_arg12_2 i arg4 arg5 arg12 v7 X4 X5 k f12) (Rect.unit (s := S2x128x1024) ![0, 0, 0] S1x128x1024.size inb_S2x128x1024_S1x128x1024_0_0_0).toLoadRect)) from rfl).trans (by rw [ek1, ev1, ra01, a00] <;> rfl)
  have rl11 : (arg11.view.readCov (trip_k0_t1.sl.HW_arg11_3 i arg4 arg11 v7 X4 k f11) (Rect.unit (s := S2x8x1024) ![1, 0, 0] S1x8x1024.size inb_S2x8x1024_S1x8x1024_1_0_0).toLoadRect) = trip_k0_t1.sl.v236 i arg4 arg11 v7 X4 k f11 :=
    (readAt_miss _ _ _ _ _ _ 0 (Or.inr (by decide))).trans (readAt_hit ..)
  have ra11 : (arg12.view.readCov (trip_k0_t1.sl.HW_arg12_3 i arg4 arg5 arg12 v7 X4 X5 k f12) (Rect.unit (s := S2x128x1024) ![1, 0, 0] S1x128x1024.size inb_S2x128x1024_S1x128x1024_1_0_0).toLoadRect) = trip_k0_t1.sl.v244 i arg4 arg5 arg12 v7 X4 X5 k f12 :=
    (readAt_miss _ _ _ _ _ _ 0 (Or.inr (by decide))).trans (readAt_hit ..)
  have l11 : trip_k0_t1.sl.v284 i arg4 arg11 v7 X4 k f11 = s1.l1 := (show _ = (k0_pay4 (k0_pay74 v7) (arg4.view.readAt (Elt F) (Rect.unit (s := S1x16384x128) (k0_off2 i k (BitVec.ofNat 32 ((1 : Fin 4).val))) S1x1024x128.size (k0_off2_inb i k 1)).toLoadRect X4) (arg11.view.readCov (trip_k0_t1.sl.HW_arg11_3 i arg4 arg11 v7 X4 k f11) (Rect.unit (s := S2x8x1024) ![1, 0, 0] S1x8x1024.size inb_S2x8x1024_S1x8x1024_1_0_0).toLoadRect)) from rfl).trans (by rw [ek1, rl11, l10] <;> rfl)
  have a11 : trip_k0_t1.sl.v292 i arg4 arg5 arg12 v7 X4 X5 k f12 = s1.a1 := (show _ = (k0_pay5 (k0_pay74 v7) (arg5.view.readAt (Elt F) (Rect.unit (s := S128x16384) (k0_off1 i k (BitVec.ofNat 32 ((1 : Fin 4).val))) S128x1024.size (k0_off1_inb i k 1)).toLoadRect X5) (arg4.view.readAt (Elt F) (Rect.unit (s := S1x16384x128) (k0_off2 i k (BitVec.ofNat 32 ((1 : Fin 4).val))) S1x1024x128.size (k0_off2_inb i k 1)).toLoadRect X4) (arg12.view.readCov (trip_k0_t1.sl.HW_arg12_3 i arg4 arg5 arg12 v7 X4 X5 k f12) (Rect.unit (s := S2x128x1024) ![1, 0, 0] S1x128x1024.size inb_S2x128x1024_S1x128x1024_1_0_0).toLoadRect)) from rfl).trans (by rw [ek1, ev1, ra11, a10] <;> rfl)
  have rl02 : (arg11.view.readCov (trip_k0_t1.sl.HW_arg11_4 i arg4 arg11 v7 X4 k f11) (Rect.unit (s := S2x8x1024) ![0, 0, 0] S1x8x1024.size inb_S2x8x1024_S1x8x1024_0_0_0).toLoadRect) = trip_k0_t1.sl.v263 i arg4 arg11 v7 X4 k f11 :=
    (readAt_miss _ _ _ _ _ _ 0 (Or.inl (by decide))).trans (readAt_hit ..)
  have ra02 : (arg12.view.readCov (trip_k0_t1.sl.HW_arg12_4 i arg4 arg5 arg12 v7 X4 X5 k f12) (Rect.unit (s := S2x128x1024) ![0, 0, 0] S1x128x1024.size inb_S2x128x1024_S1x128x1024_0_0_0).toLoadRect) = trip_k0_t1.sl.v271 i arg4 arg5 arg12 v7 X4 X5 k f12 :=
    (readAt_miss _ _ _ _ _ _ 0 (Or.inl (by decide))).trans (readAt_hit ..)
  have l02 : trip_k0_t1.sl.v311 i arg4 arg11 v7 X4 k f11 = s2.l0 := (show _ = (k0_pay4 (k0_pay73 v7) (arg4.view.readAt (Elt F) (Rect.unit (s := S1x16384x128) (k0_off2 i k (BitVec.ofNat 32 ((2 : Fin 4).val))) S1x1024x128.size (k0_off2_inb i k 2)).toLoadRect X4) (arg11.view.readCov (trip_k0_t1.sl.HW_arg11_4 i arg4 arg11 v7 X4 k f11) (Rect.unit (s := S2x8x1024) ![0, 0, 0] S1x8x1024.size inb_S2x8x1024_S1x8x1024_0_0_0).toLoadRect)) from rfl).trans (by rw [ek2, rl02, l01] <;> rfl)
  have a02 : trip_k0_t1.sl.v319 i arg4 arg5 arg12 v7 X4 X5 k f12 = s2.a0 := (show _ = (k0_pay5 (k0_pay73 v7) (arg5.view.readAt (Elt F) (Rect.unit (s := S128x16384) (k0_off1 i k (BitVec.ofNat 32 ((2 : Fin 4).val))) S128x1024.size (k0_off1_inb i k 2)).toLoadRect X5) (arg4.view.readAt (Elt F) (Rect.unit (s := S1x16384x128) (k0_off2 i k (BitVec.ofNat 32 ((2 : Fin 4).val))) S1x1024x128.size (k0_off2_inb i k 2)).toLoadRect X4) (arg12.view.readCov (trip_k0_t1.sl.HW_arg12_4 i arg4 arg5 arg12 v7 X4 X5 k f12) (Rect.unit (s := S2x128x1024) ![0, 0, 0] S1x128x1024.size inb_S2x128x1024_S1x128x1024_0_0_0).toLoadRect)) from rfl).trans (by rw [ek2, ev2, ra02, a01] <;> rfl)
  have rl12 : (arg11.view.readCov (trip_k0_t1.sl.HW_arg11_5 i arg4 arg11 v7 X4 k f11) (Rect.unit (s := S2x8x1024) ![1, 0, 0] S1x8x1024.size inb_S2x8x1024_S1x8x1024_1_0_0).toLoadRect) = trip_k0_t1.sl.v284 i arg4 arg11 v7 X4 k f11 :=
    (readAt_miss _ _ _ _ _ _ 0 (Or.inr (by decide))).trans (readAt_hit ..)
  have ra12 : (arg12.view.readCov (trip_k0_t1.sl.HW_arg12_5 i arg4 arg5 arg12 v7 X4 X5 k f12) (Rect.unit (s := S2x128x1024) ![1, 0, 0] S1x128x1024.size inb_S2x128x1024_S1x128x1024_1_0_0).toLoadRect) = trip_k0_t1.sl.v292 i arg4 arg5 arg12 v7 X4 X5 k f12 :=
    (readAt_miss _ _ _ _ _ _ 0 (Or.inr (by decide))).trans (readAt_hit ..)
  have l12 : trip_k0_t1.sl.v332 i arg4 arg11 v7 X4 k f11 = s2.l1 := (show _ = (k0_pay4 (k0_pay74 v7) (arg4.view.readAt (Elt F) (Rect.unit (s := S1x16384x128) (k0_off2 i k (BitVec.ofNat 32 ((2 : Fin 4).val))) S1x1024x128.size (k0_off2_inb i k 2)).toLoadRect X4) (arg11.view.readCov (trip_k0_t1.sl.HW_arg11_5 i arg4 arg11 v7 X4 k f11) (Rect.unit (s := S2x8x1024) ![1, 0, 0] S1x8x1024.size inb_S2x8x1024_S1x8x1024_1_0_0).toLoadRect)) from rfl).trans (by rw [ek2, rl12, l11] <;> rfl)
  have a12 : trip_k0_t1.sl.v340 i arg4 arg5 arg12 v7 X4 X5 k f12 = s2.a1 := (show _ = (k0_pay5 (k0_pay74 v7) (arg5.view.readAt (Elt F) (Rect.unit (s := S128x16384) (k0_off1 i k (BitVec.ofNat 32 ((2 : Fin 4).val))) S128x1024.size (k0_off1_inb i k 2)).toLoadRect X5) (arg4.view.readAt (Elt F) (Rect.unit (s := S1x16384x128) (k0_off2 i k (BitVec.ofNat 32 ((2 : Fin 4).val))) S1x1024x128.size (k0_off2_inb i k 2)).toLoadRect X4) (arg12.view.readCov (trip_k0_t1.sl.HW_arg12_5 i arg4 arg5 arg12 v7 X4 X5 k f12) (Rect.unit (s := S2x128x1024) ![1, 0, 0] S1x128x1024.size inb_S2x128x1024_S1x128x1024_1_0_0).toLoadRect)) from rfl).trans (by rw [ek2, ev2, ra12, a11] <;> rfl)
  have rl03 : (arg11.view.readCov (trip_k0_t1.sl.HW_arg11_6 i arg4 arg11 v7 X4 k f11) (Rect.unit (s := S2x8x1024) ![0, 0, 0] S1x8x1024.size inb_S2x8x1024_S1x8x1024_0_0_0).toLoadRect) = trip_k0_t1.sl.v311 i arg4 arg11 v7 X4 k f11 :=
    (readAt_miss _ _ _ _ _ _ 0 (Or.inl (by decide))).trans (readAt_hit ..)
  have ra03 : (arg12.view.readCov (trip_k0_t1.sl.HW_arg12_6 i arg4 arg5 arg12 v7 X4 X5 k f12) (Rect.unit (s := S2x128x1024) ![0, 0, 0] S1x128x1024.size inb_S2x128x1024_S1x128x1024_0_0_0).toLoadRect) = trip_k0_t1.sl.v319 i arg4 arg5 arg12 v7 X4 X5 k f12 :=
    (readAt_miss _ _ _ _ _ _ 0 (Or.inl (by decide))).trans (readAt_hit ..)
  have l03 : trip_k0_t1.sl.v359 i arg4 arg11 v7 X4 k f11 = s3.l0 := (show _ = (k0_pay4 (k0_pay73 v7) (arg4.view.readAt (Elt F) (Rect.unit (s := S1x16384x128) (k0_off2 i k (BitVec.ofNat 32 ((3 : Fin 4).val))) S1x1024x128.size (k0_off2_inb i k 3)).toLoadRect X4) (arg11.view.readCov (trip_k0_t1.sl.HW_arg11_6 i arg4 arg11 v7 X4 k f11) (Rect.unit (s := S2x8x1024) ![0, 0, 0] S1x8x1024.size inb_S2x8x1024_S1x8x1024_0_0_0).toLoadRect)) from rfl).trans (by rw [ek3, rl03, l02] <;> rfl)
  have a03 : trip_k0_t1.sl.v367 i arg4 arg5 arg12 v7 X4 X5 k f12 = s3.a0 := (show _ = (k0_pay5 (k0_pay73 v7) (arg5.view.readAt (Elt F) (Rect.unit (s := S128x16384) (k0_off1 i k (BitVec.ofNat 32 ((3 : Fin 4).val))) S128x1024.size (k0_off1_inb i k 3)).toLoadRect X5) (arg4.view.readAt (Elt F) (Rect.unit (s := S1x16384x128) (k0_off2 i k (BitVec.ofNat 32 ((3 : Fin 4).val))) S1x1024x128.size (k0_off2_inb i k 3)).toLoadRect X4) (arg12.view.readCov (trip_k0_t1.sl.HW_arg12_6 i arg4 arg5 arg12 v7 X4 X5 k f12) (Rect.unit (s := S2x128x1024) ![0, 0, 0] S1x128x1024.size inb_S2x128x1024_S1x128x1024_0_0_0).toLoadRect)) from rfl).trans (by rw [ek3, ev3, ra03, a02] <;> rfl)
  have rl13 : (arg11.view.readCov (trip_k0_t1.sl.HW_arg11_7 i arg4 arg11 v7 X4 k f11) (Rect.unit (s := S2x8x1024) ![1, 0, 0] S1x8x1024.size inb_S2x8x1024_S1x8x1024_1_0_0).toLoadRect) = trip_k0_t1.sl.v332 i arg4 arg11 v7 X4 k f11 :=
    (readAt_miss _ _ _ _ _ _ 0 (Or.inr (by decide))).trans (readAt_hit ..)
  have ra13 : (arg12.view.readCov (trip_k0_t1.sl.HW_arg12_7 i arg4 arg5 arg12 v7 X4 X5 k f12) (Rect.unit (s := S2x128x1024) ![1, 0, 0] S1x128x1024.size inb_S2x128x1024_S1x128x1024_1_0_0).toLoadRect) = trip_k0_t1.sl.v340 i arg4 arg5 arg12 v7 X4 X5 k f12 :=
    (readAt_miss _ _ _ _ _ _ 0 (Or.inr (by decide))).trans (readAt_hit ..)
  have l13 : trip_k0_t1.sl.v380 i arg4 arg11 v7 X4 k f11 = s3.l1 := (show _ = (k0_pay4 (k0_pay74 v7) (arg4.view.readAt (Elt F) (Rect.unit (s := S1x16384x128) (k0_off2 i k (BitVec.ofNat 32 ((3 : Fin 4).val))) S1x1024x128.size (k0_off2_inb i k 3)).toLoadRect X4) (arg11.view.readCov (trip_k0_t1.sl.HW_arg11_7 i arg4 arg11 v7 X4 k f11) (Rect.unit (s := S2x8x1024) ![1, 0, 0] S1x8x1024.size inb_S2x8x1024_S1x8x1024_1_0_0).toLoadRect)) from rfl).trans (by rw [ek3, rl13, l12] <;> rfl)
  have a13 : trip_k0_t1.sl.v388 i arg4 arg5 arg12 v7 X4 X5 k f12 = s3.a1 := (show _ = (k0_pay5 (k0_pay74 v7) (arg5.view.readAt (Elt F) (Rect.unit (s := S128x16384) (k0_off1 i k (BitVec.ofNat 32 ((3 : Fin 4).val))) S128x1024.size (k0_off1_inb i k 3)).toLoadRect X5) (arg4.view.readAt (Elt F) (Rect.unit (s := S1x16384x128) (k0_off2 i k (BitVec.ofNat 32 ((3 : Fin 4).val))) S1x1024x128.size (k0_off2_inb i k 3)).toLoadRect X4) (arg12.view.readCov (trip_k0_t1.sl.HW_arg12_7 i arg4 arg5 arg12 v7 X4 X5 k f12) (Rect.unit (s := S2x128x1024) ![1, 0, 0] S1x128x1024.size inb_S2x128x1024_S1x128x1024_1_0_0).toLoadRect)) from rfl).trans (by rw [ek3, ev3, ra13, a12] <;> rfl)
  show Holds arg11.view arg12.view _ _ s3
  exact Holds.of_writes arg11.view arg12.view f11 f12 s3 (trip_k0_t1.sl.HW_arg11_6 i arg4 arg11 v7 X4 k f11) (trip_k0_t1.sl.HW_arg12_6 i arg4 arg5 arg12 v7 X4 X5 k f12) l03 l13 a03 a13

/-- The chunk loop: before trip `k` the scratch holds the state after `4 k` chunks. -/
theorem holds_pb1 (f11 : BufTy.Contents (Elt F) arg11.view.ty) (f12 : BufTy.Contents (Elt F) arg12.view.ty)
    (h : Holds arg11.view arg12.view f11 f12 St.init) : ∀ k : ℕ, k ≤ (k0_t1_loop i).trips →
    Holds arg11.view arg12.view
      (arg11.view.writes (Elt F) f11 (pb_k0_t1 (F := F) 𝒱 c bd i arg2 harg2 arg3 harg3 arg4 harg4 arg5 harg5 arg6 harg6 arg7 harg7 arg8 harg8 arg9 harg9 arg10 harg10 arg11 harg11 arg12 harg12 arg1 v7 X4 X5 f11 f12 k).1)
      (arg12.view.writes (Elt F) f12 (pb_k0_t1 (F := F) 𝒱 c bd i arg2 harg2 arg3 harg3 arg4 harg4 arg5 harg5 arg6 harg6 arg7 harg7 arg8 harg8 arg9 harg9 arg10 harg10 arg11 harg11 arg12 harg12 arg1 v7 X4 X5 f11 f12 k).2)
      (stAt v7 (arg4.view.read (Elt F) X4) (arg5.view.read (Elt F) X5) (4 * k))
  | 0, _ => h
  | k + 1, hk => by
    have ih := holds_pb1 f11 f12 h k (by omega)
    have ht : (k0_t1_loop i).trips ≤ 3 := by
      rw [trips1_eq]; have : (i 1).val < 16 := (i 1).isLt; omega
    have h3 : 4 * k + 3 < 16 := by omega
    have e := holds_trip1 𝒱 c bd i arg2 harg2 arg3 harg3 arg4 harg4 arg5 harg5 arg6 harg6 arg7 harg7 arg8 harg8 arg9 harg9 arg10 harg10 arg11 harg11 arg12 harg12 arg1 v7 X4 X5 ⟨k, hk⟩ _ _ _ ih
      (show 4 * k < 16 by omega) (show 4 * k + 1 < 16 by omega) (show 4 * k + 2 < 16 by omega) h3
    rw [pb_k0_t1_succ 𝒱 c bd i arg2 harg2 arg3 harg3 arg4 harg4 arg5 harg5 arg6 harg6 arg7 harg7 arg8 harg8 arg9 harg9 arg10 harg10 arg11 harg11 arg12 harg12 arg1 v7 X4 X5 f11 f12 ⟨k, hk⟩]
    simp only [View.writes_append]
    rw [show 4 * (k + 1) = 4 * k + 1 + 1 + 1 + 1 by omega]
    rw [stAt, dif_pos h3, stAt, dif_pos (show 4 * k + 1 + 1 < 16 by omega), stAt, dif_pos (show 4 * k + 1 < 16 by omega), stAt, dif_pos (show 4 * k < 16 by omega)]
    exact e

/-! ## The branch with a running maximum -/

/-- One trip of the loop over chunks, with the running maximum. -/
theorem holds_trip3 (q : Vec F S128x1024 .bf16) (v26 : BitVec 32) (v40 : BitVec 1) (c1_i32 : BitVec 32) (k : Fin (k0_t3_loop i).trips) (f9 : BufTy.Contents (Elt F) arg9.view.ty) (f10 : BufTy.Contents (Elt F) arg10.view.ty) (f12 : BufTy.Contents (Elt F) arg12.view.ty)
    (s : Sh F) (hs : Holds3 arg9.view arg10.view arg12.view f9 f10 f12 s) (hk : k.val < 16) :
    Holds3 arg9.view arg10.view arg12.view
      (arg9.view.writes (Elt F) f9 (tripL_k0_t3 (F := F) 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 k f9 f10 f12).1)
      (arg10.view.writes (Elt F) f10 (tripL_k0_t3 (F := F) 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 k f9 f10 f12).2.1)
      (arg12.view.writes (Elt F) f12 (tripL_k0_t3 (F := F) 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 k f9 f10 f12).2.2)
      (Sh.step q (kchunk (arg4.view.read (Elt F) X4) k.val hk) (vchunk (arg5.view.read (Elt F) X5) k.val hk) s) := by
  unfold tripL_k0_t3 trip_k0_t3
  dsimp only
  have ek := readAt_kchunk arg4.view X4 k.val hk _ (k0_off16_eq i k) (k0_off16_inb i k)
  have ev := readAt_vchunk arg5.view X5 k.val hk _ (k0_off15_eq i k) (k0_off15_inb i k)
  have m0 : trip_k0_t3.sl.v231 i arg4 arg9 (k0_pay132 q) X4 k f9 = (Sh.step q (kchunk (arg4.view.read (Elt F) X4) k.val hk) (vchunk (arg5.view.read (Elt F) X5) k.val hk) s).m0 := (show _ = k0_pay107 (k0_pay101 (k0_pay132 q) (arg4.view.readAt (Elt F) (Rect.unit (s := S1x16384x128) (k0_off16 i k) S1x1024x128.size (k0_off16_inb i k)).toLoadRect X4) (arg9.view.readAt (Elt F) (Rect.unit (s := S2x1x1024) ![0, 0, 0] S1x1x1024.size inb_S2x1x1024_S1x1x1024_0_0_0).toLoadRect f9)) from rfl).trans (by rw [ek, hs.m0] <;> rfl)
  have l0 : trip_k0_t3.sl.v218 i arg4 arg9 arg10 (k0_pay132 q) X4 k f9 f10 = (Sh.step q (kchunk (arg4.view.read (Elt F) X4) k.val hk) (vchunk (arg5.view.read (Elt F) X5) k.val hk) s).l0 := (show _ = k0_pay104 (k0_pay132 q) (arg4.view.readAt (Elt F) (Rect.unit (s := S1x16384x128) (k0_off16 i k) S1x1024x128.size (k0_off16_inb i k)).toLoadRect X4) (arg9.view.readAt (Elt F) (Rect.unit (s := S2x1x1024) ![0, 0, 0] S1x1x1024.size inb_S2x1x1024_S1x1x1024_0_0_0).toLoadRect f9) (arg10.view.readAt (Elt F) (Rect.unit (s := S2x1x1024) ![0, 0, 0] S1x1x1024.size inb_S2x1x1024_S1x1x1024_0_0_0).toLoadRect f10) from rfl).trans (by rw [ek, hs.m0, hs.l0] <;> rfl)
  have a0 : trip_k0_t3.sl.v228 i arg4 arg5 arg9 arg12 (k0_pay132 q) X4 X5 k f9 f12 = (Sh.step q (kchunk (arg4.view.read (Elt F) X4) k.val hk) (vchunk (arg5.view.read (Elt F) X5) k.val hk) s).a0 := (show _ = k0_pay106 (k0_pay105 (k0_pay132 q) (arg5.view.readAt (Elt F) (Rect.unit (s := S128x16384) (k0_off15 i k) S128x1024.size (k0_off15_inb i k)).toLoadRect X5) (arg4.view.readAt (Elt F) (Rect.unit (s := S1x16384x128) (k0_off16 i k) S1x1024x128.size (k0_off16_inb i k)).toLoadRect X4) (arg9.view.readAt (Elt F) (Rect.unit (s := S2x1x1024) ![0, 0, 0] S1x1x1024.size inb_S2x1x1024_S1x1x1024_0_0_0).toLoadRect f9) (arg12.view.readAt (Elt F) (Rect.unit (s := S2x128x1024) ![0, 0, 0] S1x128x1024.size inb_S2x128x1024_S1x128x1024_0_0_0).toLoadRect f12)) from rfl).trans (by rw [ek, ev, hs.m0, hs.a0] <;> rfl)
  have m1 : k0_pay138 (trip_k0_t3.sl.v240 i arg4 arg9 (k0_pay133 q) X4 k f9) = (Sh.step q (kchunk (arg4.view.read (Elt F) X4) k.val hk) (vchunk (arg5.view.read (Elt F) X5) k.val hk) s).m1 := (show _ = k0_pay107 (k0_pay101 (k0_pay133 q) (arg4.view.readAt (Elt F) (Rect.unit (s := S1x16384x128) (k0_off16 i k) S1x1024x128.size (k0_off16_inb i k)).toLoadRect X4) (arg9.view.readAt (Elt F) (Rect.unit (s := S2x1x1024) ![1, 0, 0] S1x1x1024.size inb_S2x1x1024_S1x1x1024_1_0_0).toLoadRect f9)) from rfl).trans (by rw [ek, hs.m1] <;> rfl)
  have l1 : trip_k0_t3.sl.v254 i arg4 arg9 arg10 (k0_pay133 q) X4 k f9 f10 = (Sh.step q (kchunk (arg4.view.read (Elt F) X4) k.val hk) (vchunk (arg5.view.read (Elt F) X5) k.val hk) s).l1 := (show _ = k0_pay104 (k0_pay133 q) (arg4.view.readAt (Elt F) (Rect.unit (s := S1x16384x128) (k0_off16 i k) S1x1024x128.size (k0_off16_inb i k)).toLoadRect X4) (arg9.view.readAt (Elt F) (Rect.unit (s := S2x1x1024) ![1, 0, 0] S1x1x1024.size inb_S2x1x1024_S1x1x1024_1_0_0).toLoadRect f9) (arg10.view.readAt (Elt F) (Rect.unit (s := S2x1x1024) ![1, 0, 0] S1x1x1024.size inb_S2x1x1024_S1x1x1024_1_0_0).toLoadRect f10) from rfl).trans (by rw [ek, hs.m1, hs.l1] <;> rfl)
  have a1 : k0_pay137 (trip_k0_t3.sl.v261 i arg4 arg5 arg9 arg12 (k0_pay133 q) X4 X5 k f9 f12) = (Sh.step q (kchunk (arg4.view.read (Elt F) X4) k.val hk) (vchunk (arg5.view.read (Elt F) X5) k.val hk) s).a1 := (show _ = k0_pay106 (k0_pay105 (k0_pay133 q) (arg5.view.readAt (Elt F) (Rect.unit (s := S128x16384) (k0_off15 i k) S128x1024.size (k0_off15_inb i k)).toLoadRect X5) (arg4.view.readAt (Elt F) (Rect.unit (s := S1x16384x128) (k0_off16 i k) S1x1024x128.size (k0_off16_inb i k)).toLoadRect X4) (arg9.view.readAt (Elt F) (Rect.unit (s := S2x1x1024) ![1, 0, 0] S1x1x1024.size inb_S2x1x1024_S1x1x1024_1_0_0).toLoadRect f9) (arg12.view.readAt (Elt F) (Rect.unit (s := S2x128x1024) ![1, 0, 0] S1x128x1024.size inb_S2x128x1024_S1x128x1024_1_0_0).toLoadRect f12)) from rfl).trans (by rw [ek, ev, hs.m1, hs.a1] <;> rfl)
  exact Holds3.of_writes arg9.view arg10.view arg12.view f9 f10 f12 _ [] [] [] m0 m1 l0 l1 a0 a1

/-- The loop with the running maximum: before trip `k` the scratch holds the state after `k` chunks. -/
theorem holds_pb3 (q : Vec F S128x1024 .bf16) (v26 : BitVec 32) (v40 : BitVec 1) (c1_i32 : BitVec 32) (f9 : BufTy.Contents (Elt F) arg9.view.ty) (f10 : BufTy.Contents (Elt F) arg10.view.ty) (f12 : BufTy.Contents (Elt F) arg12.view.ty)
    (h : Holds3 arg9.view arg10.view arg12.view f9 f10 f12 Sh.init) : ∀ k : ℕ, k ≤ (k0_t3_loop i).trips →
    Holds3 arg9.view arg10.view arg12.view
      (arg9.view.writes (Elt F) f9 (pb_k0_t3 (F := F) 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 f9 f10 f12 k).1)
      (arg10.view.writes (Elt F) f10 (pb_k0_t3 (F := F) 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 f9 f10 f12 k).2.1)
      (arg12.view.writes (Elt F) f12 (pb_k0_t3 (F := F) 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 f9 f10 f12 k).2.2)
      (shAt q (arg4.view.read (Elt F) X4) (arg5.view.read (Elt F) X5) k)
  | 0, _ => h
  | k + 1, hk => by
    have ih := holds_pb3 q v26 v40 c1_i32 f9 f10 f12 h k (by omega)
    have ht : (k0_t3_loop i).trips ≤ 15 := by
      rw [trips3_eq]; have : (i 1).val < 16 := (i 1).isLt; omega
    have h3 : k < 16 := by omega
    have e := holds_trip3 𝒱 c bd i arg2 harg2 arg3 harg3 arg4 harg4 arg5 harg5 arg6 harg6 arg7 harg7 arg8 harg8 arg9 harg9 arg10 harg10 arg11 harg11 arg12 harg12 arg1 X4 X5 q v26 v40 c1_i32 ⟨k, hk⟩ _ _ _ _ ih h3
    rw [pb_k0_t3_succ 𝒱 c bd i arg2 harg2 arg3 harg3 arg4 harg4 arg5 harg5 arg6 harg6 arg7 harg7 arg8 harg8 arg9 harg9 arg10 harg10 arg11 harg11 arg12 harg12 arg1 (k0_pay132 q) (k0_pay133 q) v26 v40 c1_i32 X4 X5 f9 f10 f12 ⟨k, hk⟩]
    simp only [View.writes_append]
    rw [shAt, dif_pos h3]
    exact e

end Cert.KernelIdeal.Hand

end
-- ==== Proof.Hand.Part15.lean ====
/-
  The pair of unmasked chunks after the last whole group of four, in the branch without a running maximum.
-/
module

public import proofs.«01_k».proof.Proof.Hand.Trip
public import Idealize.ShloMosaic.Lib.Tactic
public import Idealize.ShloMosaic.Lib.LoopRemainder
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pipeline library's resource algebra. -/
local notation "𝕄" => MT nD τ sig Unit (Elt F) ℕ (UR sig nD τ) ℕ

/-- Memref `M`'s buffer on core `c` held whole at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

variable (𝒱 : Variants) (c : Dev nD) (bd : Option 𝒱.V) (E : Set ℕ) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole) (arg1 : BitVec 32)

theorem off5_eq : ∀ i : grid0.Coords, k0_off5 i = ![0, 1024 * (4 * ((i 1).val / 4))] := by decide +kernel
theorem off6_eq : ∀ i : grid0.Coords, k0_off6 i = ![0, 1024 * (4 * ((i 1).val / 4)), 0] := by decide +kernel
theorem off7_eq : ∀ i : grid0.Coords, k0_off7 i = ![0, 1024 * (4 * ((i 1).val / 4) + 1)] := by decide +kernel
theorem off8_eq : ∀ i : grid0.Coords, k0_off8 i = ![0, 1024 * (4 * ((i 1).val / 4) + 1), 0] := by decide +kernel
theorem off9_eq : ∀ i : grid0.Coords, k0_cond3 i = 1#1 → k0_off9 i = ![0, 1024 * ((i 1).val - 1)] := by decide +kernel
theorem off10_eq : ∀ i : grid0.Coords, k0_cond3 i = 1#1 → k0_off10 i = ![0, 1024 * ((i 1).val - 1), 0] := by decide +kernel

/-- The pair of chunks after the last whole group of four: from a state, two steps on. -/
theorem part15_spec (q : Vec F S128x1024 .bf16) (v21 : BitVec 32) (X4 : BufTy.Contents (Elt F) arg4.view.ty) (X5 : BufTy.Contents (Elt F) arg5.view.ty)
    (f11 : BufTy.Contents (Elt F) arg11.view.ty) (f12 : BufTy.Contents (Elt F) arg12.view.ty) (h2 : k0_cond2 i = 1#1)
    (h0 : 4 * ((i 1).val / 4) < 16) (h1 : 4 * ((i 1).val / 4) + 1 < 16) :
    iprop(pt c arg4 X4 ∗ pt c arg5 X5 ∗ pt c arg11 f11 ∗ pt c arg12 f12)
    ⊢ wp frame (wpE (defs₀ (F := F)) 𝒱 (c : Thread nD τ) bd) E
        (k0_part15 (F := F) i arg2 harg2 arg3 harg3 arg4 harg4 arg5 harg5 arg6 harg6 arg7 harg7 arg8 harg8 arg9 harg9 arg10 harg10 arg11 harg11 arg12 harg12 (k0_pay73 q) (k0_pay74 q) v21 h2)
        (fun _ => iprop(pt c arg4 X4 ∗ pt c arg5 X5
          ∗ ∃ f11' f12', pt c arg11 f11' ∗ pt c arg12 f12'
            ∗ ⌜∀ s, Holds arg11.view arg12.view f11 f12 s → Holds arg11.view arg12.view f11' f12'
                (St.step q (kchunk (arg4.view.read (Elt F) X4) (4 * ((i 1).val / 4) + 1) h1) (vchunk (arg5.view.read (Elt F) X5) (4 * ((i 1).val / 4) + 1) h1)
                (St.step q (kchunk (arg4.view.read (Elt F) X4) (4 * ((i 1).val / 4)) h0) (vchunk (arg5.view.read (Elt F) X5) (4 * ((i 1).val / 4)) h0) s))⌝)) := by
  rw [k0_part15_eq_skeleton]; unfold k0_part15_skel
  iintro ⟨H4, H5, H11, H12⟩
  sl_exec
  sl_step
  isplitl [H4]; · iexact H4
  isplitl [H5]; · iexact H5
  iexists _; iexists _
  isplitl [H11]; · iexact H11
  isplitl [H12]; · iexact H12
  ipureintro
  intro s hs
  have ek0 := readAt_kchunk arg4.view X4 _ h0 _ (off6_eq i) (k0_off6_inb i h2)
  have ev0 := readAt_vchunk arg5.view X5 _ h0 _ (off5_eq i) (k0_off5_inb i h2)
  have ek1 := readAt_kchunk arg4.view X4 _ h1 _ (off8_eq i) (k0_off8_inb i h2)
  have ev1 := readAt_vchunk arg5.view X5 _ h1 _ (off7_eq i) (k0_off7_inb i h2)
  have e : ∀ (g11 : BufTy.Contents (Elt F) arg11.view.ty) (g12 : BufTy.Contents (Elt F) arg12.view.ty),
      Holds arg11.view arg12.view (arg11.view.writes (Elt F) g11 (part15_spec.sl.H11_2 i arg4 arg11 q X4 f11 h2))
        (arg12.view.writes (Elt F) g12 (part15_spec.sl.H12_2 i arg4 arg5 arg12 q X4 X5 f12 h2)) _ :=
    fun g11 g12 => Holds.step arg11.view arg12.view s ek0 ev0 q g11 g12 [] [] hs.l0 hs.l1 hs.a0 hs.a1
  have e' := e arg11.view.junk arg12.view.junk
  exact Holds.step arg11.view arg12.view _ ek1 ev1 q f11 f12 (part15_spec.sl.H11_2 i arg4 arg11 q X4 f11 h2) (part15_spec.sl.H12_2 i arg4 arg5 arg12 q X4 X5 f12 h2)
    (rl1 := part15_spec.sl.v276 i arg4 arg11 q X4 f11 h2) (ra1 := part15_spec.sl.v284 i arg4 arg5 arg12 q X4 X5 f12 h2)
    e'.l0 ((readAt_miss _ _ _ _ _ _ 0 (Or.inr (by decide))).trans e'.l1) e'.a0 ((readAt_miss _ _ _ _ _ _ 0 (Or.inr (by decide))).trans e'.a1)

end Cert.KernelIdeal.Hand

end
-- ==== Proof.Hand.Part17.lean ====
/-
  The stretch of the body that walks the unmasked chunks without a running maximum: run once, it leaves the state after
  as many chunks as the grid point's second coordinate.
-/
module

public import proofs.«01_k».proof.Proof.Hand.Part15
public import Idealize.ShloMosaic.Lib.LoopRemainder

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pipeline library's resource algebra. -/
local notation "𝕄" => MT nD τ sig Unit (Elt F) ℕ (UR sig nD τ) ℕ

variable (𝒱 : Variants) (c : Dev nD) (bd : Option 𝒱.V) (E : Set ℕ) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole) (arg1 : BitVec 32)

theorem stAt_succ (q : Vec F S128x1024 .bf16) (X4 : Vec F S1x16384x128 .bf16) (X5 : Vec F S128x16384 .bf16) (k : ℕ) (h : k < 16) :
    stAt q X4 X5 (k + 1) = St.step q (kchunk X4 k h) (vchunk X5 k h) (stAt q X4 X5 k) := dif_pos h

/-- Both buffers just filled by their initial values hold the state before the first chunk. -/
theorem holds_init (v11 : View sig .tc .vmem S2x8x1024 .f32) (v12 : View sig .tc .vmem S2x128x1024 .f32)
    (f11 : v11.ty.Contents (Elt F)) (f12 : v12.ty.Contents (Elt F)) :
    Holds v11 v12
      (v11.writes (Elt F) f11 [⟨Rect.unit (s := S2x8x1024) ![0, 0, 0] S2x8x1024.size inb_S2x8x1024_S2x8x1024_0_0_0, k0_pay75 (F := F)⟩])
      (v12.writes (Elt F) f12 [⟨Rect.unit (s := S2x128x1024) ![0, 0, 0] S2x128x1024.size inb_S2x128x1024_S2x128x1024_0_0_0, k0_pay76 (F := F)⟩])
      (St.init (F := F)) where
  l0 := by funext x; rw [View.readAt_apply, View.read_writes_full]; rfl
  l1 := by funext x; rw [View.readAt_apply, View.read_writes_full]; rfl
  a0 := by funext x; rw [View.readAt_apply, View.read_writes_full]; rfl
  a1 := by funext x; rw [View.readAt_apply, View.read_writes_full]; rfl

/-- The walk over the unmasked chunks: whatever the scratch buffers held, they end at the state after as many chunks as
   the grid point's second coordinate. -/
theorem part17_spec (f3 : BufTy.Contents (Elt F) arg3.view.ty) (X4 : BufTy.Contents (Elt F) arg4.view.ty) (X5 : BufTy.Contents (Elt F) arg5.view.ty)
    (f11 : BufTy.Contents (Elt F) arg11.view.ty) (f12 : BufTy.Contents (Elt F) arg12.view.ty) :
    iprop(pt c arg3 f3 ∗ pt c arg4 X4 ∗ pt c arg5 X5 ∗ pt c arg11 f11 ∗ pt c arg12 f12)
    ⊢ wp frame (wpE (defs₀ (F := F)) 𝒱 (c : Thread nD τ) bd) E
        (k0_part17 (F := F) i arg2 harg2 arg3 harg3 arg4 harg4 arg5 harg5 arg6 harg6 arg7 harg7 arg8 harg8 arg9 harg9 arg10 harg10 arg11 harg11 arg12 harg12 arg1)
        (fun r => iprop(⌜r = ⟨k0_pay73 (arg3.view.read (Elt F) f3), k0_pay74 (arg3.view.read (Elt F) f3), Scalar.muli arg1 1024#32⟩⌝ ∗ pt c arg3 f3 ∗ pt c arg4 X4 ∗ pt c arg5 X5
          ∗ ∃ f11' f12', pt c arg11 f11' ∗ pt c arg12 f12'
            ∗ ⌜Holds arg11.view arg12.view f11' f12' (stAt (arg3.view.read (Elt F) f3) (arg4.view.read (Elt F) X4) (arg5.view.read (Elt F) X5) (i 1).val)⌝)) := by
  rw [k0_part17_eq_skeleton]; unfold k0_part17_skel
  have hi : (i 1).val < 16 := (i 1).isLt
  have h0 : 4 * ((i 1).val / 4) < 16 := by omega
  have h1 : 4 * ((i 1).val / 4) + 1 < 16 := by omega
  have cut := fun (g11 : BufTy.Contents (Elt F) arg11.view.ty) (g12 : BufTy.Contents (Elt F) arg12.view.ty) (h2 : k0_cond2 i = 1#1) =>
    part15_spec 𝒱 c bd E i arg2 harg2 arg3 harg3 arg4 harg4 arg5 harg5 arg6 harg6 arg7 harg7 arg8 harg8 arg9 harg9 arg10 harg10 arg11 harg11 arg12 harg12 (arg3.view.read (Elt F) f3) (Scalar.shrui arg1 2#32) X4 X5 g11 g12 h2 h0 h1
  have e3 : arg3.view.readAt (Elt F) (Rect.unit (s := S128x1024) ![0, 0] S128x1024.size inb_S128x1024_S128x1024_0_0).toLoadRect f3 = arg3.view.read (Elt F) f3 :=
    View.readAt_full _ _ _
  have base := holds_pb1 𝒱 c bd i arg2 harg2 arg3 harg3 arg4 harg4 arg5 harg5 arg6 harg6 arg7 harg7 arg8 harg8 arg9 harg9 arg10 harg10 arg11 harg11 arg12 harg12 arg1 (arg3.view.read (Elt F) f3) X4 X5 _ _
    (holds_init arg11.view arg12.view arg11.view.junk arg12.view.junk) (k0_t1_loop i).trips le_rfl
  rw [← View.writes_append, ← View.writes_append] at base
  have l2 : (i 1).val / 2 % 2 = 1 → ∀ q X Y, St.step (F := F) q (kchunk X (4 * ((i 1).val / 4) + 1) h1) (vchunk Y (4 * ((i 1).val / 4) + 1) h1)
      (St.step q (kchunk X (4 * ((i 1).val / 4)) h0) (vchunk Y (4 * ((i 1).val / 4)) h0) (stAt q X Y (4 * (k0_t1_loop i).trips))) = stAt q X Y ((i 1).val / 2 * 2) := by
    intro h q X Y
    rw [trips1_eq, ← stAt_succ, ← stAt_succ]; congr 1; omega
  have l2' : ¬ (i 1).val / 2 % 2 = 1 → 4 * (k0_t1_loop i).trips = (i 1).val / 2 * 2 := by rw [trips1_eq]; omega
  have l3 : (i 1).val % 2 = 1 → ∀ (h : (i 1).val - 1 < 16) q X Y, St.step (F := F) q (kchunk X ((i 1).val - 1) h) (vchunk Y ((i 1).val - 1) h) (stAt q X Y ((i 1).val / 2 * 2)) = stAt q X Y (i 1).val := by
    intro h h' q X Y
    rw [show (i 1).val / 2 * 2 = (i 1).val - 1 by omega, ← stAt_succ]; congr 1; omega
  have l3' : ¬ (i 1).val % 2 = 1 → (i 1).val / 2 * 2 = (i 1).val := by omega
  have hm : (i 1).val - 1 < 16 := by omega
  by_cases h2 : k0_cond2 i = 1#1 <;> by_cases h3 : k0_cond3 i = 1#1
  · iintro ⟨H3, H4, H5, H11, H12⟩
    sl_exec (disch := first | sl_exact h2 | sl_exact h3)
    sl_step
    isplitr; · ipureintro; rfl
    isplitl [H3]; · iexact H3
    isplitl [Hk0_part15_0]; · iexact Hk0_part15_0
    isplitl [Hk0_part15_1]; · iexact Hk0_part15_1
    iexists _; iexists _
    isplitl [Hk0_part15_2]; · iexact Hk0_part15_2
    isplitl [Hk0_part15_3]; · iexact Hk0_part15_3
    ipureintro
    have b := (by assumption : ∀ s, _ → _) _ base
    rw [l2 ((cond2_eq i).1 h2)] at b
    have ek := readAt_kchunk arg4.view X4 _ hm _ (off10_eq i h3) (k0_off10_inb i h3)
    have ev := readAt_vchunk arg5.view X5 _ hm _ (off9_eq i h3) (k0_off9_inb i h3)
    rw [← l3 ((cond3_eq i).1 h3) hm]
    exact Holds.step arg11.view arg12.view _ ek ev (arg3.view.read (Elt F) f3) _ _ _ _ b.l0 b.l1 b.a0 b.a1
  · iintro ⟨H3, H4, H5, H11, H12⟩
    sl_exec (disch := first | sl_exact h2 | sl_exact h3)
    sl_step
    isplitr; · ipureintro; rfl
    isplitl [H3]; · iexact H3
    isplitl [Hk0_part15_0]; · iexact Hk0_part15_0
    isplitl [Hk0_part15_1]; · iexact Hk0_part15_1
    iexists _; iexists _
    isplitl [Hk0_part15_2]; · iexact Hk0_part15_2
    isplitl [Hk0_part15_3]; · iexact Hk0_part15_3
    ipureintro
    have b := (by assumption : ∀ s, _ → _) _ base
    rw [l2 ((cond2_eq i).1 h2)] at b
    rw [l3' (fun h => h3 ((cond3_eq i).2 h))] at b
    exact b
  · iintro ⟨H3, H4, H5, H11, H12⟩
    sl_exec (disch := first | sl_exact h2 | sl_exact h3)
    sl_step
    isplitr; · ipureintro; rfl
    isplitl [H3]; · iexact H3
    isplitl [H4]; · iexact H4
    isplitl [H5]; · iexact H5
    iexists _; iexists _
    isplitl [H11]; · iexact H11
    isplitl [H12]; · iexact H12
    ipureintro
    have b := base
    rw [l2' (fun h => h2 ((cond2_eq i).2 h))] at b
    have ek := readAt_kchunk arg4.view X4 _ hm _ (off10_eq i h3) (k0_off10_inb i h3)
    have ev := readAt_vchunk arg5.view X5 _ hm _ (off9_eq i h3) (k0_off9_inb i h3)
    rw [← l3 ((cond3_eq i).1 h3) hm]
    exact Holds.step arg11.view arg12.view _ ek ev (arg3.view.read (Elt F) f3) _ _ _ _ b.l0 ((readAt_miss _ _ _ _ _ _ 0 (Or.inr (by decide))).trans b.l1) b.a0 ((readAt_miss _ _ _ _ _ _ 0 (Or.inr (by decide))).trans b.a1)
  · iintro ⟨H3, H4, H5, H11, H12⟩
    sl_exec (disch := first | sl_exact h2 | sl_exact h3)
    sl_step
    isplitr; · ipureintro; rfl
    isplitl [H3]; · iexact H3
    isplitl [H4]; · iexact H4
    isplitl [H5]; · iexact H5
    iexists _; iexists _
    isplitl [H11]; · iexact H11
    isplitl [H12]; · iexact H12
    ipureintro
    have b := base
    rw [l2' (fun h => h2 ((cond2_eq i).2 h))] at b
    rw [l3' (fun h => h3 ((cond3_eq i).2 h))] at b
    exact b

end Cert.KernelIdeal.Hand

end
-- ==== Proof.Hand.Out.lean ====
/-
  The block the kernel writes at a grid point, as a plain function of the blocks it reads: the state after the unmasked
  chunks, the masked diagonal chunk on top of it, and the normalisation of the difference of the two components.
-/
module

public import proofs.«01_k».proof.Proof.Hand.Model

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Halves of a slot -/

/-- The place inside its half of a place of a slot. -/
def half8 (x : S1x8x1024.Idx) : S1x8x512.Idx := fun a => ⟨if a.val = 2 then (x 2).val % 512 else (x a).val, by
  have h0 := (x 0).isLt; have h1 := (x 1).isLt; have h2 := (x 2).isLt
  fin_cases a <;> simp at * <;> omega⟩
/-- The place inside its half of a place of a slot. -/
def half128 (x : S1x128x1024.Idx) : S1x128x512.Idx := fun a => ⟨if a.val = 2 then (x 2).val % 512 else (x a).val, by
  have h0 := (x 0).isLt; have h1 := (x 1).isLt; have h2 := (x 2).isLt
  fin_cases a <;> simp at * <;> omega⟩

/-- A slot put together from its two halves. -/
def join8 (wl wr : Vec F S1x8x512 .f32) : Vec F S1x8x1024 .f32 := fun x => if (x 2).val < 512 then wl (half8 x) else wr (half8 x)
/-- A slot put together from its two halves. -/
def join128 (wl wr : Vec F S1x128x512 .f32) : Vec F S1x128x1024 .f32 := fun x => if (x 2).val < 512 then wl (half128 x) else wr (half128 x)

/-- The first half of a slot. -/
def left8 (X : Vec F S1x8x1024 .f32) : Vec F S1x8x512 .f32 := View.ld X (Rect.unit (s := S1x8x1024) ![0, 0, 0] S1x8x512.size (by decide))
/-- The second half of a slot. -/
def right8 (X : Vec F S1x8x1024 .f32) : Vec F S1x8x512 .f32 := View.ld X (Rect.unit (s := S1x8x1024) ![0, 0, 512] S1x8x512.size (by decide))
/-- The first half of a slot. -/
def left128 (X : Vec F S1x128x1024 .f32) : Vec F S1x128x512 .f32 := View.ld X (Rect.unit (s := S1x128x1024) ![0, 0, 0] S1x128x512.size (by decide))
/-- The second half of a slot. -/
def right128 (X : Vec F S1x128x1024 .f32) : Vec F S1x128x512 .f32 := View.ld X (Rect.unit (s := S1x128x1024) ![0, 0, 512] S1x128x512.size (by decide))

section Read
variable {sig : RefSig} {κ : Kind} {sp : Space} {s : Shape} {e : EltTy} {Val : EltTy → Type}

/-- Reading a rectangle inside another is reading inside what the other reads. -/
theorem readAt_inside (v : View sig κ sp s e) (f : v.ty.Contents Val) {off size off' size' o : Fin s.rank → ℕ} (inb : ∀ a, off a + size a ≤ s.size a)
    (inb' : ∀ a, off' a + size' a ≤ s.size a) (inb'' : ∀ a, o a + size' a ≤ size a) (h : ∀ a, off' a = off a + o a) :
    v.readAt Val (Rect.unit off' size' inb').toLoadRect f
      = View.ld (v.readAt Val (Rect.unit off size inb).toLoadRect f) (Rect.unit (s := ⟨s.rank, size⟩) o size' inb'') := by
  funext x
  show v.readAt Val _ f x = v.readAt Val _ f _
  rw [View.readAt_apply, View.readAt_apply]
  refine congrArg (v.read Val f) (funext fun a => Fin.ext ?_)
  show off' a + 1 * (x a).val = off a + 1 * (o a + 1 * (x a).val)
  rw [h a]; omega

end Read

/-- A slot written half by half reads as the two halves put together. -/
theorem readAt_join8 (v : View sig .tc .vmem S2x8x1024 .f32) (f : v.ty.Contents (Elt F)) (w0 w1 w2 w3 : Vec F S1x8x512 .f32) (L : List (View.Piece (Elt F) S2x8x1024 .f32))
    (G : v.ty.Contents (Elt F))
    (hG : G = (v.writes (Elt F) f (⟨Rect.unit (s := S2x8x1024) ![1, 0, 512] S1x8x512.size inb_S2x8x1024_S1x8x512_1_0_512, w3⟩
      :: ⟨Rect.unit (s := S2x8x1024) ![0, 0, 512] S1x8x512.size inb_S2x8x1024_S1x8x512_0_0_512, w1⟩
      :: ⟨Rect.unit (s := S2x8x1024) ![1, 0, 0] S1x8x512.size inb_S2x8x1024_S1x8x512_1_0_0, w2⟩
      :: ⟨Rect.unit (s := S2x8x1024) ![0, 0, 0] S1x8x512.size inb_S2x8x1024_S1x8x512_0_0_0, w0⟩ :: L))) :
    v.readAt (Elt F) (Rect.unit (s := S2x8x1024) ![0, 0, 0] S1x8x1024.size inb_S2x8x1024_S1x8x1024_0_0_0).toLoadRect G = join8 w0 w1
    ∧ v.readAt (Elt F) (Rect.unit (s := S2x8x1024) ![1, 0, 0] S1x8x1024.size inb_S2x8x1024_S1x8x1024_1_0_0).toLoadRect G = join8 w2 w3 := by
  subst hG
  constructor
  · funext x
    have h0 : (x 0).val < 1 := (x 0).isLt
    have h2 : (x 2).val < 1024 := (x 2).isLt
    rw [View.readAt_apply, View.read_writes_cons_unit_of_not_mem v _ _ _ _ _ rfl 0 (by left; show 0 + 1 * (x 0).val < 1; omega)]
    unfold join8
    split
    · rw [View.read_writes_cons_unit_of_not_mem v _ _ _ _ _ rfl 2 (by left; show 0 + 1 * (x 2).val < 512; omega),
        View.read_writes_cons_unit_of_not_mem v _ _ _ _ _ rfl 0 (by left; show 0 + 1 * (x 0).val < 1; omega)]
      exact View.read_writes_cons_unit_of_mem v _ _ _ _ _ (half8 x) rfl (fun a => by
        fin_cases a <;> simp [half8, Rect.unit, Rect.toLoadRect, LoadRect.idx] <;> omega)
    · exact View.read_writes_cons_unit_of_mem v _ _ _ _ _ (half8 x) rfl (fun a => by
        fin_cases a <;> simp [half8, Rect.unit, Rect.toLoadRect, LoadRect.idx] <;> omega)
  · funext x
    have h0 : (x 0).val < 1 := (x 0).isLt
    have h2 : (x 2).val < 1024 := (x 2).isLt
    rw [View.readAt_apply]
    unfold join8
    split
    · rw [View.read_writes_cons_unit_of_not_mem v _ _ _ _ _ rfl 2 (by left; show 0 + 1 * (x 2).val < 512; omega),
        View.read_writes_cons_unit_of_not_mem v _ _ _ _ _ rfl 0 (by right; show 0 + 1 ≤ 1 + 1 * (x 0).val; omega)]
      exact View.read_writes_cons_unit_of_mem v _ _ _ _ _ (half8 x) rfl (fun a => by
        fin_cases a <;> simp [half8, Rect.unit, Rect.toLoadRect, LoadRect.idx] <;> omega)
    · exact View.read_writes_cons_unit_of_mem v _ _ _ _ _ (half8 x) rfl (fun a => by
        fin_cases a <;> simp [half8, Rect.unit, Rect.toLoadRect, LoadRect.idx] <;> omega)

/-- A slot written half by half reads as the two halves put together. -/
theorem readAt_join128 (v : View sig .tc .vmem S2x128x1024 .f32) (f : v.ty.Contents (Elt F)) (w0 w1 w2 w3 : Vec F S1x128x512 .f32) (L : List (View.Piece (Elt F) S2x128x1024 .f32))
    (G : v.ty.Contents (Elt F))
    (hG : G = (v.writes (Elt F) f (⟨Rect.unit (s := S2x128x1024) ![1, 0, 512] S1x128x512.size inb_S2x128x1024_S1x128x512_1_0_512, w3⟩
      :: ⟨Rect.unit (s := S2x128x1024) ![0, 0, 512] S1x128x512.size inb_S2x128x1024_S1x128x512_0_0_512, w1⟩
      :: ⟨Rect.unit (s := S2x128x1024) ![1, 0, 0] S1x128x512.size inb_S2x128x1024_S1x128x512_1_0_0, w2⟩
      :: ⟨Rect.unit (s := S2x128x1024) ![0, 0, 0] S1x128x512.size inb_S2x128x1024_S1x128x512_0_0_0, w0⟩ :: L))) :
    v.readAt (Elt F) (Rect.unit (s := S2x128x1024) ![0, 0, 0] S1x128x1024.size inb_S2x128x1024_S1x128x1024_0_0_0).toLoadRect G = join128 w0 w1
    ∧ v.readAt (Elt F) (Rect.unit (s := S2x128x1024) ![1, 0, 0] S1x128x1024.size inb_S2x128x1024_S1x128x1024_1_0_0).toLoadRect G = join128 w2 w3 := by
  subst hG
  constructor
  · funext x
    have h0 : (x 0).val < 1 := (x 0).isLt
    have h2 : (x 2).val < 1024 := (x 2).isLt
    rw [View.readAt_apply, View.read_writes_cons_unit_of_not_mem v _ _ _ _ _ rfl 0 (by left; show 0 + 1 * (x 0).val < 1; omega)]
    unfold join128
    split
    · rw [View.read_writes_cons_unit_of_not_mem v _ _ _ _ _ rfl 2 (by left; show 0 + 1 * (x 2).val < 512; omega),
        View.read_writes_cons_unit_of_not_mem v _ _ _ _ _ rfl 0 (by left; show 0 + 1 * (x 0).val < 1; omega)]
      exact View.read_writes_cons_unit_of_mem v _ _ _ _ _ (half128 x) rfl (fun a => by
        fin_cases a <;> simp [half128, Rect.unit, Rect.toLoadRect, LoadRect.idx] <;> omega)
    · exact View.read_writes_cons_unit_of_mem v _ _ _ _ _ (half128 x) rfl (fun a => by
        fin_cases a <;> simp [half128, Rect.unit, Rect.toLoadRect, LoadRect.idx] <;> omega)
  · funext x
    have h0 : (x 0).val < 1 := (x 0).isLt
    have h2 : (x 2).val < 1024 := (x 2).isLt
    rw [View.readAt_apply]
    unfold join128
    split
    · rw [View.read_writes_cons_unit_of_not_mem v _ _ _ _ _ rfl 2 (by left; show 0 + 1 * (x 2).val < 512; omega),
        View.read_writes_cons_unit_of_not_mem v _ _ _ _ _ rfl 0 (by right; show 0 + 1 ≤ 1 + 1 * (x 0).val; omega)]
      exact View.read_writes_cons_unit_of_mem v _ _ _ _ _ (half128 x) rfl (fun a => by
        fin_cases a <;> simp [half128, Rect.unit, Rect.toLoadRect, LoadRect.idx] <;> omega)
    · exact View.read_writes_cons_unit_of_mem v _ _ _ _ _ (half128 x) rfl (fun a => by
        fin_cases a <;> simp [half128, Rect.unit, Rect.toLoadRect, LoadRect.idx] <;> omega)

/-! ## The unmasked branch's block -/

/-- The first 512 keys of the diagonal chunk. -/
def kdiag (X : Vec F S1x16384x128 .bf16) (n : ℕ) (h : n < 16) : Vec F S1x512x128 .bf16 :=
  View.ld X (Rect.unit (s := S1x16384x128) ![0, 1024 * n, 0] S1x512x128.size (fun a => by fin_cases a <;> simp <;> omega))
/-- The first 512 values of the diagonal chunk. -/
def vdiag (X : Vec F S128x16384 .bf16) (n : ℕ) (h : n < 16) : Vec F S128x512 .bf16 :=
  View.ld X (Rect.unit (s := S128x16384) ![0, 1024 * n] S128x512.size (fun a => by fin_cases a <;> simp <;> omega))

/-- A load of 512 key rows at `1024 n` is the diagonal chunk's first half. -/
theorem readAt_kdiag (v : View sig .tc .vmem S1x16384x128 .bf16) (X : v.ty.Contents (Elt F)) (n : ℕ) (h : n < 16) (off : Fin 3 → ℕ)
    (ho : off = ![0, 1024 * n, 0]) (inb : ∀ a, off a + S1x512x128.size a ≤ S1x16384x128.size a) :
    v.readAt (Elt F) (Rect.unit (s := S1x16384x128) off S1x512x128.size inb).toLoadRect X = kdiag (v.read (Elt F) X) n h := by
  subst ho; rfl
/-- A load of 512 value columns at `1024 n` is the diagonal chunk's first half. -/
theorem readAt_vdiag (v : View sig .tc .vmem S128x16384 .bf16) (X : v.ty.Contents (Elt F)) (n : ℕ) (h : n < 16) (off : Fin 2 → ℕ)
    (ho : off = ![0, 1024 * n]) (inb : ∀ a, off a + S128x512.size a ≤ S128x16384.size a) :
    v.readAt (Elt F) (Rect.unit (s := S128x16384) off S128x512.size inb).toLoadRect X = vdiag (v.read (Elt F) X) n h := by
  subst ho; rfl

/-- One component's attention output, from its partial sums and the diagonal chunk. -/
def compU (qc : FVec F S128x1024 .bf16) (k5 : Vec F S1x512x128 .bf16) (v5 : Vec F S128x512 .bf16) (kd : Vec F S1x1024x128 .bf16)
    (vd : Vec F S128x1024 .bf16) (l : Vec F S1x8x1024 .f32) (a : Vec F S1x128x1024 .f32) : FVec F S128x1024 .f32 :=
  k0_pay96 (join8 (k0_pay81 qc k5 (left8 l)) (k0_pay90 (k0_pay88 (right8 l)) (k0_pay89 qc k0_pay79 kd)))
    (join128 (k0_pay82 qc v5 k5 (left128 a)) (k0_pay91 vd (k0_pay87 qc k0_pay79 kd) (right128 a)))

/-- The block of the branch without a running maximum. -/
def outU (q : Vec F S128x1024 .bf16) (X4 : Vec F S1x16384x128 .bf16) (X5 : Vec F S128x16384 .bf16) (lam : Vec F S4x64 .f32) (sub : Vec F S128x1 .f32)
    (n : ℕ) (h : n < 16) : FVec F S128x1024 .f32 :=
  k0_pay1 (compU (k0_pay73 q) (kdiag X4 n h) (vdiag X5 n h) (kchunk X4 n h) (vchunk X5 n h) (stAt q X4 X5 n).l0 (stAt q X4 X5 n).a0)
    (compU (k0_pay74 q) (kdiag X4 n h) (vdiag X5 n h) (kchunk X4 n h) (vchunk X5 n h) (stAt q X4 X5 n).l1 (stAt q X4 X5 n).a1)
    (k0_pay98 lam) (Scalar.ofBits .f32 0x3E4CCCCD#32) sub

/-! ## The masked branch's block -/

/-- The grid point's second coordinate as a word, times 1024, over 1024. -/
def quot (a : BitVec 32) : BitVec 32 := Scalar.divsi (Scalar.muli a 1024#32) 1024#32
/-- Whether that division is to be rounded down by one more. -/
def fix (a : BitVec 32) : BitVec 1 :=
  Scalar.andi (Scalar.cmpi .ne (Scalar.subi (Scalar.extui (Scalar.cmpi .sgt (Scalar.muli a 1024#32) 0#32)) (Scalar.extui (Scalar.cmpi .slt (Scalar.muli a 1024#32) 0#32)))
    (Scalar.subi (Scalar.extui (Scalar.cmpi .sgt 1024#32 0#32)) (Scalar.extui (Scalar.cmpi .slt 1024#32 0#32))))
    (Scalar.cmpi .ne (Scalar.remsi (Scalar.muli a 1024#32) 1024#32) 0#32)
/-- The word the diagonal chunk's keys start from. -/
def keyBase (a : BitVec 32) : BitVec 32 := Scalar.muli (Scalar.addi (Scalar.select (fix a) (Scalar.subi (quot a) 1#32) (quot a)) 0#32) 1024#32

/-- The masked scores of the diagonal chunk. -/
def scoreS (a : BitVec 32) (qc : FVec F S128x1024 .bf16) (kd : Vec F S1x1024x128 .bf16) : FVec F S1024x1024 .f32 :=
  k0_pay150 a qc (keyBase a) kd

/-- The block of the branch with a running maximum. -/
def outS (a : BitVec 32) (q : Vec F S128x1024 .bf16) (X4 : Vec F S1x16384x128 .bf16) (X5 : Vec F S128x16384 .bf16) (lam : Vec F S4x64 .f32) (sub : Vec F S128x1 .f32)
    (n : ℕ) (h : n < 16) : FVec F S128x1024 .f32 :=
  k0_pay2 (k0_pay159
    (k0_pay158 (k0_pay156 (vchunk X5 n h) (scoreS a (k0_pay132 q) (kchunk X4 n h)) (shAt q X4 X5 n).m0 (shAt q X4 X5 n).a0))
    (k0_pay155 (scoreS a (k0_pay132 q) (kchunk X4 n h)) (shAt q X4 X5 n).m0 (shAt q X4 X5 n).l0)
    (k0_pay156 (vchunk X5 n h) (scoreS a (k0_pay133 q) (kchunk X4 n h)) (shAt q X4 X5 n).m1 (shAt q X4 X5 n).a1)
    (k0_pay155 (scoreS a (k0_pay133 q) (kchunk X4 n h)) (shAt q X4 X5 n).m1 (shAt q X4 X5 n).l1) lam sub) k0_pay160

/-- The block the kernel writes: the bound decides the branch. -/
def outBlock (b : F .f32) (i : grid0.Coords) (q : Vec F S128x1024 .bf16) (X4 : Vec F S1x16384x128 .bf16) (X5 : Vec F S128x16384 .bf16) (lam : Vec F S4x64 .f32) (sub : Vec F S128x1 .f32) :
    FVec F S128x1024 .f32 :=
  if Scalar.cmpf .ole b (Scalar.ofBits .f32 0x42C00000#32) = 1#1 then outU q X4 X5 lam sub (i 1).val (i 1).isLt
  else outS (BitVec.ofNat 32 (i 1).val) q X4 X5 lam sub (i 1).val (i 1).isLt

end Cert.KernelIdeal.Hand

end
-- ==== Proof.Hand.BodyU.lean ====
/-
  The whole body when the bound lets it go without a running maximum: the block it writes.
-/
module

public import proofs.«01_k».proof.Proof.Hand.Part17
public import proofs.«01_k».proof.Proof.Hand.Out

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pipeline library's resource algebra. -/
local notation "𝕄" => MT nD τ sig Unit (Elt F) ℕ (UR sig nD τ) ℕ

variable (𝒱 : Variants) (c : Dev nD) (bd : Option 𝒱.V) (E : Set ℕ) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole)

/-- The branch is taken when its bit is set. -/
theorem taken (b : BitVec 1) (h : b = 1#1) : Scalar.cmpi .ne (Scalar.extui b : BitVec 32) 0#32 = 1#1 := by subst h; decide
/-- The other branch is not taken when the bit is set. -/
theorem not_taken (b : BitVec 1) (h : b = 1#1) : ¬ Scalar.cmpi .ne (Scalar.extui (Scalar.xori b 1#1) : BitVec 32) 0#32 = 1#1 := by subst h; decide
/-- The branch is not taken when its bit is clear. -/
theorem not_taken' (b : BitVec 1) (h : ¬ b = 1#1) : ¬ Scalar.cmpi .ne (Scalar.extui b : BitVec 32) 0#32 = 1#1 := by
  have : b = 0#1 := by revert h; revert b; decide
  subst this; decide
/-- The other branch is taken when the bit is clear. -/
theorem taken' (b : BitVec 1) (h : ¬ b = 1#1) : Scalar.cmpi .ne (Scalar.extui (Scalar.xori b 1#1) : BitVec 32) 0#32 = 1#1 := by
  have : b = 0#1 := by revert h; revert b; decide
  subst this; decide

/-- The only position of the bound's array. -/
abbrev only : S1.Idx := fun _ => ⟨0, by rename_i a; revert a; decide⟩

/-- Reading the bound's array at any position reads its only element. -/
theorem readAt_only (v : View sig .tc .smem S1 .f32) (f : v.ty.Contents (Elt F)) (x : S1.Idx) :
    v.readAt (Elt F) (Rect.unit (s := S1) ![0] S1.size inb_S1_S1_0).toLoadRect f x = v.read (Elt F) f only := by
  have h : v.readAt (Elt F) (Rect.unit (s := S1) ![0] S1.size inb_S1_S1_0).toLoadRect f = v.read (Elt F) f := View.readAt_full _ _ _
  refine (congrFun h x).trans (congrArg _ ?_)
  funext a
  match a with
  | ⟨0, _⟩ => exact Subsingleton.elim (α := Fin 1) _ _

/-- The body in the branch without a running maximum: the block it writes, whatever the scratch buffers held. -/
theorem body_U (f2 : BufTy.Contents (Elt F) arg2.view.ty) (f3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty)
    (f11 : BufTy.Contents (Elt F) arg11.view.ty) (f12 : BufTy.Contents (Elt F) arg12.view.ty)
    (hb : Scalar.cmpf .ole (arg2.view.read (Elt F) f2 only) (Scalar.ofBits (F := F) .f32 0x42C00000#32) = 1#1) :
    iprop(pt c arg2 f2 ∗ pt c arg3 f3 ∗ pt c arg4 X4 ∗ pt c arg5 X5 ∗ pt c arg6 f6 ∗ pt c arg7 f7 ∗ pt c arg8 f8 ∗ pt c arg11 f11 ∗ pt c arg12 f12)
    ⊢ wp frame (wpE (defs₀ (F := F)) 𝒱 (c : Thread nD τ) bd) E
        (cc0_diff_attention (F := F) i arg2 harg2 arg3 harg3 arg4 harg4 arg5 harg5 arg6 harg6 arg7 harg7 arg8 harg8 arg9 harg9 arg10 harg10 arg11 harg11 arg12 harg12)
        (fun _ => iprop(pt c arg2 f2 ∗ pt c arg3 f3 ∗ pt c arg4 X4 ∗ pt c arg5 X5 ∗ pt c arg6 f6 ∗ pt c arg7 f7
          ∗ ∃ f8' f11' f12', pt c arg8 f8' ∗ pt c arg11 f11' ∗ pt c arg12 f12'
            ∗ ⌜arg8.view.read (Elt F) f8' = outU (arg3.view.read (Elt F) f3) (arg4.view.read (Elt F) X4) (arg5.view.read (Elt F) X5)
                (arg6.view.read (Elt F) f6) (arg7.view.read (Elt F) f7) (i 1).val (i 1).isLt⌝)) := by
  rw [cc0_diff_attention_eq_skeleton]; unfold cc0_diff_attention_skel
  have cut := fun (g11 : BufTy.Contents (Elt F) arg11.view.ty) (g12 : BufTy.Contents (Elt F) arg12.view.ty) =>
    part17_spec 𝒱 c bd E i arg2 harg2 arg3 harg3 arg4 harg4 arg5 harg5 arg6 harg6 arg7 harg7 arg8 harg8 arg9 harg9 arg10 harg10 arg11 harg11 arg12 harg12 (BitVec.ofNat 32 (i 1).val) f3 X4 X5 g11 g12
  iintro ⟨H2, H3, H4, H5, H6, H7, H8, H11, H12⟩
  sl_exec
  have hb' : body_U.sl.v1 arg2 f2 = 1#1 :=
    (congrArg (fun r => Scalar.cmpf .ole r (Scalar.ofBits (F := F) .f32 0x42C00000#32)) (readAt_only arg2.view f2 _)).trans hb
  have hv3 : body_U.sl.v3 arg2 f2 = 1#1 := taken _ hb'
  sl_exec
  have hv6 : ¬ body_U.sl.v6 arg2 f2 = 1#1 := not_taken _ hb'
  sl_exec
  sl_step
  isplitl [H2]; · iexact H2
  isplitl [Hk0_part17_1]; · iexact Hk0_part17_1
  isplitl [Hk0_part17_2]; · iexact Hk0_part17_2
  isplitl [Hk0_part17_3]; · iexact Hk0_part17_3
  isplitl [H6]; · iexact H6
  isplitl [H7]; · iexact H7
  iexists _; iexists _; iexists _
  isplitl [H8]; · iexact H8
  isplitl [Hk0_part17_4]; · iexact Hk0_part17_4
  isplitl [Hk0_part17_5]; · iexact Hk0_part17_5
  ipureintro
  rw [View.read_writes_full]
  clear cut
  obtain ⟨h10, h12, -⟩ : v10 = k0_pay73 (arg3.view.read (Elt F) f3) ∧ v12 = k0_pay74 (arg3.view.read (Elt F) f3) ∧ True := by
    refine ⟨congrArg (fun r => r.1) hk0_part17_0, congrArg (fun r => r.2.1) hk0_part17_0, trivial⟩
  generalize f11'k0_part17_0 = g11 at *
  generalize f12'k0_part17_1 = g12 at *
  have hs := hk0_part17_6
  have hi : (i 1).val < 16 := (i 1).isLt
  have e6 : arg6.view.readAt (Elt F) (Rect.unit (s := S4x64) ![0, 0] S4x64.size inb_S4x64_S4x64_0_0).toLoadRect f6 = arg6.view.read (Elt F) f6 := View.readAt_full _ _ _
  have e7 : arg7.view.readAt (Elt F) (Rect.unit (s := S128x1) ![0, 0] S128x1.size inb_S128x1_S128x1_0_0).toLoadRect f7 = arg7.view.read (Elt F) f7 := View.readAt_full _ _ _
  have ek := readAt_kchunk arg4.view X4 _ hi _ (k0_off14_eq i) (k0_off14_inb i)
  have ev := readAt_vchunk arg5.view X5 _ hi _ (k0_off13_eq i) (k0_off13_inb i)
  have ekd := readAt_kdiag arg4.view X4 _ hi _ (k0_off12_eq i) (k0_off12_inb i)
  have evd := readAt_vdiag arg5.view X5 _ hi _ (k0_off11_eq i) (k0_off11_inb i)
  have j8 := readAt_join8 arg11.view arg11.view.junk _ _ _ _ [] (arg11.view.writes (Elt F) arg11.view.junk (body_U.sl.Hk0_part17_4_4 i arg4 arg11 X4 v10 v12 g11)) rfl
  have j128 := readAt_join128 arg12.view arg12.view.junk _ _ _ _ [] (arg12.view.writes (Elt F) arg12.view.junk (body_U.sl.Hk0_part17_5_4 i arg4 arg5 arg12 X4 X5 v10 v12 g12)) rfl
  have ll0 : arg11.view.readAt (Elt F) (Rect.unit (s := S2x8x1024) ![0, 0, 0] S1x8x512.size inb_S2x8x1024_S1x8x512_0_0_0).toLoadRect g11 = left8 _ :=
    (readAt_inside (o := ![0, 0, 0]) arg11.view g11 inb_S2x8x1024_S1x8x1024_0_0_0 inb_S2x8x1024_S1x8x512_0_0_0 (by decide) (by decide)).trans (congrArg left8 hs.l0)
  have ll1 : arg11.view.readAt (Elt F) (Rect.unit (s := S2x8x1024) ![1, 0, 0] S1x8x512.size inb_S2x8x1024_S1x8x512_1_0_0).toLoadRect g11 = left8 _ :=
    (readAt_inside (o := ![0, 0, 0]) arg11.view g11 inb_S2x8x1024_S1x8x1024_1_0_0 inb_S2x8x1024_S1x8x512_1_0_0 (by decide) (by decide)).trans (congrArg left8 hs.l1)
  have lr0 : arg11.view.readAt (Elt F) (Rect.unit (s := S2x8x1024) ![0, 0, 512] S1x8x512.size inb_S2x8x1024_S1x8x512_0_0_512).toLoadRect g11 = right8 _ :=
    (readAt_inside (o := ![0, 0, 512]) arg11.view g11 inb_S2x8x1024_S1x8x1024_0_0_0 inb_S2x8x1024_S1x8x512_0_0_512 (by decide) (by decide)).trans (congrArg right8 hs.l0)
  have lr1 : arg11.view.readAt (Elt F) (Rect.unit (s := S2x8x1024) ![1, 0, 512] S1x8x512.size inb_S2x8x1024_S1x8x512_1_0_512).toLoadRect g11 = right8 _ :=
    (readAt_inside (o := ![0, 0, 512]) arg11.view g11 inb_S2x8x1024_S1x8x1024_1_0_0 inb_S2x8x1024_S1x8x512_1_0_512 (by decide) (by decide)).trans (congrArg right8 hs.l1)
  have al0 : arg12.view.readAt (Elt F) (Rect.unit (s := S2x128x1024) ![0, 0, 0] S1x128x512.size inb_S2x128x1024_S1x128x512_0_0_0).toLoadRect g12 = left128 _ :=
    (readAt_inside (o := ![0, 0, 0]) arg12.view g12 inb_S2x128x1024_S1x128x1024_0_0_0 inb_S2x128x1024_S1x128x512_0_0_0 (by decide) (by decide)).trans (congrArg left128 hs.a0)
  have al1 : arg12.view.readAt (Elt F) (Rect.unit (s := S2x128x1024) ![1, 0, 0] S1x128x512.size inb_S2x128x1024_S1x128x512_1_0_0).toLoadRect g12 = left128 _ :=
    (readAt_inside (o := ![0, 0, 0]) arg12.view g12 inb_S2x128x1024_S1x128x1024_1_0_0 inb_S2x128x1024_S1x128x512_1_0_0 (by decide) (by decide)).trans (congrArg left128 hs.a1)
  have ar0 : arg12.view.readAt (Elt F) (Rect.unit (s := S2x128x1024) ![0, 0, 512] S1x128x512.size inb_S2x128x1024_S1x128x512_0_0_512).toLoadRect g12 = right128 _ :=
    (readAt_inside (o := ![0, 0, 512]) arg12.view g12 inb_S2x128x1024_S1x128x1024_0_0_0 inb_S2x128x1024_S1x128x512_0_0_512 (by decide) (by decide)).trans (congrArg right128 hs.a0)
  have ar1 : arg12.view.readAt (Elt F) (Rect.unit (s := S2x128x1024) ![1, 0, 512] S1x128x512.size inb_S2x128x1024_S1x128x512_1_0_512).toLoadRect g12 = right128 _ :=
    (readAt_inside (o := ![0, 0, 512]) arg12.view g12 inb_S2x128x1024_S1x128x1024_1_0_0 inb_S2x128x1024_S1x128x512_1_0_512 (by decide) (by decide)).trans (congrArg right128 hs.a1)
  refine (show _ = k0_pay1 (k0_pay96 (arg11.view.readAt (Elt F) (Rect.unit (s := S2x8x1024) ![0, 0, 0] S1x8x1024.size inb_S2x8x1024_S1x8x1024_0_0_0).toLoadRect (arg11.view.writes (Elt F) arg11.view.junk (body_U.sl.Hk0_part17_4_4 i arg4 arg11 X4 v10 v12 g11)))
      (arg12.view.readAt (Elt F) (Rect.unit (s := S2x128x1024) ![0, 0, 0] S1x128x1024.size inb_S2x128x1024_S1x128x1024_0_0_0).toLoadRect (arg12.view.writes (Elt F) arg12.view.junk (body_U.sl.Hk0_part17_5_4 i arg4 arg5 arg12 X4 X5 v10 v12 g12))))
    (k0_pay96 (arg11.view.readAt (Elt F) (Rect.unit (s := S2x8x1024) ![1, 0, 0] S1x8x1024.size inb_S2x8x1024_S1x8x1024_1_0_0).toLoadRect (arg11.view.writes (Elt F) arg11.view.junk (body_U.sl.Hk0_part17_4_4 i arg4 arg11 X4 v10 v12 g11)))
      (arg12.view.readAt (Elt F) (Rect.unit (s := S2x128x1024) ![1, 0, 0] S1x128x1024.size inb_S2x128x1024_S1x128x1024_1_0_0).toLoadRect (arg12.view.writes (Elt F) arg12.view.junk (body_U.sl.Hk0_part17_5_4 i arg4 arg5 arg12 X4 X5 v10 v12 g12))))
    (k0_pay98 (arg6.view.readAt (Elt F) (Rect.unit (s := S4x64) ![0, 0] S4x64.size inb_S4x64_S4x64_0_0).toLoadRect f6)) (Scalar.ofBits .f32 0x3E4CCCCD#32)
    (arg7.view.readAt (Elt F) (Rect.unit (s := S128x1) ![0, 0] S128x1.size inb_S128x1_S128x1_0_0).toLoadRect f7) from rfl).trans ?_
  rw [j8.1, j8.2, j128.1, j128.2, e6, e7]
  have w0 : body_U.sl.v57 i arg4 arg11 X4 v10 g11 = k0_pay81 _ _ _ :=
    (show _ = k0_pay81 v10 (arg4.view.readAt (Elt F) (Rect.unit (s := S1x16384x128) (k0_off12 i) S1x512x128.size (k0_off12_inb i)).toLoadRect X4) (arg11.view.readAt (Elt F) (Rect.unit (s := S2x8x1024) ![0, 0, 0] S1x8x512.size inb_S2x8x1024_S1x8x512_0_0_0).toLoadRect g11) from rfl).trans (by rw [h10, ekd, ll0])
  have w2 : body_U.sl.v81 i arg4 arg11 X4 v12 g11 = k0_pay81 _ _ _ :=
    (show _ = k0_pay81 v12 (arg4.view.readAt (Elt F) (Rect.unit (s := S1x16384x128) (k0_off12 i) S1x512x128.size (k0_off12_inb i)).toLoadRect X4) (arg11.view.readAt (Elt F) (Rect.unit (s := S2x8x1024) ![1, 0, 0] S1x8x512.size inb_S2x8x1024_S1x8x512_1_0_0).toLoadRect g11) from rfl).trans (by rw [h12, ekd, ll1])
  have w1 : body_U.sl.v110 i arg4 arg11 X4 v10 g11 = k0_pay90 (k0_pay88 _) (k0_pay89 _ _ _) :=
    (show _ = k0_pay90 (k0_pay88 (arg11.view.readAt (Elt F) (Rect.unit (s := S2x8x1024) ![0, 0, 512] S1x8x512.size inb_S2x8x1024_S1x8x512_0_0_512).toLoadRect g11)) (k0_pay89 v10 k0_pay79 (arg4.view.readAt (Elt F) (Rect.unit (s := S1x16384x128) (k0_off14 i) S1x1024x128.size (k0_off14_inb i)).toLoadRect X4)) from rfl).trans (by rw [h10, ek, lr0])
  have w3 : body_U.sl.v137 i arg4 arg11 X4 v12 g11 = k0_pay90 (k0_pay88 _) (k0_pay89 _ _ _) :=
    (show _ = k0_pay90 (k0_pay88 (arg11.view.readAt (Elt F) (Rect.unit (s := S2x8x1024) ![1, 0, 512] S1x8x512.size inb_S2x8x1024_S1x8x512_1_0_512).toLoadRect g11)) (k0_pay89 v12 k0_pay79 (arg4.view.readAt (Elt F) (Rect.unit (s := S1x16384x128) (k0_off14 i) S1x1024x128.size (k0_off14_inb i)).toLoadRect X4)) from rfl).trans (by rw [h12, ek, lr1])
  have u0 : body_U.sl.v65 i arg4 arg5 arg12 X4 X5 v10 g12 = k0_pay82 _ _ _ _ :=
    (show _ = k0_pay82 v10 (arg5.view.readAt (Elt F) (Rect.unit (s := S128x16384) (k0_off11 i) S128x512.size (k0_off11_inb i)).toLoadRect X5) (arg4.view.readAt (Elt F) (Rect.unit (s := S1x16384x128) (k0_off12 i) S1x512x128.size (k0_off12_inb i)).toLoadRect X4) (arg12.view.readAt (Elt F) (Rect.unit (s := S2x128x1024) ![0, 0, 0] S1x128x512.size inb_S2x128x1024_S1x128x512_0_0_0).toLoadRect g12) from rfl).trans (by rw [h10, ekd, evd, al0])
  have u2 : body_U.sl.v89 i arg4 arg5 arg12 X4 X5 v12 g12 = k0_pay82 _ _ _ _ :=
    (show _ = k0_pay82 v12 (arg5.view.readAt (Elt F) (Rect.unit (s := S128x16384) (k0_off11 i) S128x512.size (k0_off11_inb i)).toLoadRect X5) (arg4.view.readAt (Elt F) (Rect.unit (s := S1x16384x128) (k0_off12 i) S1x512x128.size (k0_off12_inb i)).toLoadRect X4) (arg12.view.readAt (Elt F) (Rect.unit (s := S2x128x1024) ![1, 0, 0] S1x128x512.size inb_S2x128x1024_S1x128x512_1_0_0).toLoadRect g12) from rfl).trans (by rw [h12, ekd, evd, al1])
  have u1 : body_U.sl.v118 i arg4 arg5 arg12 X4 X5 v10 g12 = k0_pay91 _ (k0_pay87 _ _ _) _ :=
    (show _ = k0_pay91 (arg5.view.readAt (Elt F) (Rect.unit (s := S128x16384) (k0_off13 i) S128x1024.size (k0_off13_inb i)).toLoadRect X5) (k0_pay87 v10 k0_pay79 (arg4.view.readAt (Elt F) (Rect.unit (s := S1x16384x128) (k0_off14 i) S1x1024x128.size (k0_off14_inb i)).toLoadRect X4)) (arg12.view.readAt (Elt F) (Rect.unit (s := S2x128x1024) ![0, 0, 512] S1x128x512.size inb_S2x128x1024_S1x128x512_0_0_512).toLoadRect g12) from rfl).trans (by rw [h10, ek, ev, ar0])
  have u3 : body_U.sl.v145 i arg4 arg5 arg12 X4 X5 v12 g12 = k0_pay91 _ (k0_pay87 _ _ _) _ :=
    (show _ = k0_pay91 (arg5.view.readAt (Elt F) (Rect.unit (s := S128x16384) (k0_off13 i) S128x1024.size (k0_off13_inb i)).toLoadRect X5) (k0_pay87 v12 k0_pay79 (arg4.view.readAt (Elt F) (Rect.unit (s := S1x16384x128) (k0_off14 i) S1x1024x128.size (k0_off14_inb i)).toLoadRect X4)) (arg12.view.readAt (Elt F) (Rect.unit (s := S2x128x1024) ![1, 0, 512] S1x128x512.size inb_S2x128x1024_S1x128x512_1_0_512).toLoadRect g12) from rfl).trans (by rw [h12, ek, ev, ar1])
  rw [w0, w1, w2, w3, u0, u1, u2, u3]
  rfl

end Cert.KernelIdeal.Hand

end
-- ==== Proof.Hand.BodyS.lean ====
/-
  The whole body when the bound makes it keep a running maximum: the block it writes.
-/
module

public import proofs.«01_k».proof.Proof.Hand.BodyU
public import Idealize.ShloMosaic.Lib.LoopRemainder

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The pipeline library's resource algebra. -/
local notation "𝕄" => MT nD τ sig Unit (Elt F) ℕ (UR sig nD τ) ℕ

variable (𝒱 : Variants) (c : Dev nD) (bd : Option 𝒱.V) (E : Set ℕ) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole)

/-- The three buffers just filled by their initial values hold the state before the first chunk. -/
theorem holds3_init (v9 v10 : View sig .tc .vmem S2x1x1024 .f32) (v12 : View sig .tc .vmem S2x128x1024 .f32)
    (f9 : v9.ty.Contents (Elt F)) (f10 : v10.ty.Contents (Elt F)) (f12 : v12.ty.Contents (Elt F)) :
    Holds3 v9 v10 v12
      (v9.writes (Elt F) f9 [⟨Rect.unit (s := S2x1x1024) ![0, 0, 0] S2x1x1024.size inb_S2x1x1024_S2x1x1024_0_0_0, k0_pay134 (F := F)⟩])
      (v10.writes (Elt F) f10 [⟨Rect.unit (s := S2x1x1024) ![0, 0, 0] S2x1x1024.size inb_S2x1x1024_S2x1x1024_0_0_0, k0_pay135 (F := F)⟩])
      (v12.writes (Elt F) f12 [⟨Rect.unit (s := S2x128x1024) ![0, 0, 0] S2x128x1024.size inb_S2x128x1024_S2x128x1024_0_0_0, k0_pay136 (F := F)⟩])
      (Sh.init (F := F)) where
  m0 := by funext x; rw [View.readAt_apply, View.read_writes_full]; rfl
  m1 := by funext x; rw [View.readAt_apply, View.read_writes_full]; rfl
  l0 := by funext x; rw [View.readAt_apply, View.read_writes_full]; rfl
  l1 := by funext x; rw [View.readAt_apply, View.read_writes_full]; rfl
  a0 := by funext x; rw [View.readAt_apply, View.read_writes_full]; rfl
  a1 := by funext x; rw [View.readAt_apply, View.read_writes_full]; rfl

/-- The body in the branch with a running maximum: the block it writes, whatever the scratch buffers held. -/
theorem body_S (f2 : BufTy.Contents (Elt F) arg2.view.ty) (f3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f12 : BufTy.Contents (Elt F) arg12.view.ty)
    (hb : ¬ Scalar.cmpf .ole (arg2.view.read (Elt F) f2 only) (Scalar.ofBits (F := F) .f32 0x42C00000#32) = 1#1) :
    iprop(pt c arg2 f2 ∗ pt c arg3 f3 ∗ pt c arg4 X4 ∗ pt c arg5 X5 ∗ pt c arg6 f6 ∗ pt c arg7 f7 ∗ pt c arg8 f8 ∗ pt c arg9 f9 ∗ pt c arg10 f10 ∗ pt c arg12 f12)
    ⊢ wp frame (wpE (defs₀ (F := F)) 𝒱 (c : Thread nD τ) bd) E
        (cc0_diff_attention (F := F) i arg2 harg2 arg3 harg3 arg4 harg4 arg5 harg5 arg6 harg6 arg7 harg7 arg8 harg8 arg9 harg9 arg10 harg10 arg11 harg11 arg12 harg12)
        (fun _ => iprop(pt c arg2 f2 ∗ pt c arg3 f3 ∗ pt c arg4 X4 ∗ pt c arg5 X5 ∗ pt c arg6 f6 ∗ pt c arg7 f7
          ∗ ∃ f8' f9' f10' f12', pt c arg8 f8' ∗ pt c arg9 f9' ∗ pt c arg10 f10' ∗ pt c arg12 f12'
            ∗ ⌜arg8.view.read (Elt F) f8' = outS (BitVec.ofNat 32 (i 1).val) (arg3.view.read (Elt F) f3) (arg4.view.read (Elt F) X4) (arg5.view.read (Elt F) X5)
                (arg6.view.read (Elt F) f6) (arg7.view.read (Elt F) f7) (i 1).val (i 1).isLt⌝)) := by
  rw [cc0_diff_attention_eq_skeleton]; unfold cc0_diff_attention_skel
  have e3 : arg3.view.readAt (Elt F) (Rect.unit (s := S128x1024) ![0, 0] S128x1024.size inb_S128x1024_S128x1024_0_0).toLoadRect f3 = arg3.view.read (Elt F) f3 :=
    View.readAt_full _ _ _
  iintro ⟨H2, H3, H4, H5, H6, H7, H8, H9, H10, H12⟩
  sl_exec
  have hb' : ¬ body_S.sl.v1 arg2 f2 = 1#1 := fun h => hb
    ((congrArg (fun r => Scalar.cmpf .ole r (Scalar.ofBits (F := F) .f32 0x42C00000#32)) (readAt_only arg2.view f2 _)).symm.trans h)
  have hv3 : ¬ body_S.sl.v3 arg2 f2 = 1#1 := not_taken' _ hb'
  sl_exec
  have hv6 : body_S.sl.v6 arg2 f2 = 1#1 := taken' _ hb'
  sl_exec
  sl_step
  isplitl [H2]; · iexact H2
  isplitl [H3]; · iexact H3
  isplitl [H4]; · iexact H4
  isplitl [H5]; · iexact H5
  isplitl [H6]; · iexact H6
  isplitl [H7]; · iexact H7
  iexists _; iexists _; iexists _; iexists _
  isplitl [H8]; · iexact H8
  isplitl [H9]; · iexact H9
  isplitl [H10]; · iexact H10
  isplitl [H12]; · iexact H12
  ipureintro
  rw [View.read_writes_full]
  have hi : (i 1).val < 16 := (i 1).isLt
  have e6 : arg6.view.readAt (Elt F) (Rect.unit (s := S4x64) ![0, 0] S4x64.size inb_S4x64_S4x64_0_0).toLoadRect f6 = arg6.view.read (Elt F) f6 := View.readAt_full _ _ _
  have e7 : arg7.view.readAt (Elt F) (Rect.unit (s := S128x1) ![0, 0] S128x1.size inb_S128x1_S128x1_0_0).toLoadRect f7 = arg7.view.read (Elt F) f7 := View.readAt_full _ _ _
  have ek := readAt_kchunk arg4.view X4 _ hi _ (k0_off20_eq i) (k0_off20_inb i)
  have ev := readAt_vchunk arg5.view X5 _ hi _ (k0_off19_eq i) (k0_off19_inb i)
  have hq0 : body_S.sl.r_3 arg3 f3 = k0_pay132 (arg3.view.read (Elt F) f3) := rfl
  have hq1 : body_S.sl.r_4 arg3 f3 = k0_pay133 (arg3.view.read (Elt F) f3) := rfl
  have hG : Holds3 arg9.view arg10.view arg12.view
      (arg9.view.writes (Elt F) arg9.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).1 ++ body_S.sl.H9_1))
      (arg10.view.writes (Elt F) arg10.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).2.1 ++ body_S.sl.H10_1))
      (arg12.view.writes (Elt F) arg12.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).2.2 ++ body_S.sl.H12_1))
      (shAt (arg3.view.read (Elt F) f3) (arg4.view.read (Elt F) X4) (arg5.view.read (Elt F) X5) (i 1).val) := by
    have h := holds_pb3 𝒱 c bd i arg2 harg2 arg3 harg3 arg4 harg4 arg5 harg5 arg6 harg6 arg7 harg7 arg8 harg8 arg9 harg9 arg10 harg10 arg11 harg11 arg12 harg12 (BitVec.ofNat 32 (i 1).val) X4 X5 (arg3.view.read (Elt F) f3) (body_S.sl.v26_1 i) (body_S.sl.v40_1 i) 1#32 _ _ _
      (holds3_init arg9.view arg10.view arg12.view arg9.view.junk arg10.view.junk arg12.view.junk) (k0_t3_loop i).trips le_rfl
    rw [View.writes_append, View.writes_append, View.writes_append, hq0, hq1]
    exact (congrArg (shAt (arg3.view.read (Elt F) f3) (arg4.view.read (Elt F) X4) (arg5.view.read (Elt F) X5)) (trips3_eq i)) ▸ h
  have c9 : (arg9.view.readAt (Elt F) (Rect.unit (s := S2x1x1024) ![1, 0, 0] S1x1x1024.size inb_S2x1x1024_S1x1x1024_1_0_0).toLoadRect (arg9.view.writes (Elt F) arg9.view.junk (body_S.sl.H9_1_1 𝒱 c bd i arg2 harg2 arg3 harg3 arg4 harg4 arg5 harg5 arg6 harg6 arg7 harg7 arg8 harg8 arg9 harg9 arg10 harg10 arg11 harg11 arg12 harg12 f3 X4 X5))) = (shAt (arg3.view.read (Elt F) f3) (arg4.view.read (Elt F) X4) (arg5.view.read (Elt F) X5) (i 1).val).m1 :=
    (readAt_miss _ _ _ _ _ _ 0 (Or.inr (by decide))).trans hG.m1
  have c10 : (arg10.view.readAt (Elt F) (Rect.unit (s := S2x1x1024) ![1, 0, 0] S1x1x1024.size inb_S2x1x1024_S1x1x1024_1_0_0).toLoadRect (arg10.view.writes (Elt F) arg10.view.junk (body_S.sl.H10_1_1 𝒱 c bd i arg2 harg2 arg3 harg3 arg4 harg4 arg5 harg5 arg6 harg6 arg7 harg7 arg8 harg8 arg9 harg9 arg10 harg10 arg11 harg11 arg12 harg12 f3 X4 X5))) = (shAt (arg3.view.read (Elt F) f3) (arg4.view.read (Elt F) X4) (arg5.view.read (Elt F) X5) (i 1).val).l1 :=
    (readAt_miss _ _ _ _ _ _ 0 (Or.inr (by decide))).trans hG.l1
  have c12 : (arg12.view.readAt (Elt F) (Rect.unit (s := S2x128x1024) ![1, 0, 0] S1x128x1024.size inb_S2x128x1024_S1x128x1024_1_0_0).toLoadRect (arg12.view.writes (Elt F) arg12.view.junk (body_S.sl.H12_1_1 𝒱 c bd i arg2 harg2 arg3 harg3 arg4 harg4 arg5 harg5 arg6 harg6 arg7 harg7 arg8 harg8 arg9 harg9 arg10 harg10 arg11 harg11 arg12 harg12 f3 X4 X5))) = (shAt (arg3.view.read (Elt F) f3) (arg4.view.read (Elt F) X4) (arg5.view.read (Elt F) X5) (i 1).val).a1 :=
    (readAt_miss _ _ _ _ _ _ 0 (Or.inr (by decide))).trans hG.a1
  have s10 : (arg10.view.readAt (Elt F) (Rect.unit (s := S2x1x1024) ![0, 0, 0] S1x1x1024.size inb_S2x1x1024_S1x1x1024_0_0_0).toLoadRect (arg10.view.writes (Elt F) arg10.view.junk (body_S.sl.H10_2 𝒱 c bd i arg2 harg2 arg3 harg3 arg4 harg4 arg5 harg5 arg6 harg6 arg7 harg7 arg8 harg8 arg9 harg9 arg10 harg10 arg11 harg11 arg12 harg12 f3 X4 X5))) = k0_pay155 (scoreS (BitVec.ofNat 32 (i 1).val) (k0_pay132 (arg3.view.read (Elt F) f3)) (kchunk (arg4.view.read (Elt F) X4) (i 1).val hi)) (shAt (arg3.view.read (Elt F) f3) (arg4.view.read (Elt F) X4) (arg5.view.read (Elt F) X5) (i 1).val).m0 (shAt (arg3.view.read (Elt F) f3) (arg4.view.read (Elt F) X4) (arg5.view.read (Elt F) X5) (i 1).val).l0 := by
    refine (readAt_miss _ _ _ _ _ _ 0 (Or.inl (by decide))).trans ((readAt_hit _ _ _ _ _).trans ?_)
    refine (show _ = k0_pay155 (k0_pay150 (BitVec.ofNat 32 (i 1).val) (k0_pay132 (arg3.view.read (Elt F) f3)) (keyBase (BitVec.ofNat 32 (i 1).val)) (arg4.view.readAt (Elt F) (Rect.unit (s := S1x16384x128) (k0_off20 i) S1x1024x128.size (k0_off20_inb i)).toLoadRect X4)) (arg9.view.readAt (Elt F) (Rect.unit (s := S2x1x1024) ![0, 0, 0] S1x1x1024.size inb_S2x1x1024_S1x1x1024_0_0_0).toLoadRect (arg9.view.writes (Elt F) arg9.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).1 ++ body_S.sl.H9_1))) (arg10.view.readAt (Elt F) (Rect.unit (s := S2x1x1024) ![0, 0, 0] S1x1x1024.size inb_S2x1x1024_S1x1x1024_0_0_0).toLoadRect (arg10.view.writes (Elt F) arg10.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).2.1 ++ body_S.sl.H10_1))) from rfl).trans ?_
    rw [ek, hG.m0, hG.l0]; rfl
  have s12 : (arg12.view.readAt (Elt F) (Rect.unit (s := S2x128x1024) ![0, 0, 0] S1x128x1024.size inb_S2x128x1024_S1x128x1024_0_0_0).toLoadRect (arg12.view.writes (Elt F) arg12.view.junk (body_S.sl.H12_2 𝒱 c bd i arg2 harg2 arg3 harg3 arg4 harg4 arg5 harg5 arg6 harg6 arg7 harg7 arg8 harg8 arg9 harg9 arg10 harg10 arg11 harg11 arg12 harg12 f3 X4 X5))) = k0_pay156 (vchunk (arg5.view.read (Elt F) X5) (i 1).val hi) (scoreS (BitVec.ofNat 32 (i 1).val) (k0_pay132 (arg3.view.read (Elt F) f3)) (kchunk (arg4.view.read (Elt F) X4) (i 1).val hi)) (shAt (arg3.view.read (Elt F) f3) (arg4.view.read (Elt F) X4) (arg5.view.read (Elt F) X5) (i 1).val).m0 (shAt (arg3.view.read (Elt F) f3) (arg4.view.read (Elt F) X4) (arg5.view.read (Elt F) X5) (i 1).val).a0 := by
    refine (readAt_miss _ _ _ _ _ _ 0 (Or.inl (by decide))).trans ((readAt_hit _ _ _ _ _).trans ?_)
    refine (show _ = k0_pay156 (arg5.view.readAt (Elt F) (Rect.unit (s := S128x16384) (k0_off19 i) S128x1024.size (k0_off19_inb i)).toLoadRect X5) (k0_pay150 (BitVec.ofNat 32 (i 1).val) (k0_pay132 (arg3.view.read (Elt F) f3)) (keyBase (BitVec.ofNat 32 (i 1).val)) (arg4.view.readAt (Elt F) (Rect.unit (s := S1x16384x128) (k0_off20 i) S1x1024x128.size (k0_off20_inb i)).toLoadRect X4)) (arg9.view.readAt (Elt F) (Rect.unit (s := S2x1x1024) ![0, 0, 0] S1x1x1024.size inb_S2x1x1024_S1x1x1024_0_0_0).toLoadRect (arg9.view.writes (Elt F) arg9.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).1 ++ body_S.sl.H9_1))) (arg12.view.readAt (Elt F) (Rect.unit (s := S2x128x1024) ![0, 0, 0] S1x128x1024.size inb_S2x128x1024_S1x128x1024_0_0_0).toLoadRect (arg12.view.writes (Elt F) arg12.view.junk ((pb_k0_t3 (F := F) 𝒱 c bd i arg2 harg2 arg3 harg3 arg4 harg4 arg5 harg5 arg6 harg6 arg7 harg7 arg8 harg8 arg9 harg9 arg10 harg10 arg11 harg11 arg12 harg12 (BitVec.ofNat 32 (i 1).val) (body_S.sl.r_3 arg3 f3) (body_S.sl.r_4 arg3 f3) (body_S.sl.v26_1 i) (body_S.sl.v40_1 i) 1#32 X4 X5 (arg9.view.writes (Elt F) arg9.view.junk body_S.sl.H9_1) (arg10.view.writes (Elt F) arg10.view.junk body_S.sl.H10_1) (arg12.view.writes (Elt F) arg12.view.junk body_S.sl.H12_1) (Scf.trips (k0_t3_loop i).lb (k0_t3_loop i).ub (k0_t3_loop i).st)).2.2 ++ body_S.sl.H12_1))) from rfl).trans ?_
    rw [ek, ev, hG.m0, hG.a0]; rfl
  have t10 : (arg10.view.readAt (Elt F) (Rect.unit (s := S2x1x1024) ![1, 0, 0] S1x1x1024.size inb_S2x1x1024_S1x1x1024_1_0_0).toLoadRect (arg10.view.writes (Elt F) arg10.view.junk (body_S.sl.H10_2 𝒱 c bd i arg2 harg2 arg3 harg3 arg4 harg4 arg5 harg5 arg6 harg6 arg7 harg7 arg8 harg8 arg9 harg9 arg10 harg10 arg11 harg11 arg12 harg12 f3 X4 X5))) = k0_pay155 (scoreS (BitVec.ofNat 32 (i 1).val) (k0_pay133 (arg3.view.read (Elt F) f3)) (kchunk (arg4.view.read (Elt F) X4) (i 1).val hi)) (shAt (arg3.view.read (Elt F) f3) (arg4.view.read (Elt F) X4) (arg5.view.read (Elt F) X5) (i 1).val).m1 (shAt (arg3.view.read (Elt F) f3) (arg4.view.read (Elt F) X4) (arg5.view.read (Elt F) X5) (i 1).val).l1 := by
    refine (readAt_hit _ _ _ _ _).trans ?_
    refine (show _ = k0_pay155 (k0_pay150 (BitVec.ofNat 32 (i 1).val) (k0_pay133 (arg3.view.read (Elt F) f3)) (keyBase (BitVec.ofNat 32 (i 1).val)) (arg4.view.readAt (Elt F) (Rect.unit (s := S1x16384x128) (k0_off20 i) S1x1024x128.size (k0_off20_inb i)).toLoadRect X4)) (arg9.view.readAt (Elt F) (Rect.unit (s := S2x1x1024) ![1, 0, 0] S1x1x1024.size inb_S2x1x1024_S1x1x1024_1_0_0).toLoadRect (arg9.view.writes (Elt F) arg9.view.junk (body_S.sl.H9_1_1 𝒱 c bd i arg2 harg2 arg3 harg3 arg4 harg4 arg5 harg5 arg6 harg6 arg7 harg7 arg8 harg8 arg9 harg9 arg10 harg10 arg11 harg11 arg12 harg12 f3 X4 X5))) (arg10.view.readAt (Elt F) (Rect.unit (s := S2x1x1024) ![1, 0, 0] S1x1x1024.size inb_S2x1x1024_S1x1x1024_1_0_0).toLoadRect (arg10.view.writes (Elt F) arg10.view.junk (body_S.sl.H10_1_1 𝒱 c bd i arg2 harg2 arg3 harg3 arg4 harg4 arg5 harg5 arg6 harg6 arg7 harg7 arg8 harg8 arg9 harg9 arg10 harg10 arg11 harg11 arg12 harg12 f3 X4 X5))) from rfl).trans ?_
    rw [ek, c9, c10]; rfl
  have t12 : (arg12.view.readAt (Elt F) (Rect.unit (s := S2x128x1024) ![1, 0, 0] S1x128x1024.size inb_S2x128x1024_S1x128x1024_1_0_0).toLoadRect (arg12.view.writes (Elt F) arg12.view.junk (body_S.sl.H12_2 𝒱 c bd i arg2 harg2 arg3 harg3 arg4 harg4 arg5 harg5 arg6 harg6 arg7 harg7 arg8 harg8 arg9 harg9 arg10 harg10 arg11 harg11 arg12 harg12 f3 X4 X5))) = k0_pay156 (vchunk (arg5.view.read (Elt F) X5) (i 1).val hi) (scoreS (BitVec.ofNat 32 (i 1).val) (k0_pay133 (arg3.view.read (Elt F) f3)) (kchunk (arg4.view.read (Elt F) X4) (i 1).val hi)) (shAt (arg3.view.read (Elt F) f3) (arg4.view.read (Elt F) X4) (arg5.view.read (Elt F) X5) (i 1).val).m1 (shAt (arg3.view.read (Elt F) f3) (arg4.view.read (Elt F) X4) (arg5.view.read (Elt F) X5) (i 1).val).a1 := by
    refine (readAt_hit _ _ _ _ _).trans ?_
    refine (show _ = k0_pay156 (arg5.view.readAt (Elt F) (Rect.unit (s := S128x16384) (k0_off19 i) S128x1024.size (k0_off19_inb i)).toLoadRect X5) (k0_pay150 (BitVec.ofNat 32 (i 1).val) (k0_pay133 (arg3.view.read (Elt F) f3)) (keyBase (BitVec.ofNat 32 (i 1).val)) (arg4.view.readAt (Elt F) (Rect.unit (s := S1x16384x128) (k0_off20 i) S1x1024x128.size (k0_off20_inb i)).toLoadRect X4)) (arg9.view.readAt (Elt F) (Rect.unit (s := S2x1x1024) ![1, 0, 0] S1x1x1024.size inb_S2x1x1024_S1x1x1024_1_0_0).toLoadRect (arg9.view.writes (Elt F) arg9.view.junk (body_S.sl.H9_1_1 𝒱 c bd i arg2 harg2 arg3 harg3 arg4 harg4 arg5 harg5 arg6 harg6 arg7 harg7 arg8 harg8 arg9 harg9 arg10 harg10 arg11 harg11 arg12 harg12 f3 X4 X5))) (arg12.view.readAt (Elt F) (Rect.unit (s := S2x128x1024) ![1, 0, 0] S1x128x1024.size inb_S2x128x1024_S1x128x1024_1_0_0).toLoadRect (arg12.view.writes (Elt F) arg12.view.junk (body_S.sl.H12_1_1 𝒱 c bd i arg2 harg2 arg3 harg3 arg4 harg4 arg5 harg5 arg6 harg6 arg7 harg7 arg8 harg8 arg9 harg9 arg10 harg10 arg11 harg11 arg12 harg12 f3 X4 X5))) from rfl).trans ?_
    rw [ek, ev, c9, c12]; rfl
  refine (show _ = k0_pay2 (k0_pay159 (k0_pay158 (arg12.view.readAt (Elt F) (Rect.unit (s := S2x128x1024) ![0, 0, 0] S1x128x1024.size inb_S2x128x1024_S1x128x1024_0_0_0).toLoadRect (arg12.view.writes (Elt F) arg12.view.junk (body_S.sl.H12_2 𝒱 c bd i arg2 harg2 arg3 harg3 arg4 harg4 arg5 harg5 arg6 harg6 arg7 harg7 arg8 harg8 arg9 harg9 arg10 harg10 arg11 harg11 arg12 harg12 f3 X4 X5)))) (arg10.view.readAt (Elt F) (Rect.unit (s := S2x1x1024) ![0, 0, 0] S1x1x1024.size inb_S2x1x1024_S1x1x1024_0_0_0).toLoadRect (arg10.view.writes (Elt F) arg10.view.junk (body_S.sl.H10_2 𝒱 c bd i arg2 harg2 arg3 harg3 arg4 harg4 arg5 harg5 arg6 harg6 arg7 harg7 arg8 harg8 arg9 harg9 arg10 harg10 arg11 harg11 arg12 harg12 f3 X4 X5))) (arg12.view.readAt (Elt F) (Rect.unit (s := S2x128x1024) ![1, 0, 0] S1x128x1024.size inb_S2x128x1024_S1x128x1024_1_0_0).toLoadRect (arg12.view.writes (Elt F) arg12.view.junk (body_S.sl.H12_2 𝒱 c bd i arg2 harg2 arg3 harg3 arg4 harg4 arg5 harg5 arg6 harg6 arg7 harg7 arg8 harg8 arg9 harg9 arg10 harg10 arg11 harg11 arg12 harg12 f3 X4 X5))) (arg10.view.readAt (Elt F) (Rect.unit (s := S2x1x1024) ![1, 0, 0] S1x1x1024.size inb_S2x1x1024_S1x1x1024_1_0_0).toLoadRect (arg10.view.writes (Elt F) arg10.view.junk (body_S.sl.H10_2 𝒱 c bd i arg2 harg2 arg3 harg3 arg4 harg4 arg5 harg5 arg6 harg6 arg7 harg7 arg8 harg8 arg9 harg9 arg10 harg10 arg11 harg11 arg12 harg12 f3 X4 X5)))
    (arg6.view.readAt (Elt F) (Rect.unit (s := S4x64) ![0, 0] S4x64.size inb_S4x64_S4x64_0_0).toLoadRect f6)
    (arg7.view.readAt (Elt F) (Rect.unit (s := S128x1) ![0, 0] S128x1.size inb_S128x1_S128x1_0_0).toLoadRect f7)) k0_pay160 from rfl).trans ?_
  rw [s10, s12, t10, t12, e6, e7]
  rfl

end Cert.KernelIdeal.Hand

end
-- ==== Proof.Hand.Frame.lean ====
/-
  The run of the program: every grid point's body leaves the block `outBlock` of its operands' blocks, so the pipeline
  ends with the argument arrays unchanged and the result array filled by those blocks.
-/
module

public import proofs.«01_k».proof.Proof.Gen.KernelIdeal.Frame
public import proofs.«01_k».proof.Proof.Hand.BodyU
public import proofs.«01_k».proof.Proof.Hand.BodyS
public import Idealize.ShloMosaic.Lib.LoopRemainder

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

/-- The pipeline library's resource algebra. -/
local notation "𝕄" => MT nD τ sig Unit (Elt F) ℕ (UR sig nD τ) ℕ

section Body

variable (𝒱 : Variants) (c : Dev nD) (bd : Option 𝒱.V) (E : Set ℕ) (i : grid0.Coords) (arg2 : Memref sig .tc .smem S1 .f32) (harg2 : arg2.IsWhole) (arg3 : Memref sig .tc .vmem S128x1024 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S128x1024 .f32) (harg8 : arg8.IsWhole) (arg9 : Memref sig .tc .vmem S2x1x1024 .f32) (harg9 : arg9.IsWhole) (arg10 : Memref sig .tc .vmem S2x1x1024 .f32) (harg10 : arg10.IsWhole) (arg11 : Memref sig .tc .vmem S2x8x1024 .f32) (harg11 : arg11.IsWhole) (arg12 : Memref sig .tc .vmem S2x128x1024 .f32) (harg12 : arg12.IsWhole)

/-- The body: whatever the scratch buffers and the output's buffer held, the output's buffer ends at the block of the operands. -/
theorem body_spec (f2 : BufTy.Contents (Elt F) arg2.view.ty) (f3 : BufTy.Contents (Elt F) arg3.view.ty) (X4 : BufTy.Contents (Elt F) arg4.view.ty) (X5 : BufTy.Contents (Elt F) arg5.view.ty)
    (f6 : BufTy.Contents (Elt F) arg6.view.ty) (f7 : BufTy.Contents (Elt F) arg7.view.ty) (f8 : BufTy.Contents (Elt F) arg8.view.ty)
    (f9 : BufTy.Contents (Elt F) arg9.view.ty) (f10 : BufTy.Contents (Elt F) arg10.view.ty) (f11 : BufTy.Contents (Elt F) arg11.view.ty) (f12 : BufTy.Contents (Elt F) arg12.view.ty) :
    iprop(pt c arg2 f2 ∗ pt c arg3 f3 ∗ pt c arg4 X4 ∗ pt c arg5 X5 ∗ pt c arg6 f6 ∗ pt c arg7 f7 ∗ pt c arg8 f8 ∗ pt c arg9 f9 ∗ pt c arg10 f10 ∗ pt c arg11 f11 ∗ pt c arg12 f12)
    ⊢ wp frame (wpE (defs₀ (F := F)) 𝒱 (c : Thread nD τ) bd) E
        (cc0_diff_attention (F := F) i arg2 harg2 arg3 harg3 arg4 harg4 arg5 harg5 arg6 harg6 arg7 harg7 arg8 harg8 arg9 harg9 arg10 harg10 arg11 harg11 arg12 harg12)
        (fun _ => iprop(pt c arg2 f2 ∗ pt c arg3 f3 ∗ pt c arg4 X4 ∗ pt c arg5 X5 ∗ pt c arg6 f6 ∗ pt c arg7 f7
          ∗ ∃ f8' f9' f10' f11' f12', pt c arg8 f8' ∗ pt c arg9 f9' ∗ pt c arg10 f10' ∗ pt c arg11 f11' ∗ pt c arg12 f12'
            ∗ ⌜arg8.view.read (Elt F) f8' = outBlock (arg2.view.read (Elt F) f2 only) i (arg3.view.read (Elt F) f3) (arg4.view.read (Elt F) X4) (arg5.view.read (Elt F) X5)
                (arg6.view.read (Elt F) f6) (arg7.view.read (Elt F) f7)⌝)) := by
  iintro ⟨H2, H3, H4, H5, H6, H7, H8, H9, H10, H11, H12⟩
  by_cases hb : Scalar.cmpf .ole (arg2.view.read (Elt F) f2 only) (Scalar.ofBits (F := F) .f32 0x42C00000#32) = 1#1
  · iapply (wp_wand_r Idealize.ShloMosaic.frame (wpE (defs₀ (F := F)) 𝒱 (c : Thread nD τ) bd) E)
    isplitl [H2 H3 H4 H5 H6 H7 H8 H11 H12]
    · iapply body_U 𝒱 c bd E i arg2 harg2 arg3 harg3 arg4 harg4 arg5 harg5 arg6 harg6 arg7 harg7 arg8 harg8 arg9 harg9 arg10 harg10 arg11 harg11 arg12 harg12 f2 f3 X4 X5 f6 f7 f8 f11 f12 hb
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    iintro %_ ⟨H2, H3, H4, H5, H6, H7, %f8', %f11', %f12', H8, H11, H12, %e⟩
    isplitl [H2]; · iexact H2
    isplitl [H3]; · iexact H3
    isplitl [H4]; · iexact H4
    isplitl [H5]; · iexact H5
    isplitl [H6]; · iexact H6
    isplitl [H7]; · iexact H7
    iexists _; iexists _; iexists _; iexists _; iexists _
    isplitl [H8]; · iexact H8
    isplitl [H9]; · iexact H9
    isplitl [H10]; · iexact H10
    isplitl [H11]; · iexact H11
    isplitl [H12]; · iexact H12
    ipureintro
    exact e.trans (if_pos hb).symm
  · iapply (wp_wand_r Idealize.ShloMosaic.frame (wpE (defs₀ (F := F)) 𝒱 (c : Thread nD τ) bd) E)
    isplitl [H2 H3 H4 H5 H6 H7 H8 H9 H10 H12]
    · iapply body_S 𝒱 c bd E i arg2 harg2 arg3 harg3 arg4 harg4 arg5 harg5 arg6 harg6 arg7 harg7 arg8 harg8 arg9 harg9 arg10 harg10 arg11 harg11 arg12 harg12 f2 f3 X4 X5 f6 f7 f8 f9 f10 f12 hb
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H12
    iintro %_ ⟨H2, H3, H4, H5, H6, H7, %f8', %f9', %f10', %f12', H8, H9, H10, H12, %e⟩
    isplitl [H2]; · iexact H2
    isplitl [H3]; · iexact H3
    isplitl [H4]; · iexact H4
    isplitl [H5]; · iexact H5
    isplitl [H6]; · iexact H6
    isplitl [H7]; · iexact H7
    iexists _; iexists _; iexists _; iexists _; iexists _
    isplitl [H8]; · iexact H8
    isplitl [H9]; · iexact H9
    isplitl [H10]; · iexact H10
    isplitl [H11]; · iexact H11
    isplitl [H12]; · iexact H12
    ipureintro
    exact e.trans (if_neg hb).symm

end Body

variable (m : (ℓ : Loc nD τ sig) → Buf (Elt F) ℓ) (ρ : Dev nD → PrngReg)

/-- What the output's buffer holds after the body at a point: the block of the operands' blocks there. -/
def outAt (c : Dev nD) (t : Fin cfg0.N) : FVec F S128x1024 .f32 :=
  outBlock (iblk m c 0 t only) (grid0.coords t) (iblk m c 1 t) (iblk m c 2 t) (iblk m c 3 t) (iblk m c 4 t) (iblk m c 5 t)

/-- The pipeline's proof data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole scratch buffer, through its memref or by its location. -/
theorem scratch_eq (c : Dev nD) (b : Ref sig .tc) (f : Buf (Elt F) ((c : Thread nD τ).loc b)) :
    ((c : Thread nD τ).loc b ↦{fullShare} f : sProp 𝕄) = pt c (Memref.whole b) f := by
  unfold pt; rw [show (Memref.whole b).view.set = Finset.univ from View.set_whole b]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).Φ t.castSucc = Pipeline.ΦA spec0 c from rfl, after_6]
  simp only [before_0, after_0, before_1, after_1, before_2, after_2, before_3, after_3, before_4, after_4, before_5, after_5]
  unfold Pipeline.ΦA
  rw [scopedRest0_eq]
  simp only [scratch_eq]
  unfold Dat.owesAt Pipeline.owesWithin
  rw [show (dats m 0 c).owed t.castSucc = 0 from rfl, show (dats m 0 c).owed t.succ = 0 from rfl]
  unfold owns
  iintro ⟨⟨⟨⟨%g9, S9⟩, ⟨%g10, S10⟩, ⟨%g11, S11⟩, ⟨%g12, S12⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (wp_wand_r Idealize.ShloMosaic.frame (wpE (defs₀ (F := F)) Variants.none (c : Thread nD τ) none) Set.univ)
  isplitl [H0 H1 H2 H3 H4 H5 H6 S9 S10 S11 S12]
  · iapply body_spec Variants.none c none Set.univ (grid0.coords t) (st0_0 t) _ (st0_1 t) _ (st0_2 t) _ (st0_3 t) _ (st0_4 t) _ (st0_5 t) _ (st0_6 t) _ (Memref.whole cc0_scratch0) _ (Memref.whole cc0_scratch1) _ (Memref.whole cc0_scratch2) _ (Memref.whole cc0_scratch3) _ f0 f1 f2 f3 f4 f5 f6 g9 g10 g11 g12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S9]; · iexact S9
    isplitl [S10]; · iexact S10
    isplitl [S11]; · iexact S11
    iexact S12
  iintro %_ ⟨H0, H1, H2, H3, H4, H5, %f8', %f9', %f10', %f11', %f12', H6, S9, S10, S11, S12, %e⟩
  isplitl [S9 S10 S11 S12 Hg]
  · isplitl [S9 S10 S11 S12]
    · isplitl [S9]; · iexists _; iexact S9
      isplitl [S10]; · iexists _; iexact S10
      isplitl [S11]; · iexists _; iexact S11
      iexists _; iexact S12
    iexact Hg
  isplitl [HW]; · iexact HW
  isplitl [H0]
  · iexists _; isplitr; swap
    · iexact H0
    ipureintro; exact e0
  isplitl [H1]
  · iexists _; isplitr; swap
    · iexact H1
    ipureintro; exact e1
  isplitl [H2]
  · iexists _; isplitr; swap
    · iexact H2
    ipureintro; exact e2
  isplitl [H3]
  · iexists _; isplitr; swap
    · iexact H3
    ipureintro; exact e3
  isplitl [H4]
  · iexists _; isplitr; swap
    · iexact H4
    ipureintro; exact e4
  isplitl [H5]
  · iexists _; isplitr; swap
    · iexact H5
    ipureintro; exact e5
  iexists _; isplitr; swap
  · iexact H6
  ipureintro
  rw [e, e0, e1, e2, e3, e4, e5]; rfl

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the pipeline's data say and every semaphore counter ends at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c)))⟩, h.2⟩) (run_main m ρ)

end Cert.KernelIdeal.Hand

end
-- ==== Proof.Value.RefT.lean ====
/-
  The reference's result cut into named pieces: the scores, the mask, the softmax, the difference and the
  normalisation.
-/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe

/-- The scores before the change of base. -/
def tScore (a1 : FVec Ideal S512x16384 .bf16) (a2 : FVec Ideal S4x16384x128 .bf16) : FVec Ideal S2x4x16384x16384 .f32 :=
  Host.dotGeneral dot_S2x4x16384x64_S2x4x16384x64_S2x4x16384x16384_3_3_2_2_01_01 none (transpose S2x4x16384x64 [1, 0, 3, 2] (shapeCast _ (extf .f32 a1 bitsLt_bf16_f32) shapeCasts_S512x16384_S4x2x64x16384) transposes_S4x2x64x16384_S2x4x16384x64_1_0_3_2) (transpose S2x4x16384x64 [2, 0, 1, 3] (shapeCast _ (extf .f32 a2 bitsLt_bf16_f32) shapeCasts_S4x16384x128_S4x16384x2x64) transposes_S4x16384x2x64_S2x4x16384x64_2_0_1_3)
/-- Whether a key is at most the query. -/
def tMask : IVec S2x4x16384x16384 1 :=
  broadcastInDim S2x4x16384x16384 ![2, 3] bcast_S16384x16384_S2x4x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))
/-- The masked scores. -/
def tSel (s : FVec Ideal S2x4x16384x16384 .f32) : FVec Ideal S2x4x16384x16384 .f32 :=
  select tMask (mulf s (broadcastInDim S2x4x16384x16384 ![] bcast_S_S2x4x16384x16384 (Host.log (constant S_ .f32 0x40000000#32)))) (broadcastInDim S2x4x16384x16384 ![] bcast_S_S2x4x16384x16384 (id (constant S_ .f32 0xFF800000#32)))
/-- The rows' maxima. -/
def tMax (x : FVec Ideal S2x4x16384x16384 .f32) : FVec Ideal S2x4x16384 .f32 :=
  maximumf (broadcastInDim S2x4x16384 ![] bcast_S_S2x4x16384 (constant S_ .f32 0xFF800000#32)) (Host.reduce FloatOps.maximumf x (constant S_ .f32 0xFF800000#32) reducesTo_S2x4x16384x16384_S2x4x16384_d3 h_S_)
/-- The rows' weights. -/
def tExp (x : FVec Ideal S2x4x16384x16384 .f32) (mx : FVec Ideal S2x4x16384 .f32) : FVec Ideal S2x4x16384x16384 .f32 :=
  Host.exp (subf x (broadcastInDim S2x4x16384x16384 ![0, 1, 2, 3] bcast_S2x4x16384x1_S2x4x16384x16384_0_1_2_3 (broadcastInDim S2x4x16384x1 ![0, 1, 2] bcast_S2x4x16384_S2x4x16384x1_0_1_2 mx)))
/-- The weights over their sums. -/
def tSoft (p : FVec Ideal S2x4x16384x16384 .f32) : FVec Ideal S2x4x16384x16384 .f32 :=
  Host.divf p (broadcastInDim S2x4x16384x16384 ![0, 1, 2, 3] bcast_S2x4x16384x1_S2x4x16384x16384_0_1_2_3 (broadcastInDim S2x4x16384x1 ![0, 1, 2] bcast_S2x4x16384_S2x4x16384x1_0_1_2 (Host.reduceAdd p (constant S_ .f32 0x00000000#32) reducesTo_S2x4x16384x16384_S2x4x16384_d3 h_S_)))
/-- The weight of the second component. -/
def tLam (a4 : FVec Ideal S4x64 .f32) : FVec Ideal S_ .f32 :=
  addf (subf (Host.exp (Host.reduceAdd (mulf (shapeCast _ (extractStridedSlice S1x64 ![0, 0] a4 slices_S4x64_S1x64_0_0) shapeCasts_S1x64_S64) (shapeCast _ (extractStridedSlice S1x64 ![1, 0] a4 slices_S4x64_S1x64_1_0) shapeCasts_S1x64_S64)) (constant S_ .f32 0x00000000#32) reducesTo_S64_S_d0 h_S_)) (Host.exp (Host.reduceAdd (mulf (shapeCast _ (extractStridedSlice S1x64 ![2, 0] a4 slices_S4x64_S1x64_2_0) shapeCasts_S1x64_S64) (shapeCast _ (extractStridedSlice S1x64 ![3, 0] a4 slices_S4x64_S1x64_3_0) shapeCasts_S1x64_S64)) (constant S_ .f32 0x00000000#32) reducesTo_S64_S_d0 h_S_))) (constant S_ .f32 0x3E4CCCCD#32)
/-- The difference of the two components, applied to the values. -/
def tOd (p : FVec Ideal S2x4x16384x16384 .f32) (lam : FVec Ideal S_ .f32) (a3 : FVec Ideal S512x16384 .bf16) : FVec Ideal S4x16384x128 .f32 :=
  Host.dotGeneral dot_S4x16384x16384_S4x16384x128_S4x16384x128_2_1_1_2_0_0 none (subf (shapeCast _ (extractStridedSlice S1x4x16384x16384 ![0, 0, 0, 0] p slices_S2x4x16384x16384_S1x4x16384x16384_0_0_0_0) shapeCasts_S1x4x16384x16384_S4x16384x16384) (mulf (broadcastInDim S4x16384x16384 ![] bcast_S_S4x16384x16384 lam) (shapeCast _ (extractStridedSlice S1x4x16384x16384 ![1, 0, 0, 0] p slices_S2x4x16384x16384_S1x4x16384x16384_1_0_0_0) shapeCasts_S1x4x16384x16384_S4x16384x16384))) (transpose S4x16384x128 [0, 2, 1] (shapeCast _ (extf .f32 a3 bitsLt_bf16_f32) shapeCasts_S512x16384_S4x128x16384) transposes_S4x128x16384_S4x16384x128_0_2_1)
/-- The normalisation and the last scale, in the result's layout. -/
def tOut (od : FVec Ideal S4x16384x128 .f32) (a5 : FVec Ideal S128x1 .f32) : FVec Ideal S512x16384 .f32 :=
  shapeCast _ (transpose S4x128x16384 [0, 2, 1] (mulf (mulf (mulf od (broadcastInDim S4x16384x128 ![0, 1, 2] bcast_S4x16384x1_S4x16384x128_0_1_2 (Host.rsqrt (addf (Host.divf (broadcastInDim S4x16384x1 ![0, 1] bcast_S4x16384_S4x16384x1_0_1 (Host.reduceAdd (mulf od od) (constant S_ .f32 0x00000000#32) reducesTo_S4x16384x128_S4x16384_d2 h_S_)) (broadcastInDim S4x16384x1 ![] bcast_S_S4x16384x1 (constant S_ .f32 0x43000000#32))) (broadcastInDim S4x16384x1 ![] bcast_S_S4x16384x1 (constant S_ .f32 0x358637BD#32)))))) (broadcastInDim S4x16384x128 ![0, 1, 2] bcast_S1x1x128_S4x16384x128_0_1_2 (broadcastInDim S1x1x128 ![2] bcast_S128_S1x1x128_2 (shapeCast _ a5 shapeCasts_S128x1_S128)))) (broadcastInDim S4x16384x128 ![] bcast_S_S4x16384x128 (constant S_ .f32 0x3F4CCCCD#32))) transposes_S4x16384x128_S4x128x16384_0_2_1) shapeCasts_S4x128x16384_S512x16384

theorem res_eq (m : (ℓ : Loc nD τ sig) → Buf (Elt Ideal) ℓ) (c : Dev nD) :
    res_main_v72 m c = tOut (tOd (tSoft (tExp (tSel (tScore (m ((c.tc : Thread nD τ).loc main_arg1)) (m ((c.tc : Thread nD τ).loc main_arg2))))
        (tMax (tSel (tScore (m ((c.tc : Thread nD τ).loc main_arg1)) (m ((c.tc : Thread nD τ).loc main_arg2)))))))
      (tLam (m ((c.tc : Thread nD τ).loc main_arg4))) (m ((c.tc : Thread nD τ).loc main_arg3))) (m ((c.tc : Thread nD τ).loc main_arg5)) := by
  unfold res_main_v72; rfl

end Cert.ReferenceIdeal.Value

end
-- ==== Proof.Value.RefV.lean ====
module

public import proofs.«01_k».proof.Proof.Value.RefT
public import Idealize.ShloMosaic.Lib.IdealHost
public import Idealize.ShloMosaic.Lib.Pointwise
@[expose] public section

/-! The reference's pieces read at an index: the scores, the mask, the weights, the weight of the second component. -/

set_option maxRecDepth 16384
noncomputable section
namespace Cert.ReferenceIdeal.Value
open Cert.ReferenceIdeal Cert.ReferenceIdeal.Gen Idealize.ShloMosaic Idealize.ShloMosaic.TcCoe

/-- A score: the products summed over one half of the head's width. -/
theorem tScore_at (a1) (a2) (c : Fin 2) (h : Fin 4) (Q j : Fin 16384) :
    tScore a1 a2 (ix4 c h Q j) = ∑ x : Fin 64, (a1 (ix2 ⟨h.val * 128 + c.val * 64 + x.val, by omega⟩ Q) : EReal) * a2 (ix3 h j ⟨c.val * 64 + x.val, by omega⟩) := by
  pointwise [tScore]

/-- The selection of the keys not past the query. -/
theorem tSel_at (s) (c : Fin 2) (h : Fin 4) (Q j : Fin 16384) :
    tSel s (ix4 c h Q j) = Scalar.select (tMask (ix4 c h Q j)) ((s (ix4 c h Q j) : EReal) * Ideal.log (Ideal.ofBits .f32 0x40000000#32)) (Ideal.ofBits .f32 0xFF800000#32) := by
  pointwise [tSel]
  rfl

/-- The mask: the key is not past the query. -/
theorem tMask_at (c : Fin 2) (h : Fin 4) (Q j : Fin 16384) :
    tMask (ix4 c h Q j) = IntOp.cmpi .sle (BitVec.ofNat 32 j.val) (BitVec.ofNat 32 Q.val) := by
  pointwise [tMask]

/-- A weight before the division. -/
theorem tExp_at (s) (mx) (c : Fin 2) (h : Fin 4) (Q j : Fin 16384) :
    tExp s mx (ix4 c h Q j) = Ideal.exp ((s (ix4 c h Q j) : EReal) - mx (ix3 c h Q)) := by
  pointwise [tExp]

/-- A weight over its row's sum. -/
theorem tSoft_at (s) (c : Fin 2) (h : Fin 4) (Q j : Fin 16384) :
    tSoft s (ix4 c h Q j) = Ideal.div (s (ix4 c h Q j)) (∑ x : Fin 16384, (s (ix4 c h Q x) : EReal)) := by
  pointwise [tSoft]
end Cert.ReferenceIdeal.Value
end
-- ==== Proof.Value.RefM.lean ====
module

public import proofs.«01_k».proof.Proof.Value.RefT
public import Idealize.ShloMosaic.Lib.IdealHost
public import Idealize.ShloMosaic.Lib.KernelVsHost
@[expose] public section

/-! The reference's row maximum, as a fold over the keys. -/

set_option maxRecDepth 16384
noncomputable section
namespace Cert.ReferenceIdeal.Value
open Cert.ReferenceIdeal Cert.ReferenceIdeal.Gen Idealize.ShloMosaic Idealize.ShloMosaic.TcCoe

/-- The word of the smallest float is −∞. -/
theorem negInf : Ideal.ofBits .f32 0xFF800000#32 = (⊥ : EReal) := by simp [Ideal.ofBits, Ideal.ieee]

/-- The maximum along one axis is the fold over that axis. -/
theorem hostMax {s t u : Shape} {a : Fin s.rank} (x : FVec Ideal s .f32) (h : s.ReducesTo [a] t) (hu : 0 < u.numel)
    (h' : s.Reduces [a] t) (j : t.Idx) {k : ℕ} (hk : s.size a = k) (g : Fin k → EReal)
    (hg : ∀ i, x (h'.lift j i) = g (Fin.cast hk i)) :
    Host.reduce FloatOps.maximumf x (constant u .f32 0xFF800000#32) h hu j = Finset.fold max ⊥ g Finset.univ := by
  subst hk
  have e : (constant u .f32 0xFF800000#32 : FVec Ideal u .f32) (Shape.Idx.first hu) = (⊥ : EReal) := negInf
  have hb : Finset.fold (FloatOps.maximumf (F := Ideal) (φ := .f32)) ⊥ (x ∘ h'.lift j) Finset.univ = Finset.fold max ⊥ g Finset.univ :=
    congrArg (fun t => Finset.fold max ⊥ t Finset.univ) (funext hg)
  rw [Host.reduce_eq_fold_single FloatOps.maximumf x _ h h' hu, e]
  exact hb

/-- Two arrays' maximum where the first is −∞ at the index. -/
theorem maxAt {s : Shape} (x y : FVec Ideal s .f32) (i : s.Idx) (b z : EReal) (hx : x i = b) (hy : y i = z) : maximumf x y i = max b z := by
  subst hx; subst hy; rfl

/-- Dropping the keys' axis. -/
theorem reduces3 : S2x4x16384x16384.Reduces [3] S2x4x16384 := by decide

/-- The index with the key put back. -/
theorem lift3 (c : Fin 2) (h : Fin 4) (Q : Fin 16384) (j : Fin (S2x4x16384x16384.size 3)) :
    reduces3.lift (ix3 c h Q) j = ix4 c h Q (Fin.cast rfl j) := by
  refine funext fun a => ?_
  match a with
  | ⟨0, _⟩ => rfl
  | ⟨1, _⟩ => rfl
  | ⟨2, _⟩ => rfl
  | ⟨3, _⟩ => rfl

/-- The spread −∞. -/
theorem bcBot (i) : (broadcastInDim S2x4x16384 ![] bcast_S_S2x4x16384 (constant S_ .f32 0xFF800000#32) : FVec Ideal S2x4x16384 .f32) i = (⊥ : EReal) :=
  negInf

/-- The row's maximum. -/
theorem tMax_at (s) (c : Fin 2) (h : Fin 4) (Q : Fin 16384) :
    tMax s (ix3 c h Q) = max (⊥ : EReal) (Finset.fold max ⊥ (fun j : Fin 16384 => (s (ix4 c h Q j) : EReal)) Finset.univ) :=
  maxAt _ _ _ _ _ (bcBot _) (hostMax s _ _ reduces3 _ rfl _ fun j => congrArg s (lift3 c h Q j))
end Cert.ReferenceIdeal.Value
end
-- ==== Proof.Value.PayU.lean ====
/-
  The stored values of the branch without a running maximum, read at an index over the extended reals.
-/
module

public import proofs.«01_k».proof.Proof.Hand.Out
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- The score of key `j` of a chunk against query `x`. -/
def dotS (qc : FVec Ideal S128x1024 .bf16) (kb : Vec Ideal S1x1024x128 .bf16) (j x : Fin 1024) : EReal :=
  ∑ e : Fin 128, (kb (ix3 0 j e) : EReal) * qc (ix2 e x)
/-- The score of key `j` of half a chunk against query `x`. -/
def dotH (qc : FVec Ideal S128x1024 .bf16) (kb : Vec Ideal S1x512x128 .bf16) (j : Fin 512) (x : Fin 1024) : EReal :=
  ∑ e : Fin 128, (kb (ix3 0 j e) : EReal) * qc (ix2 e x)

theorem pay3_at (qc : FVec Ideal S128x1024 .bf16) (kb : Vec Ideal S1x1024x128 .bf16) (j x : Fin 1024) :
    k0_pay3 qc kb (ix2 j x) = Ideal.exp2 (dotS qc kb j x) := by
  pointwise [k0_pay3]; rfl
theorem pay4_at (qc : FVec Ideal S128x1024 .bf16) (kb : Vec Ideal S1x1024x128 .bf16) (l) (r : Fin 8) (x : Fin 1024) :
    k0_pay4 qc kb l (ix3 0 r x) = (l (ix3 0 r x) : EReal) + ∑ g : Fin 128, Ideal.exp2 (dotS qc kb ⟨g.val * 8 + r.val, by omega⟩ x) := by
  pointwise [k0_pay4]
  congr 2; funext g; exact pay3_at qc kb _ x
theorem pay5_at (qc : FVec Ideal S128x1024 .bf16) (kb : Vec Ideal S1x1024x128 .bf16) (vb a) (e : Fin 128) (x : Fin 1024) :
    k0_pay5 qc vb kb a (ix3 0 e x) = (a (ix3 0 e x) : EReal) + ∑ j : Fin 1024, (vb (ix2 e j) : EReal) * Ideal.exp2 (dotS qc kb j x) := by
  pointwise [k0_pay5]
  congr 2; funext g; rw [pay3_at qc kb _ x]
theorem pay73_at (q : Vec Ideal S128x1024 .bf16) (e : Fin 128) (x : Fin 1024) :
    k0_pay73 q (ix2 e x) = if e.val < 64 then (q (ix2 e x) : EReal) else 0 := by
  pointwise [k0_pay73, k0_pay72]
  split <;> rfl
theorem pay74_at (q : Vec Ideal S128x1024 .bf16) (e : Fin 128) (x : Fin 1024) :
    k0_pay74 q (ix2 e x) = if e.val < 64 then 0 else (q (ix2 e x) : EReal) := by
  pointwise [k0_pay74, k0_pay72]
  split
  · rfl
  · rename_i h
    congr 2; apply Fin.ext; show 64 + (e.val - 64) = e.val; omega
theorem pay80_at (qc : FVec Ideal S128x1024 .bf16) (kb : Vec Ideal S1x512x128 .bf16) (j x : Fin 512) :
    k0_pay80 qc kb (ix2 j x) = Scalar.select (IntOp.cmpi .sle (BitVec.ofNat 32 j.val) (BitVec.ofNat 32 x.val)) (Ideal.exp2 (dotH qc kb j ⟨x.val, by omega⟩)) 0 := by
  pointwise [k0_pay80, k0_pay79]; rfl
theorem pay81_at (qc : FVec Ideal S128x1024 .bf16) (kb : Vec Ideal S1x512x128 .bf16) (l) (r : Fin 8) (x : Fin 512) :
    k0_pay81 qc kb l (ix3 0 r x) = (l (ix3 0 r x) : EReal) + ∑ g : Fin 64, (k0_pay80 qc kb (ix2 ⟨g.val * 8 + r.val, by omega⟩ x) : EReal) := by
  pointwise [k0_pay81]
theorem pay82_at (qc : FVec Ideal S128x1024 .bf16) (kb : Vec Ideal S1x512x128 .bf16) (vb a) (e : Fin 128) (x : Fin 512) :
    k0_pay82 qc vb kb a (ix3 0 e x) = (a (ix3 0 e x) : EReal) + ∑ j : Fin 512, (vb (ix2 e j) : EReal) * k0_pay80 qc kb (ix2 j x) := by
  pointwise [k0_pay82]
theorem pay87_at (qc : FVec Ideal S128x1024 .bf16) (kb : Vec Ideal S1x1024x128 .bf16) (j : Fin 1024) (x : Fin 512) :
    k0_pay87 qc k0_pay79 kb (ix2 j x) = if j.val < 512 then Ideal.exp2 (dotS qc kb j ⟨512 + x.val, by omega⟩)
      else Scalar.select (IntOp.cmpi .sle (BitVec.ofNat 32 (j.val - 512)) (BitVec.ofNat 32 x.val)) (Ideal.exp2 (dotS qc kb j ⟨512 + x.val, by omega⟩)) 0 := by
  pointwise [k0_pay87, k0_pay79]
  split
  · rfl
  · rename_i h
    have e : (⟨512 + (j.val - 512), by omega⟩ : Fin 1024) = j := Fin.ext (by show 512 + (j.val - 512) = j.val; omega)
    rw [e]; rfl
theorem pay90_at (l) (qc : FVec Ideal S128x1024 .bf16) (kb : Vec Ideal S1x1024x128 .bf16) (r : Fin 8) (x : Fin 512) :
    k0_pay90 (k0_pay88 l) (k0_pay89 qc k0_pay79 kb) (ix3 0 r x) = (l (ix3 0 r x) : EReal) + ∑ g : Fin 128, (k0_pay87 qc k0_pay79 kb (ix2 ⟨g.val * 8 + r.val, by omega⟩ x) : EReal) := by
  pointwise [k0_pay90, k0_pay88, k0_pay89]
theorem pay91_at (p : FVec Ideal S1024x512 .f32) (vb a) (e : Fin 128) (x : Fin 512) :
    k0_pay91 vb p a (ix3 0 e x) = (a (ix3 0 e x) : EReal) + ∑ j : Fin 1024, (vb (ix2 e j) : EReal) * p (ix2 j x) := by
  pointwise [k0_pay91]
theorem pay96_at (l a) (e : Fin 128) (x : Fin 1024) :
    k0_pay96 (F := Ideal) l a (ix2 e x) = Ideal.div (a (ix3 0 e x)) (∑ r : Fin 8, l (ix3 0 r x)) := by
  pointwise [k0_pay96]
theorem pay98_at (lam) :
    k0_pay98 (F := Ideal) lam (ix2 0 0) = Ideal.exp (∑ x : Fin 64, (lam (ix2 0 x) : EReal) * lam (ix2 1 x)) - Ideal.exp (∑ x : Fin 64, (lam (ix2 2 x) : EReal) * lam (ix2 3 x)) := by
  pointwise [k0_pay98]

/-- The normalised and scaled row of a column `od` of differences: what both programs do with it last. -/
def fin (od : Fin 128 → EReal) (sub : Fin 128 → EReal) (e : Fin 128) : EReal :=
  od e * Ideal.rsqrt (Ideal.div (∑ i, od i * od i) (Ideal.ofBits .f32 0x43000000#32) + Ideal.ofBits .f32 0x358637BD#32) * sub e
    * Ideal.ofBits .f32 0x3F4CCCCD#32
/-- The weight of the second component. -/
def lamb (lam : FVec Ideal S4x64 .f32) : EReal :=
  Ideal.exp (∑ x : Fin 64, (lam (ix2 0 x) : EReal) * lam (ix2 1 x)) - Ideal.exp (∑ x : Fin 64, (lam (ix2 2 x) : EReal) * lam (ix2 3 x))
    + Ideal.ofBits .f32 0x3E4CCCCD#32

theorem pay1_at (x0 x1 : FVec Ideal S128x1024 .f32) (lam sub) (e : Fin 128) (x : Fin 1024) :
    k0_pay1 (F := Ideal) x0 x1 (k0_pay98 lam) (Scalar.ofBits .f32 0x3E4CCCCD#32) sub (ix2 e x)
      = fin (fun i => (x0 (ix2 i x) : EReal) - lamb lam * x1 (ix2 i x)) (fun i => sub (ix2 i 0)) e := by
  pointwise [k0_pay1]
  rw [pay98_at]; rfl

end Cert.KernelIdeal.Hand

end
-- ==== Proof.Value.RefO.lean ====
module

public import proofs.«01_k».proof.Proof.Value.RefT
public import proofs.«01_k».proof.Proof.Value.PayU
public import Idealize.ShloMosaic.Lib.IdealHost
public import Idealize.ShloMosaic.Lib.Pointwise
@[expose] public section

/-! The reference's last pieces read at an index: the difference of the two components, its normalisation. -/

set_option maxRecDepth 16384
noncomputable section
namespace Cert.ReferenceIdeal.Value
open Cert.ReferenceIdeal Cert.ReferenceIdeal.Gen Idealize.ShloMosaic Idealize.ShloMosaic.TcCoe

/-- The weight of the second component. -/
theorem tLam_at (s : FVec Ideal S4x64 .f32) : tLam s ix0 = Cert.KernelIdeal.Hand.lamb s := by
  pointwise [tLam, Cert.KernelIdeal.Hand.lamb]

/-- The difference of the two components' means. -/
theorem tOd_at (p) (lam) (a3) (h : Fin 4) (Q : Fin 16384) (e : Fin 128) :
    tOd p lam a3 (ix3 h Q e) = ∑ x : Fin 16384, ((p (ix4 0 h Q x) : EReal) - lam ix0 * p (ix4 1 h Q x)) * a3 (ix2 ⟨h.val * 128 + e.val, by omega⟩ x) := by
  pointwise [tOd]

/-- The result: normalised over the head's width, scaled. -/
theorem tOut_at (od) (a5) (R : Fin 512) (Q : Fin 16384) :
    tOut od a5 (ix2 R Q) = Cert.KernelIdeal.Hand.fin (fun e => od (ix3 ⟨R.val / 128, by omega⟩ Q e)) (fun e => a5 (ix2 e 0)) ⟨R.val % 128, by omega⟩ := by
  pointwise [tOut, Cert.KernelIdeal.Hand.fin]
end Cert.ReferenceIdeal.Value
end
-- ==== Proof.Value.PayS.lean ====
/-
  The stored values of the branch with a running maximum, read at an index over the extended reals.
-/
module

public import proofs.«01_k».proof.Proof.Value.PayU

@[expose] public section

set_option maxRecDepth 16384

noncomputable section

namespace Cert.KernelIdeal.Hand

open Cert.KernelIdeal Cert.KernelIdeal.Gen
open Idealize.ShloMosaic Idealize.ShloMosaic.TcCoe

theorem negInf : Ideal.ofBits .f32 0xFF800000#32 = ⊥ := by simp [Ideal.ofBits, Ideal.ieee]

theorem pay99_at (qc : FVec Ideal S128x1024 .bf16) (kb : Vec Ideal S1x1024x128 .bf16) (j x : Fin 1024) :
    k0_pay99 qc kb (ix2 j x) = dotS qc kb j x := by
  pointwise [k0_pay99]; rfl
theorem pay101_at (qc : FVec Ideal S128x1024 .bf16) (kb : Vec Ideal S1x1024x128 .bf16) (m) (x : Fin 1024) :
    k0_pay101 qc kb m (ix2 0 x) = max (m (ix3 0 0 x) : EReal) (Finset.fold max ⊥ (fun j => dotS qc kb j x) Finset.univ) := by
  pointwise [k0_pay101, k0_pay100]
  simp only [pay99_at, negInf]
theorem pay107_at (m) (x : Fin 1024) : k0_pay107 (F := Ideal) m (ix3 0 0 x) = m (ix2 0 x) := by
  pointwise [k0_pay107]
theorem pay102_at (qc : FVec Ideal S128x1024 .bf16) (kb : Vec Ideal S1x1024x128 .bf16) (m) (x : Fin 1024) :
    k0_pay102 qc kb m (ix2 0 x) = Ideal.exp2 ((m (ix3 0 0 x) : EReal) - k0_pay101 qc kb m (ix2 0 x)) := by
  pointwise [k0_pay102, k0_pay100]; rfl
theorem pay103_at (qc : FVec Ideal S128x1024 .bf16) (kb : Vec Ideal S1x1024x128 .bf16) (m) (j x : Fin 1024) :
    k0_pay103 qc kb m (ix2 j x) = Ideal.exp2 (dotS qc kb j x - k0_pay101 qc kb m (ix2 0 x)) := by
  pointwise [k0_pay103]; rw [pay99_at]; rfl
theorem pay104_at (qc : FVec Ideal S128x1024 .bf16) (kb : Vec Ideal S1x1024x128 .bf16) (m l) (x : Fin 1024) :
    k0_pay104 qc kb m l (ix3 0 0 x) = Ideal.exp2 ((m (ix3 0 0 x) : EReal) - k0_pay101 qc kb m (ix2 0 x)) * l (ix3 0 0 x)
      + ∑ j : Fin 1024, Ideal.exp2 (dotS qc kb j x - k0_pay101 qc kb m (ix2 0 x)) := by
  pointwise [k0_pay104]
  simp only [pay102_at, pay103_at]
theorem pay105_at (qc : FVec Ideal S128x1024 .bf16) (kb : Vec Ideal S1x1024x128 .bf16) (m vb a) (e : Fin 128) (x : Fin 1024) :
    k0_pay106 (k0_pay105 qc vb kb m a) (ix3 0 e x) = Ideal.exp2 ((m (ix3 0 0 x) : EReal) - k0_pay101 qc kb m (ix2 0 x)) * a (ix3 0 e x)
      + ∑ j : Fin 1024, (vb (ix2 e j) : EReal) * Ideal.exp2 (dotS qc kb j x - k0_pay101 qc kb m (ix2 0 x)) := by
  pointwise [k0_pay105, k0_pay106]
  simp only [pay102_at, pay103_at]
theorem pay132_at (q : Vec Ideal S128x1024 .bf16) (e : Fin 128) (x : Fin 1024) :
    k0_pay132 q (ix2 e x) = if e.val < 64 then (q (ix2 e x) : EReal) else 0 := by
  pointwise [k0_pay132, k0_pay131]
  split <;> rfl
theorem pay133_at (q : Vec Ideal S128x1024 .bf16) (e : Fin 128) (x : Fin 1024) :
    k0_pay133 q (ix2 e x) = if e.val < 64 then 0 else (q (ix2 e x) : EReal) := by
  pointwise [k0_pay133, k0_pay131]
  split
  · rfl
  · rename_i h
    congr 2; apply Fin.ext; show 64 + (e.val - 64) = e.val; omega
theorem pay150_at (a b : BitVec 32) (qc : FVec Ideal S128x1024 .bf16) (kb : Vec Ideal S1x1024x128 .bf16) (j x : Fin 1024) :
    k0_pay150 a qc b kb (ix2 j x) = Scalar.select (IntOp.cmpi .sle (IntOp.addi b (BitVec.ofNat 32 j.val)) (IntOp.addi (Scalar.muli a 1024#32) (BitVec.ofNat 32 x.val)))
      (dotS qc kb j x) ⊥ := by
  pointwise [k0_pay150]; rfl
theorem pay152_at (s : FVec Ideal S1024x1024 .f32) (m) (x : Fin 1024) :
    k0_pay152 s m (ix2 0 x) = max (m (ix3 0 0 x) : EReal) (Finset.fold max ⊥ (fun j => s (ix2 j x)) Finset.univ) := by
  pointwise [k0_pay152, k0_pay151]
  simp only [negInf]
theorem pay153_at (s : FVec Ideal S1024x1024 .f32) (m) (x : Fin 1024) :
    k0_pay153 s m (ix2 0 x) = Ideal.exp2 ((m (ix3 0 0 x) : EReal) - k0_pay152 s m (ix2 0 x)) := by
  pointwise [k0_pay153, k0_pay151]; rfl
theorem pay154_at (s : FVec Ideal S1024x1024 .f32) (m) (j x : Fin 1024) :
    k0_pay154 s m (ix2 j x) = Ideal.exp2 ((s (ix2 j x) : EReal) - k0_pay152 s m (ix2 0 x)) := by
  pointwise [k0_pay154]; rfl
theorem pay155_at (s : FVec Ideal S1024x1024 .f32) (m l) (x : Fin 1024) :
    k0_pay155 s m l (ix3 0 0 x) = Ideal.exp2 ((m (ix3 0 0 x) : EReal) - k0_pay152 s m (ix2 0 x)) * l (ix3 0 0 x)
      + ∑ j : Fin 1024, Ideal.exp2 ((s (ix2 j x) : EReal) - k0_pay152 s m (ix2 0 x)) := by
  pointwise [k0_pay155]
  simp only [pay153_at, pay154_at]
theorem pay156_at (s : FVec Ideal S1024x1024 .f32) (m vb a) (e : Fin 128) (x : Fin 1024) :
    k0_pay156 vb s m a (ix3 0 e x) = Ideal.exp2 ((m (ix3 0 0 x) : EReal) - k0_pay152 s m (ix2 0 x)) * a (ix3 0 e x)
      + ∑ j : Fin 1024, (vb (ix2 e j) : EReal) * Ideal.exp2 ((s (ix2 j x) : EReal) - k0_pay152 s m (ix2 0 x)) := by
  pointwise [k0_pay156]
  simp only [pay153_at, pay154_at]
theorem pay158_at (a) (e : Fin 128) (x : Fin 1024) : k0_pay158 (F := Ideal) a (ix2 e x) = a (ix3 0 e x) := by
  pointwise [k0_pay158]
theorem pay2_at (a0 : FVec Ideal S128x1024 .f32) (l0 a1 l1 lam sub) (e : Fin 128) (x : Fin 1024) :
    k0_pay2 (k0_pay159 (F := Ideal) a0 l0 a1 l1 lam sub) k0_pay160 (ix2 e x)
      = fin (fun i => Ideal.div (a0 (ix2 i x)) (l0 (ix3 0 0 x)) - lamb lam * Ideal.div (a1 (ix3 0 i x)) (l1 (ix3 0 0 x))) (fun i => sub (ix2 i 0)) e := by
  pointwise [k0_pay2, k0_pay159, k0_pay160]
  rfl
theorem pay134_at (c : Fin 2) (x : Fin 1024) : k0_pay134 (F := Ideal) (ix3 c 0 x) = ⊥ := by
  pointwise [k0_pay134]; rfl
theorem pay135_at (c : Fin 2) (x : Fin 1024) : k0_pay135 (F := Ideal) (ix3 c 0 x) = 0 := by
  pointwise [k0_pay135]
theorem pay136_at (c : Fin 2) (e : Fin 128) (x : Fin 1024) : k0_pay136 (F := Ideal) (ix3 c e x) = 0 := by
  pointwise [k0_pay136]
theorem pay75_at (c : Fin 2) (r : Fin 8) (x : Fin 1024) : k0_pay75 (F := Ideal) (ix3 c r x) = 0 := by
  pointwise [k0_pay75]
theorem pay76_at (c : Fin 2) (e : Fin 128) (x : Fin 1024) : k0_pay76 (F := Ideal) (ix3 c e x) = 0 := by
  pointwise [k0_pay76]

end Cert.KernelIdeal.Hand

end
-- ==== Proof.Value.Alg.lean ====
/-
  The arithmetic of causal attention over the real numbers, and the extended-real steps that reach it: sums of weights
  `2 ^ s` over a prefix of the keys, one step of the online softmax, and the softmax with the base changed to `e`.
-/
module

public import Idealize.ShloMosaic.Lib.Pointwise

@[expose] public section

noncomputable section

namespace Cert.Attn

open Idealize.ShloMosaic

/-- The weight of a key with score `s j`. -/
def wt (s : ℕ → ℝ) (j : ℕ) : ℝ := Real.rpow 2 (s j)

/-- The weighted sum of `v` over the first `n` keys. -/
def acc (s v : ℕ → ℝ) (n : ℕ) : ℝ := ∑ j ∈ Finset.range n, v j * wt s j

/-- The sum of the weights of the first `n` keys. -/
def den (s : ℕ → ℝ) (n : ℕ) : ℝ := ∑ j ∈ Finset.range n, wt s j

theorem wt_pos (s : ℕ → ℝ) (j : ℕ) : 0 < wt s j := Real.rpow_pos_of_pos (by norm_num) _

theorem den_pos (s : ℕ → ℝ) (n : ℕ) : 0 < den s (n + 1) :=
  Finset.sum_pos (fun j _ => wt_pos s j) ⟨0, by simp⟩

theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over `Fin m` of terms read from position `n` on extends a prefix sum. -/
theorem prefix_add (f : ℕ → ℝ) (n m : ℕ) :
    (∑ j ∈ Finset.range n, f j) + ∑ j : Fin m, f (n + j.val) = ∑ j ∈ Finset.range (n + m), f j := by
  rw [Finset.sum_range_add, Fin.sum_univ_eq_sum_range (fun j => f (n + j)) m]

/-- The same with the terms after position `x` left out. -/
theorem prefix_add_mask (f : ℕ → ℝ) (n m x : ℕ) (hx : x < m) :
    (∑ j ∈ Finset.range n, f j) + ∑ j : Fin m, (if j.val ≤ x then f (n + j.val) else 0) = ∑ j ∈ Finset.range (n + x + 1), f j := by
  rw [Fin.sum_univ_eq_sum_range (fun j => if j ≤ x then f (n + j) else 0) m, add_assoc n x 1, Finset.sum_range_add]
  congr 1
  rw [← Finset.sum_filter]
  refine Finset.sum_congr (Finset.ext fun j => ?_) fun _ _ => rfl
  simp only [Finset.mem_filter, Finset.mem_range]; omega

/-- A sum taken in eight interleaved rows is the sum. -/
theorem rows8 (f : ℕ → ℝ) (m : ℕ) : (∑ r : Fin 8, ∑ g : Fin m, f (g.val * 8 + r.val)) = ∑ j : Fin (m * 8), f j.val := by
  rw [Finset.sum_comm, Fin.sum_univ_eq_sum_range f (m * 8), Fin.sum_univ_eq_sum_range (fun g => ∑ r : Fin 8, f (g * 8 + r.val)) m]
  induction m with
  | zero => simp
  | succ m ih => rw [Finset.sum_range_succ, ih, Nat.succ_mul, Finset.sum_range_add, Fin.sum_univ_eq_sum_range (fun r => f (m * 8 + r)) 8]

/-! ## A maximum over scores some of which are minus infinity -/

theorem max_real {N : ℕ} (σ : Fin N → EReal) (s : Fin N → ℝ) (P : Fin N → Prop) [DecidablePred P]
    (hσ : ∀ j, σ j = if P j then ((s j : ℝ) : EReal) else ⊥) (j0 : Fin N) (h0 : P j0) (m : EReal) (hm : m ≠ ⊤) :
    ∃ M : ℝ, max m (Finset.fold max ⊥ σ Finset.univ) = (M : EReal) := by
  have hlt : max m (Finset.fold max ⊥ σ Finset.univ) < ⊤ := by
    refine max_lt (lt_top_iff_ne_top.2 hm) (Finset.fold_max_lt _ |>.2 ⟨bot_lt_top, fun j _ => ?_⟩)
    rw [hσ]; split
    · exact EReal.coe_lt_top _
    · exact bot_lt_top
  have hgt : ⊥ < max m (Finset.fold max ⊥ σ Finset.univ) := by
    refine lt_of_lt_of_le ?_ (le_max_right _ _)
    refine lt_of_lt_of_le ?_ (Finset.le_fold_max _ |>.2 (Or.inr ⟨j0, Finset.mem_univ _, le_rfl⟩))
    rw [hσ, if_pos h0]; exact EReal.bot_lt_coe _
  exact ⟨_, (EReal.coe_toReal hlt.ne hgt.ne').symm⟩

/-! ## One step of the online softmax -/

/-- What a running maximum `m`, a running weight sum `l` and a running weighted sum `a` stand for: nothing seen yet, or the sums
    `L` and `A` scaled by `2 ^ -m`. -/
def Inv (m l a : EReal) (L A : ℝ) : Prop :=
  (m = ⊥ ∧ L = 0 ∧ A = 0 ∧ l = 0 ∧ a = 0)
    ∨ ∃ M : ℝ, m = (M : EReal) ∧ l = ((Real.rpow 2 (-M) * L : ℝ) : EReal) ∧ a = ((Real.rpow 2 (-M) * A : ℝ) : EReal)

theorem rpow2_sub (x M : ℝ) : Real.rpow 2 (x - M) = Real.rpow 2 (-M) * Real.rpow 2 x := by
  show (2 : ℝ) ^ (x - M) = (2 : ℝ) ^ (-M) * (2 : ℝ) ^ x
  rw [← Real.rpow_add (by norm_num)]; congr 1; ring

theorem exp2_masked (c : Prop) [Decidable c] (x M : ℝ) :
    Ideal.exp2 ((if c then ((x : ℝ) : EReal) else ⊥) - ((M : ℝ) : EReal)) = (((if c then Real.rpow 2 (-M) * Real.rpow 2 x else 0 : ℝ)) : EReal) := by
  split
  · rw [← EReal.coe_sub, Ideal.exp2_coe, rpow2_sub]
  · rw [EReal.bot_sub, Ideal.exp2_bot, EReal.coe_zero]

theorem online {N : ℕ} (σ : Fin N → EReal) (s v : Fin N → ℝ) (P : Fin N → Prop) [DecidablePred P]
    (hσ : ∀ j, σ j = if P j then ((s j : ℝ) : EReal) else ⊥) (j0 : Fin N) (h0 : P j0) (m l a m' l' a' : EReal) (L A : ℝ) (hinv : Inv m l a L A)
    (hm' : m' = max m (Finset.fold max ⊥ σ Finset.univ))
    (hl' : l' = Ideal.exp2 (m - m') * l + ∑ j, Ideal.exp2 (σ j - m'))
    (ha' : a' = Ideal.exp2 (m - m') * a + ∑ j, (v j : EReal) * Ideal.exp2 (σ j - m')) :
    ∃ M : ℝ, m' = (M : EReal) ∧ l' = ((Real.rpow 2 (-M) * (L + ∑ j, if P j then Real.rpow 2 (s j) else 0) : ℝ) : EReal)
      ∧ a' = ((Real.rpow 2 (-M) * (A + ∑ j, if P j then v j * Real.rpow 2 (s j) else 0) : ℝ) : EReal) := by
  have hmt : m ≠ ⊤ := by
    rcases hinv with h | ⟨M, h, _⟩
    · rw [h.1]; exact bot_ne_top
    · rw [h]; exact EReal.coe_ne_top _
  obtain ⟨M, hM⟩ := max_real σ s P hσ j0 h0 m hmt
  have hmM : m' = (M : EReal) := hm'.trans hM
  refine ⟨M, hmM, ?_, ?_⟩
  · have hsum : ∑ j, Ideal.exp2 (σ j - m') = ((∑ j, (if P j then Real.rpow 2 (-M) * Real.rpow 2 (s j) else 0) : ℝ) : EReal) := by
      rw [coe_sum]; exact Finset.sum_congr rfl fun j _ => by rw [hσ, hmM, exp2_masked]
    have hl : Ideal.exp2 (m - m') * l = ((Real.rpow 2 (-M) * L : ℝ) : EReal) := by
      rcases hinv with ⟨_, hL, _, hl, _⟩ | ⟨M0, h, hl, _⟩
      · rw [hl, hL, mul_zero, mul_zero, EReal.coe_zero]
      · rw [h, hl, hmM, ← EReal.coe_sub, Ideal.exp2_coe, ← EReal.coe_mul, rpow2_sub, ← mul_assoc]
        congr 2
        rw [mul_assoc]
        have : Real.rpow 2 M0 * Real.rpow 2 (-M0) = 1 := by
          show (2 : ℝ) ^ M0 * (2 : ℝ) ^ (-M0) = 1
          rw [← Real.rpow_add (by norm_num)]; simp
        rw [this, mul_one]
    rw [hl', hsum, hl, ← EReal.coe_add, mul_add, Finset.mul_sum]
    congr 3; funext j; split <;> simp
  · have hsum : ∑ j, (v j : EReal) * Ideal.exp2 (σ j - m') = ((∑ j, (v j * if P j then Real.rpow 2 (-M) * Real.rpow 2 (s j) else 0) : ℝ) : EReal) := by
      rw [coe_sum]; exact Finset.sum_congr rfl fun j _ => by rw [hσ, hmM, exp2_masked, ← EReal.coe_mul]
    have hl : Ideal.exp2 (m - m') * a = ((Real.rpow 2 (-M) * A : ℝ) : EReal) := by
      rcases hinv with ⟨_, _, hL, _, hl⟩ | ⟨M0, h, _, hl⟩
      · rw [hl, hL, mul_zero, mul_zero, EReal.coe_zero]
      · rw [h, hl, hmM, ← EReal.coe_sub, Ideal.exp2_coe, ← EReal.coe_mul, rpow2_sub, ← mul_assoc]
        congr 2
        rw [mul_assoc]
        have : Real.rpow 2 M0 * Real.rpow 2 (-M0) = 1 := by
          show (2 : ℝ) ^ M0 * (2 : ℝ) ^ (-M0) = 1
          rw [← Real.rpow_add (by norm_num)]; simp
        rw [this, mul_one]
    rw [ha', hsum, hl, ← EReal.coe_add, mul_add, Finset.mul_sum]
    congr 3; funext j; split
    · ring
    · simp

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A common scale drops out of a quotient. -/
theorem div_scaled (c x y : ℝ) (hc : c ≠ 0) (hy : y ≠ 0) : Ideal.div ((c * x : ℝ) : EReal) ((c * y : ℝ) : EReal) = ((x / y : ℝ) : EReal) := by
  rw [div_coe _ _ (mul_ne_zero hc hy), mul_div_mul_left _ _ hc]

/-! ## The softmax with base `e` -/

theorem exp_log2 (x M : ℝ) : Real.exp (x * Real.log 2 - M) = Real.exp (-M) * Real.rpow 2 x := by
  show _ = _ * (2 : ℝ) ^ x
  rw [Real.rpow_def_of_pos (by norm_num), ← Real.exp_add]; congr 1; ring

theorem softmax {N : ℕ} (s : ℕ → ℝ) (Q : ℕ) (hQ : Q < N) (σ : Fin N → EReal)
    (hσ : ∀ j : Fin N, σ j = if j.val ≤ Q then ((s j.val * Real.log 2 : ℝ) : EReal) else ⊥) (m' : EReal)
    (hm' : m' = max ⊥ (Finset.fold max ⊥ σ Finset.univ)) (j : Fin N) :
    Ideal.div (Ideal.exp (σ j - m')) (∑ i, Ideal.exp (σ i - m')) = (((if j.val ≤ Q then wt s j.val / den s (Q + 1) else 0 : ℝ)) : EReal) := by
  obtain ⟨M, hM⟩ := max_real σ (fun j => s j.val * Real.log 2) (fun j => j.val ≤ Q) hσ ⟨0, by omega⟩ (Nat.zero_le _) ⊥ bot_ne_top
  have hmM : m' = (M : EReal) := hm'.trans hM
  have hterm : ∀ i : Fin N, Ideal.exp (σ i - m') = ((Real.exp (-M) * (if i.val ≤ Q then wt s i.val else 0) : ℝ) : EReal) := fun i => by
    rw [hσ, hmM]; split
    · rw [← EReal.coe_sub, Ideal.exp_coe, exp_log2]; rfl
    · rw [EReal.bot_sub, Ideal.exp_bot, mul_zero, EReal.coe_zero]
  have hden : (∑ i : Fin N, if i.val ≤ Q then wt s i.val else 0) = den s (Q + 1) := by
    have h := prefix_add_mask (wt s) 0 N Q hQ
    simpa [den] using h
  have hs : ∑ i, Ideal.exp (σ i - m') = ((Real.exp (-M) * den s (Q + 1) : ℝ) : EReal) := by
    rw [← hden, Finset.mul_sum, coe_sum]; exact Finset.sum_congr rfl fun i _ => hterm i
  rw [hs, hterm, div_scaled _ _ _ (Real.exp_pos _).ne' (den_pos s Q).ne']
  congr 1; split <;> simp

/-- The difference of two softmaxes times the values is the difference of the two weighted means. -/
theorem difference {N : ℕ} (s0 s1 v : ℕ → ℝ) (lam : ℝ) (Q : ℕ) (hQ : Q < N) :
    ∑ j : Fin N, ((((if j.val ≤ Q then wt s0 j.val / den s0 (Q + 1) else 0 : ℝ)) : EReal)
        - (lam : EReal) * (((if j.val ≤ Q then wt s1 j.val / den s1 (Q + 1) else 0 : ℝ)) : EReal)) * (v j.val : EReal)
      = ((acc s0 v (Q + 1) / den s0 (Q + 1) : ℝ) : EReal) - (lam : EReal) * ((acc s1 v (Q + 1) / den s1 (Q + 1) : ℝ) : EReal) := by
  have hacc : ∀ s : ℕ → ℝ, (∑ i : Fin N, if i.val ≤ Q then v i.val * wt s i.val else 0) = acc s v (Q + 1) := fun s => by
    have h := prefix_add_mask (fun j => v j * wt s j) 0 N Q hQ
    simpa [acc] using h
  rw [← EReal.coe_mul, ← EReal.coe_sub, ← hacc s0, ← hacc s1, Finset.sum_div, Finset.sum_div, Finset.mul_sum, ← Finset.sum_sub_distrib, coe_sum]
  refine Finset.sum_congr rfl fun j _ => ?_
  rw [← EReal.coe_mul, ← EReal.coe_sub, ← EReal.coe_mul]
  congr 1; split
  · ring
  · simp

end Cert.Attn

end
-- ==== Proof.Value.StateU.lean ====
/-
  The branch without a running maximum over finite operands: what its state stands for after each chunk, and the
  component's output as the weighted mean of the values over the keys up to the query.
-/
module

public import proofs.«01_k».proof.Proof.Value.PayS
public import proofs.«01_k».proof.Proof.Value.Alg
public import Idealize.ShloMosaic.Lib.WordCmp

@[expose] public section

set_option maxRecDepth 16384

noncomputable section

namespace Cert.KernelIdeal.Hand

open Cert.KernelIdeal Cert.KernelIdeal.Gen Cert.Attn
open Idealize.ShloMosaic Idealize.ShloMosaic.TcCoe

/-- The score of key `j` against a column of queries `qm`. -/
def score (Kr : ℕ → Fin 128 → ℝ) (qm : Fin 128 → ℝ) (j : ℕ) : ℝ := ∑ e : Fin 128, Kr j e * qm e

theorem select_sle {α : Type} (a b : ℕ) (ha : a < 2 ^ 31) (hb : b < 2 ^ 31) (u v : α) :
    Scalar.select (IntOp.cmpi .sle (BitVec.ofNat 32 a) (BitVec.ofNat 32 b)) u v = if a ≤ b then u else v := by
  have h := WordCmp.cmpi_sle_ofNat_eq_one_iff (w := 32) (a := a) (b := b) ha hb
  unfold Scalar.select
  by_cases hab : a ≤ b
  · rw [if_pos hab]; exact if_pos (h.2 hab)
  · rw [if_neg hab]; exact if_neg (fun h' => hab (h.1 h'))

variable (X4 : Vec Ideal S1x16384x128 .bf16) (X5 : Vec Ideal S128x16384 .bf16) (Kr : ℕ → Fin 128 → ℝ) (Vr : Fin 128 → ℕ → ℝ)
  (hK : ∀ (j : ℕ) (h : j < 16384) (e : Fin 128), X4 (ix3 0 ⟨j, h⟩ e) = ((Kr j e : ℝ) : EReal))
  (hV : ∀ (j : ℕ) (h : j < 16384) (e : Fin 128), X5 (ix2 e ⟨j, h⟩) = ((Vr e j : ℝ) : EReal))
  (qc : FVec Ideal S128x1024 .bf16) (qm : Fin 1024 → Fin 128 → ℝ) (hq : ∀ (e : Fin 128) (x : Fin 1024), qc (ix2 e x) = ((qm x e : ℝ) : EReal))

theorem kchunk_at (k : ℕ) (h : k < 16) (j : Fin 1024) (e : Fin 128) : kchunk X4 k h (ix3 0 j e) = X4 (ix3 0 ⟨1024 * k + j.val, by omega⟩ e) := by
  refine congrArg X4 (funext fun a => Fin.ext ?_)
  fin_cases a <;> simp [Rect.unit, Rect.toLoadRect, LoadRect.idx] <;> rfl
theorem vchunk_at (k : ℕ) (h : k < 16) (e : Fin 128) (j : Fin 1024) : vchunk X5 k h (ix2 e j) = X5 (ix2 e ⟨1024 * k + j.val, by omega⟩) := by
  refine congrArg X5 (funext fun a => Fin.ext ?_)
  fin_cases a <;> simp [Rect.unit, Rect.toLoadRect, LoadRect.idx] <;> rfl
theorem kdiag_at (k : ℕ) (h : k < 16) (j : Fin 512) (e : Fin 128) : kdiag X4 k h (ix3 0 j e) = X4 (ix3 0 ⟨1024 * k + j.val, by omega⟩ e) := by
  refine congrArg X4 (funext fun a => Fin.ext ?_)
  fin_cases a <;> simp [Rect.unit, Rect.toLoadRect, LoadRect.idx] <;> rfl
theorem vdiag_at (k : ℕ) (h : k < 16) (e : Fin 128) (j : Fin 512) : vdiag X5 k h (ix2 e j) = X5 (ix2 e ⟨1024 * k + j.val, by omega⟩) := by
  refine congrArg X5 (funext fun a => Fin.ext ?_)
  fin_cases a <;> simp [Rect.unit, Rect.toLoadRect, LoadRect.idx] <;> rfl
theorem left8_at (l : Vec Ideal S1x8x1024 .f32) (r : Fin 8) (x : Fin 512) : left8 l (ix3 0 r x) = l (ix3 0 r ⟨x.val, by omega⟩) := by
  refine congrArg l (funext fun a => Fin.ext ?_)
  fin_cases a <;> simp [Rect.unit, Rect.toLoadRect, LoadRect.idx] <;> rfl
theorem right8_at (l : Vec Ideal S1x8x1024 .f32) (r : Fin 8) (x : Fin 512) : right8 l (ix3 0 r x) = l (ix3 0 r ⟨512 + x.val, by omega⟩) := by
  refine congrArg l (funext fun a => Fin.ext ?_)
  fin_cases a <;> simp [Rect.unit, Rect.toLoadRect, LoadRect.idx] <;> rfl
theorem left128_at (l : Vec Ideal S1x128x1024 .f32) (r : Fin 128) (x : Fin 512) : left128 l (ix3 0 r x) = l (ix3 0 r ⟨x.val, by omega⟩) := by
  refine congrArg l (funext fun a => Fin.ext ?_)
  fin_cases a <;> simp [Rect.unit, Rect.toLoadRect, LoadRect.idx] <;> rfl
theorem right128_at (l : Vec Ideal S1x128x1024 .f32) (r : Fin 128) (x : Fin 512) : right128 l (ix3 0 r x) = l (ix3 0 r ⟨512 + x.val, by omega⟩) := by
  refine congrArg l (funext fun a => Fin.ext ?_)
  fin_cases a <;> simp [Rect.unit, Rect.toLoadRect, LoadRect.idx] <;> rfl
theorem join8_left (wl wr : Vec Ideal S1x8x512 .f32) (r : Fin 8) (x : Fin 1024) (h : x.val < 512) : join8 wl wr (ix3 0 r x) = wl (ix3 0 r ⟨x.val, h⟩) := by
  refine (if_pos h).trans (congrArg wl (funext fun a => Fin.ext ?_))
  fin_cases a <;> simp [half8] <;> first | rfl | exact h
theorem join8_right (wl wr : Vec Ideal S1x8x512 .f32) (r : Fin 8) (x : Fin 1024) (h : ¬x.val < 512) :
    join8 wl wr (ix3 0 r x) = wr (ix3 0 r ⟨x.val - 512, by omega⟩) := by
  refine (if_neg h).trans (congrArg wr (funext fun a => Fin.ext ?_))
  fin_cases a <;> simp [half8] <;> first | rfl | (show x.val % 512 = x.val - 512; omega)
theorem join128_left (wl wr : Vec Ideal S1x128x512 .f32) (r : Fin 128) (x : Fin 1024) (h : x.val < 512) : join128 wl wr (ix3 0 r x) = wl (ix3 0 r ⟨x.val, h⟩) := by
  refine (if_pos h).trans (congrArg wl (funext fun a => Fin.ext ?_))
  fin_cases a <;> simp [half128] <;> first | rfl | exact h
theorem join128_right (wl wr : Vec Ideal S1x128x512 .f32) (r : Fin 128) (x : Fin 1024) (h : ¬x.val < 512) :
    join128 wl wr (ix3 0 r x) = wr (ix3 0 r ⟨x.val - 512, by omega⟩) := by
  refine (if_neg h).trans (congrArg wr (funext fun a => Fin.ext ?_))
  fin_cases a <;> simp [half128] <;> first | rfl | (show x.val % 512 = x.val - 512; omega)

include hK hq in
theorem dotS_real (k : ℕ) (h : k < 16) (j x : Fin 1024) : dotS qc (kchunk X4 k h) j x = ((score Kr (qm x) (1024 * k + j.val) : ℝ) : EReal) := by
  unfold dotS score
  rw [coe_sum]
  refine Finset.sum_congr rfl fun e _ => ?_
  rw [kchunk_at, hK, hq, EReal.coe_mul]
include hK hq in
theorem dotH_real (k : ℕ) (h : k < 16) (j : Fin 512) (x : Fin 1024) : dotH qc (kdiag X4 k h) j x = ((score Kr (qm x) (1024 * k + j.val) : ℝ) : EReal) := by
  unfold dotH score
  rw [coe_sum]
  refine Finset.sum_congr rfl fun e _ => ?_
  rw [kdiag_at, hK, hq, EReal.coe_mul]

/-- The eight sub-rows of column `x` add up to `L`. -/
def Rows (l : Vec Ideal S1x8x1024 .f32) (x : Fin 1024) (L : ℝ) : Prop :=
  ∃ f : Fin 8 → ℝ, (∀ r, l (ix3 0 r x) = ((f r : ℝ) : EReal)) ∧ ∑ r, f r = L

include hK hq in
theorem rows_step (k : ℕ) (h : k < 16) (l : Vec Ideal S1x8x1024 .f32) (x : Fin 1024) (hl : Rows l x (den (score Kr (qm x)) (1024 * k))) :
    Rows (k0_pay4 qc (kchunk X4 k h) l) x (den (score Kr (qm x)) (1024 * (k + 1))) := by
  obtain ⟨f, hf, hs⟩ := hl
  refine ⟨fun r => f r + ∑ g : Fin 128, wt (score Kr (qm x)) (1024 * k + (g.val * 8 + r.val)), fun r => ?_, ?_⟩
  · rw [pay4_at, hf, EReal.coe_add, coe_sum]
    congr 2; funext g
    rw [dotS_real X4 Kr hK qc qm hq]; rfl
  · rw [Finset.sum_add_distrib, hs, rows8 (fun j => wt (score Kr (qm x)) (1024 * k + j)) 128]
    exact prefix_add (wt (score Kr (qm x))) (1024 * k) 1024

include hK hV hq in
theorem acc_step (k : ℕ) (h : k < 16) (a : Vec Ideal S1x128x1024 .f32) (e : Fin 128) (x : Fin 1024)
    (ha : a (ix3 0 e x) = ((acc (score Kr (qm x)) (Vr e) (1024 * k) : ℝ) : EReal)) :
    k0_pay5 qc (vchunk X5 k h) (kchunk X4 k h) a (ix3 0 e x) = ((acc (score Kr (qm x)) (Vr e) (1024 * (k + 1)) : ℝ) : EReal) := by
  have hp := prefix_add (fun j => Vr e j * wt (score Kr (qm x)) j) (1024 * k) 1024
  rw [pay5_at, ha]
  unfold acc
  rw [Nat.mul_add, Nat.mul_one, ← hp, EReal.coe_add, coe_sum Finset.univ]
  congr 2; funext j
  rw [dotS_real X4 Kr hK qc qm hq, vchunk_at, hV, EReal.coe_mul]; rfl

include hK hV hq in
/-- A component's output at query `x`, channel `e`: the mean of the values over the keys up to the query. -/
theorem compU_at (n : ℕ) (h : n < 16) (l : Vec Ideal S1x8x1024 .f32) (a : Vec Ideal S1x128x1024 .f32) (e : Fin 128) (x : Fin 1024)
    (hl : Rows l x (den (score Kr (qm x)) (1024 * n)))
    (ha : a (ix3 0 e x) = ((acc (score Kr (qm x)) (Vr e) (1024 * n) : ℝ) : EReal)) :
    compU qc (kdiag X4 n h) (vdiag X5 n h) (kchunk X4 n h) (vchunk X5 n h) l a (ix2 e x)
      = ((acc (score Kr (qm x)) (Vr e) (1024 * n + x.val + 1) / den (score Kr (qm x)) (1024 * n + x.val + 1) : ℝ) : EReal) := by
  set s := score Kr (qm x) with hsdef
  obtain ⟨f, hf, hs⟩ := hl
  unfold compU
  rw [pay96_at, ← div_coe _ _ (den_pos s (1024 * n + x.val)).ne']
  by_cases hx : x.val < 512
  · have p80 : ∀ j : Fin 512, k0_pay80 qc (kdiag X4 n h) (ix2 j ⟨x.val, hx⟩) = (((if j.val ≤ x.val then wt s (1024 * n + j.val) else 0 : ℝ)) : EReal) := fun j => by
      rw [pay80_at, select_sle _ _ (by omega) (by show x.val < _; omega), dotH_real X4 Kr hK qc qm hq]
      show (if j.val ≤ x.val then _ else _) = _
      split
      · rfl
      · rfl
    congr 1
    · rw [join128_left _ _ _ _ hx, pay82_at, left128_at]
      rw [ha]
      have hp := prefix_add_mask (fun j => Vr e j * wt s j) (1024 * n) 512 x.val hx
      unfold acc
      rw [← hp, EReal.coe_add, coe_sum Finset.univ]
      congr 2; funext j
      rw [p80, vdiag_at, hV, ← EReal.coe_mul, mul_ite, mul_zero]
    · have hr : ∀ r : Fin 8, join8 (k0_pay81 qc (kdiag X4 n h) (left8 l)) (k0_pay90 (k0_pay88 (right8 l)) (k0_pay89 qc k0_pay79 (kchunk X4 n h))) (ix3 0 r x)
          = ((f r + ∑ g : Fin 64, (if g.val * 8 + r.val ≤ x.val then wt s (1024 * n + (g.val * 8 + r.val)) else 0) : ℝ) : EReal) := fun r => by
        rw [join8_left _ _ _ _ hx, pay81_at, left8_at, EReal.coe_add, coe_sum]
        rw [hf]
        congr 2; funext g
        rw [p80]
      rw [Finset.sum_congr rfl fun r _ => hr r, ← coe_sum, Finset.sum_add_distrib, hs,
        rows8 (fun j => if j ≤ x.val then wt s (1024 * n + j) else 0) 64]
      exact congrArg _ (prefix_add_mask (wt s) (1024 * n) 512 x.val hx)
  · have ex : (⟨512 + (x.val - 512), by omega⟩ : Fin 1024) = x := Fin.ext (by show 512 + (x.val - 512) = x.val; omega)
    have p87 : ∀ j : Fin 1024, k0_pay87 qc k0_pay79 (kchunk X4 n h) (ix2 j ⟨x.val - 512, by omega⟩) = (((if j.val ≤ x.val then wt s (1024 * n + j.val) else 0 : ℝ)) : EReal) := fun j => by
      rw [pay87_at]
      simp only [ex]
      rw [select_sle _ _ (by omega) (by omega), dotS_real X4 Kr hK qc qm hq]
      by_cases hj : j.val < 512
      · rw [if_pos hj, if_pos (by omega)]; rfl
      · rw [if_neg hj]
        by_cases hjx : j.val ≤ x.val
        · rw [if_pos hjx, if_pos (by omega)]; rfl
        · rw [if_neg hjx, if_neg (by omega)]; rfl
    congr 1
    · rw [join128_right _ _ _ _ hx, pay91_at, right128_at, ex]
      rw [ha]
      have hp := prefix_add_mask (fun j => Vr e j * wt s j) (1024 * n) 1024 x.val x.isLt
      unfold acc
      rw [← hp, EReal.coe_add, coe_sum Finset.univ]
      congr 2; funext j
      rw [p87, vchunk_at, hV, ← EReal.coe_mul, mul_ite, mul_zero]
    · have hr : ∀ r : Fin 8, join8 (k0_pay81 qc (kdiag X4 n h) (left8 l)) (k0_pay90 (k0_pay88 (right8 l)) (k0_pay89 qc k0_pay79 (kchunk X4 n h))) (ix3 0 r x)
          = ((f r + ∑ g : Fin 128, (if g.val * 8 + r.val ≤ x.val then wt s (1024 * n + (g.val * 8 + r.val)) else 0) : ℝ) : EReal) := fun r => by
        rw [join8_right _ _ _ _ hx, pay90_at, right8_at, ex, EReal.coe_add, coe_sum]
        rw [hf]
        congr 2; funext g
        rw [p87]
      rw [Finset.sum_congr rfl fun r _ => hr r, ← coe_sum, Finset.sum_add_distrib, hs,
        rows8 (fun j => if j ≤ x.val then wt s (1024 * n + j) else 0) 128]
      exact congrArg _ (prefix_add_mask (wt s) (1024 * n) 1024 x.val x.isLt)

end Cert.KernelIdeal.Hand

end
-- ==== Proof.Value.StateS.lean ====
/-
  The branch with a running maximum over finite operands: what its state stands for after each chunk, and the
  component's output as the weighted mean of the values over the keys up to the query.
-/
module

public import proofs.«01_k».proof.Proof.Value.StateU

@[expose] public section

set_option maxRecDepth 16384

noncomputable section

namespace Cert.KernelIdeal.Hand

open Cert.KernelIdeal Cert.KernelIdeal.Gen Cert.Attn
open Idealize.ShloMosaic Idealize.ShloMosaic.TcCoe

variable (X4 : Vec Ideal S1x16384x128 .bf16) (X5 : Vec Ideal S128x16384 .bf16) (Kr : ℕ → Fin 128 → ℝ) (Vr : Fin 128 → ℕ → ℝ)
  (hK : ∀ (j : ℕ) (h : j < 16384) (e : Fin 128), X4 (ix3 0 ⟨j, h⟩ e) = ((Kr j e : ℝ) : EReal))
  (hV : ∀ (j : ℕ) (h : j < 16384) (e : Fin 128), X5 (ix2 e ⟨j, h⟩) = ((Vr e j : ℝ) : EReal))
  (qc : FVec Ideal S128x1024 .bf16) (qm : Fin 1024 → Fin 128 → ℝ) (hq : ∀ (e : Fin 128) (x : Fin 1024), qc (ix2 e x) = ((qm x e : ℝ) : EReal))

include hK hV hq in
theorem inv_step (k : ℕ) (h : k < 16) (m l : Vec Ideal S1x1x1024 .f32) (a : Vec Ideal S1x128x1024 .f32) (e : Fin 128) (x : Fin 1024)
    (hi : Inv (m (ix3 0 0 x)) (l (ix3 0 0 x)) (a (ix3 0 e x)) (den (score Kr (qm x)) (1024 * k)) (acc (score Kr (qm x)) (Vr e) (1024 * k))) :
    Inv (k0_pay107 (k0_pay101 qc (kchunk X4 k h) m) (ix3 0 0 x)) (k0_pay104 qc (kchunk X4 k h) m l (ix3 0 0 x))
      (k0_pay106 (k0_pay105 qc (vchunk X5 k h) (kchunk X4 k h) m a) (ix3 0 e x))
      (den (score Kr (qm x)) (1024 * (k + 1))) (acc (score Kr (qm x)) (Vr e) (1024 * (k + 1))) := by
  set s := score Kr (qm x) with hs
  obtain ⟨M, hm, hl, ha⟩ := online (fun j : Fin 1024 => dotS qc (kchunk X4 k h) j x) (fun j => s (1024 * k + j.val)) (fun j => Vr e (1024 * k + j.val))
    (fun _ => True) (fun j => by rw [if_pos trivial]; exact dotS_real X4 Kr hK qc qm hq k h j x) 0 trivial _ _ _ _ _ _ _ _ hi (pay101_at qc _ m x)
    (pay104_at qc _ m l x) ((pay105_at qc _ m (vchunk X5 k h) a e x).trans (by
      congr 2; funext j; rw [vchunk_at, hV]))
  have hp := prefix_add (fun j => Vr e j * wt s j) (1024 * k) 1024
  have hd := prefix_add (wt s) (1024 * k) 1024
  refine Or.inr ⟨M, (pay107_at _ x).trans hm, hl.trans ?_, ha.trans ?_⟩
  · simp only [if_true]; exact congrArg (fun t => ((Real.rpow 2 (-M) * t : ℝ) : EReal)) hd
  · simp only [if_true]; exact congrArg (fun t => ((Real.rpow 2 (-M) * t : ℝ) : EReal)) hp

theorem keyBase_eq : ∀ n : Fin 16, keyBase (BitVec.ofNat 32 n.val) = BitVec.ofNat 32 (1024 * n.val) := by decide +kernel
theorem queryBase_eq : ∀ n : Fin 16, Scalar.muli (BitVec.ofNat 32 n.val) 1024#32 = BitVec.ofNat 32 (1024 * n.val) := by decide +kernel

include hK hq in
theorem scoreS_at (n : ℕ) (h : n < 16) (j x : Fin 1024) :
    scoreS (BitVec.ofNat 32 n) qc (kchunk X4 n h) (ix2 j x) = if j.val ≤ x.val then ((score Kr (qm x) (1024 * n + j.val) : ℝ) : EReal) else ⊥ := by
  unfold scoreS
  have e1 := keyBase_eq ⟨n, h⟩
  have e2 := queryBase_eq ⟨n, h⟩
  simp only at e1 e2
  rw [pay150_at, e1, e2]
  show Scalar.select (IntOp.cmpi .sle (BitVec.ofNat 32 (1024 * n) + BitVec.ofNat 32 j.val) (BitVec.ofNat 32 (1024 * n) + BitVec.ofNat 32 x.val)) _ _ = _
  rw [← BitVec.ofNat_add, ← BitVec.ofNat_add, select_sle _ _ (by omega) (by omega), dotS_real X4 Kr hK qc qm hq]
  by_cases hj : j.val ≤ x.val
  · rw [if_pos hj, if_pos (by omega)]
  · rw [if_neg hj, if_neg (by omega)]

include hK hV hq in
/-- A component's output at query `x`, channel `e`: the mean of the values over the keys up to the query. -/
theorem compS_at (n : ℕ) (h : n < 16) (m l : Vec Ideal S1x1x1024 .f32) (a : Vec Ideal S1x128x1024 .f32) (e : Fin 128) (x : Fin 1024)
    (hi : Inv (m (ix3 0 0 x)) (l (ix3 0 0 x)) (a (ix3 0 e x)) (den (score Kr (qm x)) (1024 * n)) (acc (score Kr (qm x)) (Vr e) (1024 * n))) :
    Ideal.div (k0_pay156 (vchunk X5 n h) (scoreS (BitVec.ofNat 32 n) qc (kchunk X4 n h)) m a (ix3 0 e x))
        (k0_pay155 (scoreS (BitVec.ofNat 32 n) qc (kchunk X4 n h)) m l (ix3 0 0 x))
      = ((acc (score Kr (qm x)) (Vr e) (1024 * n + x.val + 1) / den (score Kr (qm x)) (1024 * n + x.val + 1) : ℝ) : EReal) := by
  set s := score Kr (qm x) with hs
  obtain ⟨M, hm, hl, ha⟩ := online (fun j : Fin 1024 => scoreS (BitVec.ofNat 32 n) qc (kchunk X4 n h) (ix2 j x)) (fun j => s (1024 * n + j.val))
    (fun j => Vr e (1024 * n + j.val))
    (fun j => j.val ≤ x.val) (fun j => scoreS_at X4 Kr hK qc qm hq n h j x) 0 (Nat.zero_le _) _ _ _ _ _ _ _ _ hi (pay152_at _ m x)
    (pay155_at _ m l x) ((pay156_at _ m (vchunk X5 n h) a e x).trans (by
      congr 2; funext j; rw [vchunk_at, hV]))
  have hp := prefix_add_mask (fun j => Vr e j * wt s j) (1024 * n) 1024 x.val x.isLt
  have hd := prefix_add_mask (wt s) (1024 * n) 1024 x.val x.isLt
  rw [ha, hl]
  rw [← div_scaled (Real.rpow 2 (-M)) _ _ (Real.rpow_pos_of_pos (by norm_num) _).ne' (den_pos s (1024 * n + x.val)).ne']
  congr 2
  · exact congrArg (fun t => Real.rpow 2 (-M) * t) hp
  · exact congrArg (fun t => Real.rpow 2 (-M) * t) hd

end Cert.KernelIdeal.Hand

end
-- ==== Proof.Value.Block.lean ====
/-
  The block the kernel writes at a grid point over finite operands, element by element: both branches give the
  normalised difference of the two components' weighted means.
-/
module

public import proofs.«01_k».proof.Proof.Value.StateS

@[expose] public section

set_option maxRecDepth 16384

noncomputable section

namespace Cert.KernelIdeal.Hand

open Cert.KernelIdeal Cert.KernelIdeal.Gen Cert.Attn
open Idealize.ShloMosaic Idealize.ShloMosaic.TcCoe

variable (q : Vec Ideal S128x1024 .bf16) (X4 : Vec Ideal S1x16384x128 .bf16) (X5 : Vec Ideal S128x16384 .bf16)
  (Qr : Fin 128 → Fin 1024 → ℝ) (Kr : ℕ → Fin 128 → ℝ) (Vr : Fin 128 → ℕ → ℝ)
  (hQ : ∀ (e : Fin 128) (x : Fin 1024), q (ix2 e x) = ((Qr e x : ℝ) : EReal))
  (hK : ∀ (j : ℕ) (h : j < 16384) (e : Fin 128), X4 (ix3 0 ⟨j, h⟩ e) = ((Kr j e : ℝ) : EReal))
  (hV : ∀ (j : ℕ) (h : j < 16384) (e : Fin 128), X5 (ix2 e ⟨j, h⟩) = ((Vr e j : ℝ) : EReal))

/-- The queries of the first component: the rows from 64 on at zero. -/
def qfst (x : Fin 1024) (e : Fin 128) : ℝ := if e.val < 64 then Qr e x else 0
/-- The queries of the second component: the rows before 64 at zero. -/
def qsnd (x : Fin 1024) (e : Fin 128) : ℝ := if e.val < 64 then 0 else Qr e x

include hQ in
theorem q73 (e : Fin 128) (x : Fin 1024) : k0_pay73 q (ix2 e x) = ((qfst Qr x e : ℝ) : EReal) := by
  rw [pay73_at, hQ]; unfold qfst; split <;> rfl
include hQ in
theorem q74 (e : Fin 128) (x : Fin 1024) : k0_pay74 q (ix2 e x) = ((qsnd Qr x e : ℝ) : EReal) := by
  rw [pay74_at, hQ]; unfold qsnd; split <;> rfl
include hQ in
theorem q132 (e : Fin 128) (x : Fin 1024) : k0_pay132 q (ix2 e x) = ((qfst Qr x e : ℝ) : EReal) := by
  rw [pay132_at, hQ]; unfold qfst; split <;> rfl
include hQ in
theorem q133 (e : Fin 128) (x : Fin 1024) : k0_pay133 q (ix2 e x) = ((qsnd Qr x e : ℝ) : EReal) := by
  rw [pay133_at, hQ]; unfold qsnd; split <;> rfl

theorem ld8_at (f : Vec Ideal S2x8x1024 .f32) (c : Fin 2) (inb) (r : Fin 8) (x : Fin 1024) :
    View.ld f (Rect.unit (s := S2x8x1024) ![c.val, 0, 0] S1x8x1024.size inb) (ix3 0 r x) = f (ix3 c r x) := by
  refine congrArg f (funext fun a => Fin.ext ?_)
  fin_cases a <;> simp [Rect.unit, Rect.toLoadRect, LoadRect.idx] <;> rfl
theorem ld128_at (f : Vec Ideal S2x128x1024 .f32) (c : Fin 2) (inb) (r : Fin 128) (x : Fin 1024) :
    View.ld f (Rect.unit (s := S2x128x1024) ![c.val, 0, 0] S1x128x1024.size inb) (ix3 0 r x) = f (ix3 c r x) := by
  refine congrArg f (funext fun a => Fin.ext ?_)
  fin_cases a <;> simp [Rect.unit, Rect.toLoadRect, LoadRect.idx] <;> rfl
theorem ld1_at (f : Vec Ideal S2x1x1024 .f32) (c : Fin 2) (inb) (x : Fin 1024) :
    View.ld f (Rect.unit (s := S2x1x1024) ![c.val, 0, 0] S1x1x1024.size inb) (ix3 0 0 x) = f (ix3 c 0 x) := by
  refine congrArg f (funext fun a => Fin.ext ?_)
  fin_cases a <;> simp [Rect.unit, Rect.toLoadRect, LoadRect.idx] <;> rfl

include hQ hK in
theorem st_rows (x : Fin 1024) (k : ℕ) (hk : k ≤ 16) :
    Rows (stAt q X4 X5 k).l0 x (den (score Kr (qfst Qr x)) (1024 * k)) ∧ Rows (stAt q X4 X5 k).l1 x (den (score Kr (qsnd Qr x)) (1024 * k)) := by
  induction k with
  | zero =>
    refine ⟨⟨fun _ => 0, fun r => (ld8_at _ 0 inb_S2x8x1024_S1x8x1024_0_0_0 r x).trans ((pay75_at _ _ _).trans EReal.coe_zero.symm), ?_⟩,
      ⟨fun _ => 0, fun r => (ld8_at _ 1 inb_S2x8x1024_S1x8x1024_1_0_0 r x).trans ((pay75_at _ _ _).trans EReal.coe_zero.symm), ?_⟩⟩ <;> simp [den]
  | succ k ih =>
    have hk' : k < 16 := hk
    have ih := ih hk'.le
    simp only [stAt, dif_pos hk']
    exact ⟨rows_step X4 Kr hK _ _ (q73 q Qr hQ) k hk' _ x ih.1, rows_step X4 Kr hK _ _ (q74 q Qr hQ) k hk' _ x ih.2⟩

include hQ hK hV in
theorem st_acc (e : Fin 128) (x : Fin 1024) (k : ℕ) (hk : k ≤ 16) :
    (stAt q X4 X5 k).a0 (ix3 0 e x) = ((acc (score Kr (qfst Qr x)) (Vr e) (1024 * k) : ℝ) : EReal)
      ∧ (stAt q X4 X5 k).a1 (ix3 0 e x) = ((acc (score Kr (qsnd Qr x)) (Vr e) (1024 * k) : ℝ) : EReal) := by
  induction k with
  | zero =>
    have z : ∀ s : ℕ → ℝ, ((acc s (Vr e) (1024 * 0) : ℝ) : EReal) = 0 := fun s => by simp [acc]
    rw [z, z]
    exact ⟨(ld128_at _ 0 inb_S2x128x1024_S1x128x1024_0_0_0 e x).trans (pay76_at _ _ _), (ld128_at _ 1 inb_S2x128x1024_S1x128x1024_1_0_0 e x).trans (pay76_at _ _ _)⟩
  | succ k ih =>
    have hk' : k < 16 := hk
    have ih := ih hk'.le
    simp only [stAt, dif_pos hk']
    exact ⟨acc_step X4 X5 Kr Vr hK hV _ _ (q73 q Qr hQ) k hk' _ e x ih.1, acc_step X4 X5 Kr Vr hK hV _ _ (q74 q Qr hQ) k hk' _ e x ih.2⟩

include hQ hK hV in
theorem sh_inv (e : Fin 128) (x : Fin 1024) (k : ℕ) (hk : k ≤ 16) :
    Inv ((shAt q X4 X5 k).m0 (ix3 0 0 x)) ((shAt q X4 X5 k).l0 (ix3 0 0 x)) ((shAt q X4 X5 k).a0 (ix3 0 e x))
        (den (score Kr (qfst Qr x)) (1024 * k)) (acc (score Kr (qfst Qr x)) (Vr e) (1024 * k))
      ∧ Inv ((shAt q X4 X5 k).m1 (ix3 0 0 x)) ((shAt q X4 X5 k).l1 (ix3 0 0 x)) ((shAt q X4 X5 k).a1 (ix3 0 e x))
        (den (score Kr (qsnd Qr x)) (1024 * k)) (acc (score Kr (qsnd Qr x)) (Vr e) (1024 * k)) := by
  induction k with
  | zero =>
    exact ⟨Or.inl ⟨(ld1_at _ 0 inb_S2x1x1024_S1x1x1024_0_0_0 x).trans (pay134_at _ _), by simp [den], by simp [acc], (ld1_at _ 0 inb_S2x1x1024_S1x1x1024_0_0_0 x).trans (pay135_at _ _), (ld128_at _ 0 inb_S2x128x1024_S1x128x1024_0_0_0 e x).trans (pay136_at _ _ _)⟩,
      Or.inl ⟨(ld1_at _ 1 inb_S2x1x1024_S1x1x1024_1_0_0 x).trans (pay134_at _ _), by simp [den], by simp [acc], (ld1_at _ 1 inb_S2x1x1024_S1x1x1024_1_0_0 x).trans (pay135_at _ _), (ld128_at _ 1 inb_S2x128x1024_S1x128x1024_1_0_0 e x).trans (pay136_at _ _ _)⟩⟩
  | succ k ih =>
    have hk' : k < 16 := hk
    have ih := ih hk'.le
    simp only [shAt, dif_pos hk']
    exact ⟨inv_step X4 X5 Kr Vr hK hV _ _ (q132 q Qr hQ) k hk' _ _ _ e x ih.1, inv_step X4 X5 Kr Vr hK hV _ _ (q133 q Qr hQ) k hk' _ _ _ e x ih.2⟩

/-- The mean of `v` over the keys before `n`, weighted by the scores. -/
def mean (s v : ℕ → ℝ) (n : ℕ) : ℝ := acc s v n / den s n

include hQ hK hV in
theorem outBlock_at (b : EReal) (i : grid0.Coords) (lam : Vec Ideal S4x64 .f32) (sub : Vec Ideal S128x1 .f32) (e : Fin 128) (x : Fin 1024) :
    outBlock (F := Ideal) b i q X4 X5 lam sub (ix2 e x)
      = fin (fun d => ((mean (score Kr (qfst Qr x)) (Vr d) (1024 * (i 1).val + x.val + 1) : ℝ) : EReal)
          - lamb lam * ((mean (score Kr (qsnd Qr x)) (Vr d) (1024 * (i 1).val + x.val + 1) : ℝ) : EReal)) (fun d => sub (ix2 d 0)) e := by
  have hn : (i 1).val < 16 := (i 1).isLt
  unfold outBlock
  split
  · unfold outU
    rw [pay1_at]
    congr 1; funext d
    rw [compU_at X4 X5 Kr Vr hK hV _ _ (q73 q Qr hQ) _ hn _ _ d x (st_rows q X4 X5 Qr Kr hQ hK x _ hn.le).1 (st_acc q X4 X5 Qr Kr Vr hQ hK hV d x _ hn.le).1,
      compU_at X4 X5 Kr Vr hK hV _ _ (q74 q Qr hQ) _ hn _ _ d x (st_rows q X4 X5 Qr Kr hQ hK x _ hn.le).2 (st_acc q X4 X5 Qr Kr Vr hQ hK hV d x _ hn.le).2]
    rfl
  · unfold outS
    rw [pay2_at]
    congr 1; funext d
    rw [pay158_at, compS_at X4 X5 Kr Vr hK hV _ _ (q132 q Qr hQ) _ hn _ _ _ d x (sh_inv q X4 X5 Qr Kr Vr hQ hK hV d x _ hn.le).1,
      compS_at X4 X5 Kr Vr hK hV _ _ (q133 q Qr hQ) _ hn _ _ _ d x (sh_inv q X4 X5 Qr Kr Vr hQ hK hV d x _ hn.le).2]
    rfl

end Cert.KernelIdeal.Hand

end
-- ==== Proof.Value.RefAt.lean ====
/-
  The reference's result at an index, when the queries, the keys and the values are real: the same difference of two
  weighted means that the kernel computes.
-/
module

public import proofs.«01_k».proof.Proof.Value.RefV
public import proofs.«01_k».proof.Proof.Value.RefM
public import proofs.«01_k».proof.Proof.Value.RefO
public import proofs.«01_k».proof.Proof.Value.Block

@[expose] public section

set_option maxRecDepth 16384

noncomputable section

namespace Cert.ReferenceIdeal.Value

open Cert.ReferenceIdeal Cert.ReferenceIdeal.Gen Cert.Attn Idealize.ShloMosaic Idealize.ShloMosaic.TcCoe
open Cert.KernelIdeal.Hand (score mean fin lamb select_sle)

/-- A column kept on one of its halves: the first 64 rows or the last. -/
def half (q : Fin 128 → ℝ) (c : Fin 2) (e : Fin 128) : ℝ := if (c.val = 0 ↔ e.val < 64) then q e else 0

/-- The product with a half is the sum over that half. -/
theorem score_half (K : ℕ → Fin 128 → ℝ) (q : Fin 128 → ℝ) (c : Fin 2) (j : ℕ) :
    score K (half q c) j = ∑ x : Fin 64, q ⟨c.val * 64 + x.val, by omega⟩ * K j ⟨c.val * 64 + x.val, by omega⟩ := by
  have split : ∀ f : Fin 128 → ℝ, ∑ e, f e = (∑ x : Fin 64, f ⟨x.val, by omega⟩) + ∑ x : Fin 64, f ⟨64 + x.val, by omega⟩ := fun f =>
    Fin.sum_univ_add (a := 64) (b := 64) f
  unfold score
  rw [split]
  match c with
  | ⟨0, _⟩ =>
    have h1 : ∀ x : Fin 64, half q ⟨0, by omega⟩ ⟨64 + x.val, by omega⟩ = 0 := fun x => by simp [half]
    have h0 : ∀ x : Fin 64, half q ⟨0, by omega⟩ ⟨x.val, by omega⟩ = q ⟨x.val, by omega⟩ := fun x => by simp [half]
    simp only [h0, h1, mul_zero, Finset.sum_const_zero, add_zero, zero_mul, zero_add]
    exact Finset.sum_congr rfl fun x _ => mul_comm _ _
  | ⟨1, _⟩ =>
    have h1 : ∀ x : Fin 64, half q ⟨1, by omega⟩ ⟨64 + x.val, by omega⟩ = q ⟨64 + x.val, by omega⟩ := fun x => by simp [half]
    have h0 : ∀ x : Fin 64, half q ⟨1, by omega⟩ ⟨x.val, by omega⟩ = 0 := fun x => by simp [half]
    simp only [h0, h1, mul_zero, Finset.sum_const_zero, one_mul, zero_add]
    exact Finset.sum_congr rfl fun x _ => mul_comm _ _

/-- The logarithm the reference multiplies the scores by. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h, Ideal.log_coe, if_neg (by norm_num)]

/-- A row of a head is a row of the array. -/
theorem row_lt (h : Fin 4) (x : Fin 128) : h.val * 128 + x.val < 512 := by omega

section
variable (a1 : FVec Ideal S512x16384 .bf16) (a2 : FVec Ideal S4x16384x128 .bf16) (a3 : FVec Ideal S512x16384 .bf16)
variable (a4 : FVec Ideal S4x64 .f32) (a5 : FVec Ideal S128x1 .f32)
variable (h : Fin 4) (Q : Fin 16384) (q : Fin 128 → ℝ) (K : ℕ → Fin 128 → ℝ) (V : Fin 128 → ℕ → ℝ) (L : ℝ)
variable (hq : ∀ x : Fin 128, a1 (ix2 ⟨h.val * 128 + x.val, row_lt h x⟩ Q) = (q x : EReal))
variable (hK : ∀ (j : Fin 16384) (e : Fin 128), a2 (ix3 h j e) = (K j.val e : EReal))
variable (hV : ∀ (e : Fin 128) (j : Fin 16384), a3 (ix2 ⟨h.val * 128 + e.val, row_lt h e⟩ j) = (V e j.val : EReal))
variable (hL : lamb a4 = (L : EReal))

include hq hK in
/-- The scores are the products with the halves. -/
theorem tScore_real (c : Fin 2) (j : Fin 16384) : tScore a1 a2 (ix4 c h Q j) = ((score K (half q c) j.val : ℝ) : EReal) := by
  rw [tScore_at, score_half, coe_sum]
  refine Finset.sum_congr rfl fun x _ => ?_
  rw [hK, EReal.coe_mul, ← hq]
  refine congrArg (· * _) (congrArg a1 (congrArg (ix2 · Q) (Fin.ext ?_)))
  show h.val * 128 + c.val * 64 + x.val = h.val * 128 + (c.val * 64 + x.val)
  omega

include hq hK in
/-- The masked scores: −∞ past the query. -/
theorem tSel_real (c : Fin 2) (j : Fin 16384) : tSel (tScore a1 a2) (ix4 c h Q j)
    = if j.val ≤ Q.val then ((score K (half q c) j.val * Real.log 2 : ℝ) : EReal) else ⊥ := by
  rw [tSel_at, tMask_at, select_sle _ _ (by omega) (by omega), tScore_real a1 a2 h Q q K hq hK, log_two, negInf, ← EReal.coe_mul]

include hq hK in
/-- The weights over their sum. -/
theorem tSoft_real (c : Fin 2) (j : Fin 16384) :
    tSoft (tExp (tSel (tScore a1 a2)) (tMax (tSel (tScore a1 a2)))) (ix4 c h Q j)
      = (((if j.val ≤ Q.val then wt (score K (half q c)) j.val / den (score K (half q c)) (Q.val + 1) else 0 : ℝ)) : EReal) := by
  rw [tSoft_at]
  simp only [tExp_at]
  exact softmax (score K (half q c)) Q.val Q.isLt (fun j => tSel (tScore a1 a2) (ix4 c h Q j))
    (fun j => tSel_real a1 a2 h Q q K hq hK c j) _ (tMax_at _ c h Q) j

include hq hK hV hL in
/-- The reference's result at an index. -/
theorem res_at (R : Fin 512) (e : Fin 128) (hR : R.val = h.val * 128 + e.val) :
    tOut (tOd (tSoft (tExp (tSel (tScore a1 a2)) (tMax (tSel (tScore a1 a2))))) (tLam a4) a3) a5 (ix2 R Q)
      = fin (fun d => ((mean (score K (half q 0)) (V d) (Q.val + 1) : ℝ) : EReal)
          - lamb a4 * ((mean (score K (half q 1)) (V d) (Q.val + 1) : ℝ) : EReal)) (fun d => a5 (ix2 d 0)) e := by
  rw [tOut_at]
  have eR : (⟨R.val / 128, by omega⟩ : Fin 4) = h := Fin.ext (by show R.val / 128 = h.val; omega)
  have eE : (⟨R.val % 128, by omega⟩ : Fin 128) = e := Fin.ext (by show R.val % 128 = e.val; omega)
  rw [eR, eE]
  refine congrArg (fun t => fin t _ e) (funext fun d => ?_)
  rw [tOd_at]
  simp only [tSoft_real a1 a2 h Q q K hq hK, hV, tLam_at, hL]
  exact difference (score K (half q 0)) (score K (half q 1)) (V d) L Q.val Q.isLt
end

end Cert.ReferenceIdeal.Value

end
-- ==== Proof.Value.Final.lean ====
/-
  The kernel's result array, whole: at real operands it is the reference's function of the argument arrays.
-/
module

public import proofs.«01_k».proof.Proof.Value.RefAt
public import proofs.«01_k».proof.Proof.Hand.Frame
public import Idealize.ShloMosaic.Lib.Pipeline.ValueKit.Geometry

@[expose] public section

set_option maxRecDepth 16384

noncomputable section

namespace Cert.KernelIdeal.Hand

open Cert.KernelIdeal Cert.KernelIdeal.Gen Cert.Attn
open Idealize.ShloMosaic Idealize.ShloMosaic.TcCoe Idealize.SL.Sem
open Cert.ReferenceIdeal.Value (half tOut tOd tSoft tExp tSel tMax tScore tLam res_at)

variable (m : (ℓ : Loc nD τ sig) → Buf (Elt Ideal) ℓ) (c : Dev nD) (t : Fin cfg0.N)

theorem head_lt : (grid0.coords t 0).val < 4 := (grid0.coords t 0).isLt
theorem qblk_lt : (grid0.coords t 1).val < 16 := (grid0.coords t 1).isLt

/-- The windows' block indices at a point: the head and the query block. -/
theorem idx1 : ∀ t : Fin cfg0.N, win0_1.index t (0 : Fin 2) = (grid0.coords t 0).val ∧ win0_1.index t (1 : Fin 2) = (grid0.coords t 1).val :=
  (by decide +kernel : ∀ t : Fin grid0.N, _)
theorem idx2 : ∀ t : Fin cfg0.N, win0_2.index t (0 : Fin 3) = (grid0.coords t 0).val ∧ win0_2.index t (1 : Fin 3) = 0 ∧ win0_2.index t (2 : Fin 3) = 0 :=
  (by decide +kernel : ∀ t : Fin grid0.N, _)
theorem idx3 : ∀ t : Fin cfg0.N, win0_3.index t (0 : Fin 2) = (grid0.coords t 0).val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = (grid0.coords t 0).val ∧ win0_6.index t (1 : Fin 2) = (grid0.coords t 1).val :=
  (by decide +kernel : ∀ t : Fin grid0.N, _)

/-- The queries' block in its array. -/
theorem iblk1_at (e : Fin 128) (x : Fin 1024) : iblk m c 1 t (ix2 e x)
    = m ((c : Thread nD τ).loc main_arg1) (ix2 ⟨(grid0.coords t 0).val * 128 + e.val, by have := head_lt t; omega⟩
        ⟨1024 * (grid0.coords t 1).val + x.val, by have := qblk_lt t; omega⟩) := by
  obtain ⟨e0, e1⟩ := idx1 t
  show V m c main_arg1 (((cfg0.win 1).blk t).view.emb (ix2 e x)) = _
  rw [V_main_arg1]
  refine congrArg _ (funext fun a => Fin.ext ?_)
  match a with
  | ⟨0, _⟩ => show win0_1.index t (0 : Fin 2) * 128 + 1 * e.val = (grid0.coords t 0).val * 128 + e.val; omega
  | ⟨1, _⟩ => show win0_1.index t (1 : Fin 2) * 1024 + 1 * x.val = 1024 * (grid0.coords t 1).val + x.val; omega

/-- The keys' block in its array. -/
theorem iblk2_at (j : Fin 16384) (e : Fin 128) : iblk m c 2 t (ix3 0 j e)
    = m ((c : Thread nD τ).loc main_arg2) (ix3 ⟨(grid0.coords t 0).val, head_lt t⟩ j e) := by
  obtain ⟨e0, e1, e2⟩ := idx2 t
  show V m c main_arg2 (((cfg0.win 2).blk t).view.emb (ix3 0 j e)) = _
  rw [V_main_arg2]
  refine congrArg _ (funext fun a => Fin.ext ?_)
  match a with
  | ⟨0, _⟩ => show win0_2.index t (0 : Fin 3) * 1 + 1 * 0 = (grid0.coords t 0).val; omega
  | ⟨1, _⟩ => show win0_2.index t (1 : Fin 3) * 16384 + 1 * j.val = j.val; omega
  | ⟨2, _⟩ => show win0_2.index t (2 : Fin 3) * 128 + 1 * e.val = e.val; omega

/-- The values' block in its array. -/
theorem iblk3_at (e : Fin 128) (j : Fin 16384) : iblk m c 3 t (ix2 e j)
    = m ((c : Thread nD τ).loc main_arg3) (ix2 ⟨(grid0.coords t 0).val * 128 + e.val, by have := head_lt t; omega⟩ j) := by
  obtain ⟨e0, e1⟩ := idx3 t
  show V m c main_arg3 (((cfg0.win 3).blk t).view.emb (ix2 e j)) = _
  rw [V_main_arg3]
  refine congrArg _ (funext fun a => Fin.ext ?_)
  match a with
  | ⟨0, _⟩ => show win0_3.index t (0 : Fin 2) * 128 + 1 * e.val = (grid0.coords t 0).val * 128 + e.val; omega
  | ⟨1, _⟩ => show win0_3.index t (1 : Fin 2) * 16384 + 1 * j.val = j.val; omega

/-- The lambda vectors' block is their array. -/
theorem iblk4_eq : iblk m c 4 t = m ((c : Thread nD τ).loc main_arg4) := by
  obtain ⟨e0, e1⟩ := idx4 t
  funext y
  show V m c main_arg4 (((cfg0.win 4).blk t).view.emb y) = _
  rw [V_main_arg4]
  refine congrArg _ (funext fun a => Fin.ext ?_)
  match a with
  | ⟨0, _⟩ => show win0_4.index t (0 : Fin 2) * 4 + 1 * (y 0).val = (y 0).val; omega
  | ⟨1, _⟩ => show win0_4.index t (1 : Fin 2) * 64 + 1 * (y 1).val = (y 1).val; omega

/-- The last scale's block is its array. -/
theorem iblk5_eq : iblk m c 5 t = m ((c : Thread nD τ).loc main_arg5) := by
  obtain ⟨e0, e1⟩ := idx5 t
  funext y
  show V m c main_arg5 (((cfg0.win 5).blk t).view.emb y) = _
  rw [V_main_arg5]
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

/-- The reference's function of the argument arrays. -/
def ref (a1 : FVec Ideal S512x16384 .bf16) (a2 : FVec Ideal S4x16384x128 .bf16) (a3 : FVec Ideal S512x16384 .bf16)
    (a4 : FVec Ideal S4x64 .f32) (a5 : FVec Ideal S128x1 .f32) : FVec Ideal S512x16384 .f32 :=
  tOut (tOd (tSoft (tExp (tSel (tScore a1 a2)) (tMax (tSel (tScore a1 a2))))) (tLam a4) a3) a5

variable (r1 : ∀ y, m ((c : Thread nD τ).loc main_arg1) y = (((m ((c : Thread nD τ).loc main_arg1) y : EReal).toReal : ℝ) : EReal))
variable (r2 : ∀ y, m ((c : Thread nD τ).loc main_arg2) y = (((m ((c : Thread nD τ).loc main_arg2) y : EReal).toReal : ℝ) : EReal))
variable (r3 : ∀ y, m ((c : Thread nD τ).loc main_arg3) y = (((m ((c : Thread nD τ).loc main_arg3) y : EReal).toReal : ℝ) : EReal))
variable (L : ℝ) (hL : lamb (m ((c : Thread nD τ).loc main_arg4)) = (L : EReal))

/-- The queries of a point. -/
def Qr (e : Fin 128) (x : Fin 1024) : ℝ :=
  (m ((c : Thread nD τ).loc main_arg1) (ix2 ⟨(grid0.coords t 0).val * 128 + e.val, by have := head_lt t; omega⟩
        ⟨1024 * (grid0.coords t 1).val + x.val, by have := qblk_lt t; omega⟩) : EReal).toReal
/-- The keys of a point's head. -/
def Kr (j : ℕ) (e : Fin 128) : ℝ :=
  if h : j < 16384 then (m ((c : Thread nD τ).loc main_arg2) (ix3 ⟨(grid0.coords t 0).val, head_lt t⟩ ⟨j, h⟩ e) : EReal).toReal else 0
/-- The values of a point's head. -/
def Vr (e : Fin 128) (j : ℕ) : ℝ :=
  if h : j < 16384 then (m ((c : Thread nD τ).loc main_arg3) (ix2 ⟨(grid0.coords t 0).val * 128 + e.val, by have := head_lt t; omega⟩ ⟨j, h⟩) : EReal).toReal else 0

/-- A key of a point's head. -/
theorem Kr_eq (j : ℕ) (h : j < 16384) (e : Fin 128) :
    Kr m c t j e = (m ((c : Thread nD τ).loc main_arg2) (ix3 ⟨(grid0.coords t 0).val, head_lt t⟩ ⟨j, h⟩ e) : EReal).toReal := dif_pos h
/-- A value of a point's head. -/
theorem Vr_eq (e : Fin 128) (j : ℕ) (h : j < 16384) : Vr m c t e j
    = (m ((c : Thread nD τ).loc main_arg3) (ix2 ⟨(grid0.coords t 0).val * 128 + e.val, by have := head_lt t; omega⟩ ⟨j, h⟩) : EReal).toReal := dif_pos h

/-- The first component's queries are the first half. -/
theorem qfst_half (f : Fin 128 → Fin 1024 → ℝ) (x : Fin 1024) : qfst f x = half (fun e => f e x) 0 := by
  funext e; simp [qfst, half]
/-- The second component's queries are the second half. -/
theorem qsnd_half (f : Fin 128 → Fin 1024 → ℝ) (x : Fin 1024) : qsnd f x = half (fun e => f e x) 1 := by
  funext e; by_cases h : e.val < 64 <;> simp [qsnd, half, h]

include r1 r2 r3 hL in
/-- What a point leaves in the result's block is that block of the reference's function. -/
theorem outAt_at (e : Fin 128) (x : Fin 1024) : outAt (F := Ideal) m c t (ix2 e x)
    = ref (m ((c : Thread nD τ).loc main_arg1)) (m ((c : Thread nD τ).loc main_arg2)) (m ((c : Thread nD τ).loc main_arg3))
        (m ((c : Thread nD τ).loc main_arg4)) (m ((c : Thread nD τ).loc main_arg5))
        (ix2 ⟨(grid0.coords t 0).val * 128 + e.val, by have := head_lt t; omega⟩ ⟨1024 * (grid0.coords t 1).val + x.val, by have := qblk_lt t; omega⟩) := by
  unfold outAt ref
  rw [outBlock_at (iblk m c 1 t) (iblk m c 2 t) (iblk m c 3 t) (Qr m c t) (Kr m c t) (Vr m c t)
      (fun e x => (iblk1_at m c t e x).trans (r1 _))
      (fun j h e => (iblk2_at m c t ⟨j, h⟩ e).trans ((r2 _).trans (congrArg _ (Kr_eq m c t j h e).symm)))
      (fun j h e => (iblk3_at m c t e ⟨j, h⟩).trans ((r3 _).trans (congrArg _ (Vr_eq m c t e j h).symm))),
    iblk4_eq, iblk5_eq, qfst_half, qsnd_half]
  exact (res_at _ _ _ _ _ ⟨(grid0.coords t 0).val, head_lt t⟩ ⟨1024 * (grid0.coords t 1).val + x.val, by have := qblk_lt t; omega⟩
    (fun e => Qr m c t e x) (Kr m c t) (Vr m c t) L (fun e => r1 _)
    (fun j e => (r2 _).trans (congrArg _ (Kr_eq m c t j.val j.isLt e).symm)) (fun e j => (r3 _).trans (congrArg _ (Vr_eq m c t e j.val j.isLt).symm)) hL
    _ e rfl).symm

include r1 r2 r3 hL in
/-- The result array after the run. -/
theorem final6 : (dats m 0 c).arrAt 6 cfg0.N
    = ref (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 6 _ (by decide +kernel) fun t _ y => ?_
  rw [after_6]
  obtain ⟨e0, e1⟩ := idx6 t
  have hy : outAt m c t ((cfg0.win 6).xinj (cfg0.grid.coords t) y) = outAt m c t (ix2 (y 0) (y 1)) :=
    congrArg _ (funext fun a => match a with | ⟨0, _⟩ => rfl | ⟨1, _⟩ => rfl)
  refine Eq.trans hy ((outAt_at m c t r1 r2 r3 L hL (y 0) (y 1)).trans ?_)
  refine congrArg _ (funext fun a => Fin.ext ?_)
  match a with
  | ⟨0, _⟩ => show (grid0.coords t 0).val * 128 + (y 0).val = win0_6.index t (0 : Fin 2) * 128 + 1 * (y 0).val; omega
  | ⟨1, _⟩ => show 1024 * (grid0.coords t 1).val + (y 1).val = win0_6.index t (1 : Fin 2) * 1024 + 1 * (y 1).val; omega

/-- The result array that the run is shown to leave on a core. -/
def result : FVec Ideal S512x16384 .f32 :=
  ref (m ((c : Thread nD τ).loc main_arg1)) (m ((c : Thread nD τ).loc main_arg2)) (m ((c : Thread nD τ).loc main_arg3))
    (m ((c : Thread nD τ).loc main_arg4)) (m ((c : Thread nD τ).loc main_arg5))

/-- The run: the result array at the reference's function of the arguments, the arguments unchanged. -/
theorem value (ρ : Dev nD → PrngReg) (hfin : ∀ c : Dev nD, (dats m 0 c).arrAt 6 cfg0.N = result m c) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (hfin c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c)))⟩) (run_main m ρ)

end Cert.KernelIdeal.Hand

end
-- ==== Proof.Value.Pre.lean ====
/-
  The precondition read: where it holds, each named operand is a real number everywhere.
-/
module

public import proofs.«01_k».proof.Pre_finite_operands
public import Idealize.ShloMosaic.Lib.Pointwise
public import Idealize.ShloMosaic.Lib.IdealHost
public import proofs.«01_k».proof.Proof.Value.PayU
public import proofs.«01_k».proof.Proof.Value.Alg

@[expose] public section

set_option maxRecDepth 16384

noncomputable section

namespace Cert.Pre_finite_operands.Read

open Cert.Pre_finite_operands Idealize.ShloMosaic

/-- The predicate's side conditions. -/
theorem facts : Cert.Pre_finite_operands.Facts where
  bitsLt_bf16_f32 := by decide
  bcast_S_S512x16384 := by decide
  bcast_S_S4x16384x128 := by decide
  bcast_S_S4x64 := by decide

/-- An extended real whose absolute value is below +∞ is a real number. -/
theorem real_of_lt (x : EReal) (h : max x (-x) < ⊤) : x = ((x.toReal : ℝ) : EReal) := by
  refine (EReal.coe_toReal ?_ ?_).symm
  · rintro rfl; simp at h
  · rintro rfl; simp at h

/-- The word of +∞. -/
theorem posInf : Ideal.ofBits .f32 0x7F800000#32 = (⊤ : EReal) := by simp [Ideal.ofBits, Ideal.ieee]

/-- The comparison that the predicate makes, decoded. -/
theorem real_of_cmp (x : EReal) (h : FloatOps.cmpf (F := Ideal) (φ := .f32) .olt (FloatOps.absf (F := Ideal) (φ := .f32) x) (Ideal.ofBits .f32 0x7F800000#32) = 1#1) :
    x = ((x.toReal : ℝ) : EReal) := by
  rw [posInf] at h
  refine real_of_lt x ?_
  by_contra hn
  rw [Ideal.cmpf_def, Ideal.absf_def] at h
  simp [Ideal.cmp, hn] at h

section
attribute [local instance] facts
variable (a0 : FVec Ideal S1 .f32) (a1 : FVec Ideal S512x16384 .bf16) (a2 : FVec Ideal S4x16384x128 .bf16) (a3 : FVec Ideal S512x16384 .bf16)
  (a4 : FVec Ideal S4x64 .f32) (a5 : FVec Ideal S128x1 .f32)

theorem real1 (h : (fn a0 a1 a2 a3 a4 a5).1 = fun _ => 1#1) (y) : a1 y = (((a1 y : EReal).toReal : ℝ) : EReal) := real_of_cmp _ (congrFun h y)
theorem real2 (h : (fn a0 a1 a2 a3 a4 a5).2.1 = fun _ => 1#1) (y) : a2 y = (((a2 y : EReal).toReal : ℝ) : EReal) := real_of_cmp _ (congrFun h y)
theorem real3 (h : (fn a0 a1 a2 a3 a4 a5).2.2.1 = fun _ => 1#1) (y) : a3 y = (((a3 y : EReal).toReal : ℝ) : EReal) := real_of_cmp _ (congrFun h y)
theorem real4 (h : (fn a0 a1 a2 a3 a4 a5).2.2.2 = fun _ => 1#1) (y) : a4 y = (((a4 y : EReal).toReal : ℝ) : EReal) := real_of_cmp _ (congrFun h y)
end

open Cert.KernelIdeal.Hand (lamb)

/-- The weight of the second component is real when the lambda vectors are. -/
theorem lamb_real (lam : FVec Ideal S4x64 .f32) (r : S4x64.Idx → ℝ) (h : ∀ y, lam y = (r y : EReal)) : ∃ L : ℝ, lamb lam = (L : EReal) := by
  have e : ∃ z : ℝ, Ideal.ofBits .f32 0x3E4CCCCD#32 = (z : EReal) := by
    refine ⟨_, by simp [Ideal.ofBits, Ideal.ieee, -EReal.coe_mul]; rfl⟩
  obtain ⟨z, hz⟩ := e
  have s : ∀ i j : Fin 4, ∃ w : ℝ, (∑ x : Fin 64, (lam (ix2 i x) : EReal) * lam (ix2 j x)) = (w : EReal) := fun i j =>
    ⟨∑ x : Fin 64, r (ix2 i x) * r (ix2 j x), by
      rw [Cert.Attn.coe_sum]
      exact Finset.sum_congr rfl fun x _ => by rw [h, h, EReal.coe_mul]⟩
  obtain ⟨w, hw⟩ := s 0 1
  obtain ⟨w', hw'⟩ := s 2 3
  refine ⟨Real.exp w - Real.exp w' + z, ?_⟩
  unfold lamb
  rw [hw, hw', hz, Ideal.exp_coe, Ideal.exp_coe, ← EReal.coe_sub, ← EReal.coe_add]

end Cert.Pre_finite_operands.Read

end
-- ==== Proof.Gate.Math.lean ====
/-
  The output projection and the gated feed-forward layer of one token, written over the extended reals.
-/
module

public import Idealize.ShloMosaic.Lib.Pointwise

@[expose] public section

noncomputable section

namespace Cert.Gate

open Idealize.ShloMosaic

/-- The layer's constants: the two small additions under the roots, and the mean's divisors. -/
abbrev rmsEps : EReal := Ideal.ofBits .f32 0x358637BD#32
abbrev lnEps : EReal := Ideal.ofBits .f32 0x3727C5AC#32
abbrev n1024 : EReal := Ideal.ofBits .f32 0x44800000#32
abbrev n2048 : EReal := Ideal.ofBits .f32 0x45000000#32
abbrev cHalf : EReal := Ideal.ofBits .f32 0x3F000000#32
abbrev cRoot : EReal := Ideal.ofBits .f32 0x3F3504F3#32

/-- The exact GELU. -/
def gelu (z : EReal) : EReal := cHalf * z * (1 + Ideal.erf (z * cRoot))
/-- A value times its logistic. -/
def silu (z : EReal) : EReal := z * Ideal.logistic z

/-- The residual plus the projection of the gated attention. -/
def x1 (x : Fin 1024 → EReal) (y : Fin 1024 → EReal) (w : Fin 1024 → Fin 1024 → EReal) (d : Fin 1024) : EReal :=
  x d + ∑ e : Fin 1024, y e * w e d
/-- The gated attention: the first half from one group of heads, the second from the other. -/
def att (oa od : Fin 512 → EReal) (g : Fin 1024 → EReal) (e : Fin 1024) : EReal :=
  (if h : e.val < 512 then oa ⟨e.val, h⟩ else od ⟨e.val - 512, by omega⟩) * silu (g e)
/-- The normalised row. -/
def rms (x : Fin 1024 → EReal) (g : Fin 1024 → EReal) (d : Fin 1024) : EReal :=
  x d * Ideal.rsqrt (Ideal.div (∑ k : Fin 1024, x k * x k) n1024 + rmsEps) * g d
/-- A column of the wide projection. -/
def proj (h : Fin 1024 → EReal) (w : Fin 1024 → Fin 6144 → EReal) (j : Fin 6144) : EReal :=
  ∑ k : Fin 1024, h k * w k j
/-- The centred row. -/
def cent (v : Fin 2048 → EReal) (j : Fin 2048) : EReal := v j - Ideal.div (∑ k : Fin 2048, v k) n2048
/-- The layer normalisation of a row already centred. -/
def ln (vc : Fin 2048 → EReal) (g b : Fin 2048 → EReal) (j : Fin 2048) : EReal :=
  vc j * Ideal.rsqrt (Ideal.div (∑ k : Fin 2048, vc k * vc k) n2048 + lnEps) * g j + b j
/-- The mixing of a chunk's rows up to the present one. -/
def mix (ws : Fin 128 → EReal) (b : EReal) (vn : Fin 128 → EReal) (t : Fin 128) : EReal :=
  (∑ s : Fin 128, if s.val ≤ t.val then ws s * vn s else 0) + b
/-- The layer's output. -/
def out (x : Fin 1024 → EReal) (u sp g : Fin 2048 → EReal) (w : Fin 2048 → Fin 1024 → EReal) (d : Fin 1024) : EReal :=
  x d + ∑ j : Fin 2048, gelu (u j) * sp j * silu (g j) * w j d

/-- The gate's row, normalised. -/
def vn (h : Fin 1024 → EReal) (wi : Fin 1024 → Fin 6144 → EReal) (lg lb : Fin 2048 → EReal) (j : Fin 2048) : EReal :=
  ln (cent (fun k => gelu (proj h wi ⟨2048 + k.val, by omega⟩))) lg lb j
/-- The layer at a row: the residual stream `x`, the attention `y`, the row's chunk `nb` and its place `t` there. -/
def layer {R : Type} (x y : R → Fin 1024 → EReal) (w : Fin 1024 → Fin 1024 → EReal) (ng : Fin 1024 → EReal) (wi : Fin 1024 → Fin 6144 → EReal)
    (lg lb : Fin 2048 → EReal) (ws : Fin 8 → Fin 128 → Fin 128 → EReal) (b : Fin 8 → Fin 128 → EReal) (wo : Fin 2048 → Fin 1024 → EReal)
    (row : R) (nb : Fin 128 → R) (t : Fin 128) (d : Fin 1024) : EReal :=
  out (x1 (x row) (y row) w) (fun j => proj (rms (x1 (x row) (y row) w) ng) wi ⟨0 + j.val, by omega⟩)
    (fun j => mix (ws ⟨j.val / 256, by omega⟩ t) (b ⟨j.val / 256, by omega⟩ t) (fun s => vn (rms (x1 (x (nb s)) (y (nb s)) w) ng) wi lg lb j) t)
    (fun j => proj (rms (x1 (x row) (y row) w) ng) wi ⟨4096 + j.val, by omega⟩) wo d

/-- The layer over a part of the rows is the layer over all of them, at the row's place among them. -/
theorem layer_rows {R S : Type} (f : R → S) (x y : S → Fin 1024 → EReal) (w : Fin 1024 → Fin 1024 → EReal) (ng ng' : Fin 1024 → EReal)
    (wi : Fin 1024 → Fin 6144 → EReal) (lg lg' lb lb' : Fin 2048 → EReal) (ws : Fin 8 → Fin 128 → Fin 128 → EReal) (b b' : Fin 8 → Fin 128 → EReal)
    (wo : Fin 2048 → Fin 1024 → EReal) (row : R) (nb : Fin 128 → R) (t : Fin 128) (d : Fin 1024) (h1 : ng = ng') (h2 : lg = lg') (h3 : lb = lb') (h4 : b = b') :
    layer (fun r => x (f r)) (fun r => y (f r)) w ng wi lg lb ws b wo row nb t d = layer x y w ng' wi lg' lb' ws b' wo (f row) (fun s => f (nb s)) t d := by
  subst h1 h2 h3 h4
  rfl

/-- A head's sum spread over its lanes: the reciprocal found at the head's lane, its rounding's residual nothing. -/
theorem spread (a : EReal) (l : Fin 128 → EReal) (i0 : Fin 128) (h0 : l i0 ≠ 0) (e : Fin 128 → EReal) (he : ∀ i, e i = if i = i0 then 1 else 0) :
    a * ((∑ i : Fin 128, Ideal.div 1 (l i) * e i) + ∑ i : Fin 128, (Ideal.div 1 (l i) - Ideal.div 1 (l i)) * e i) = Ideal.div a (l i0) := by
  have e1 : (∑ i : Fin 128, Ideal.div 1 (l i) * e i) = Ideal.div 1 (l i0) := by
    rw [Finset.sum_eq_single i0 (fun i _ hi => by rw [he, if_neg hi, mul_zero]) (fun h => absurd (Finset.mem_univ _) h), he, if_pos rfl, mul_one]
  have e2 : (∑ i : Fin 128, (Ideal.div 1 (l i) - Ideal.div 1 (l i)) * e i) = Ideal.div 1 (l i0) - Ideal.div 1 (l i0) := by
    rw [Finset.sum_eq_single i0 (fun i _ hi => by rw [he, if_neg hi, mul_zero]) (fun h => absurd (Finset.mem_univ _) h), he, if_pos rfl, mul_one]
  rw [e1, e2]
  simp only [Ideal.div, if_neg h0, one_mul]
  have e3 : (l i0)⁻¹ - (l i0)⁻¹ = 0 := by
    induction l i0 with
    | bot => simp
    | top => simp
    | coe r => rw [← EReal.coe_inv, ← EReal.coe_sub, sub_self, EReal.coe_zero]
  rw [e3, add_zero]

/-- A choice among four pieces of 128, at a position's piece and its place in it. -/
theorem pick4 {α : Type} (f : Fin 4 → Fin 128 → α) (f0 f1 f2 f3 : Fin 128 → α) (h0 : ∀ t, f0 t = f 0 t) (h1 : ∀ t, f1 t = f 1 t)
    (h2 : ∀ t, f2 t = f 2 t) (h3 : ∀ t, f3 t = f 3 t) (r : ℕ) (hr : r < 512) :
    (if h : r < 128 then f0 ⟨r, h⟩ else if h : r - 128 < 128 then f1 ⟨r - 128, h⟩
      else if h : r - 128 - 128 < 128 then f2 ⟨r - 128 - 128, h⟩ else f3 ⟨r - 128 - 128 - 128, by omega⟩)
      = f ⟨r / 128, by omega⟩ ⟨r % 128, by omega⟩ := by
  have key : ∀ (g : Fin 4) (k : Fin 128), g.val = r / 128 → k.val = r % 128 → f g k = f ⟨r / 128, by omega⟩ ⟨r % 128, by omega⟩ := by
    intro g k hg hk
    rw [show g = ⟨r / 128, by omega⟩ from Fin.ext hg, show k = ⟨r % 128, by omega⟩ from Fin.ext hk]
  simp only [h0, h1, h2, h3]
  split_ifs <;> exact key _ _ (by simp; omega) (by simp; omega)

/-- A choice among eight pieces of 256, at a position's piece and its place in it. -/
theorem pick8 {α : Type} (f : Fin 8 → Fin 256 → α) (r : ℕ) (hr : r < 2048) :
    (if h : r < 256 then f 0 ⟨r, h⟩ else if h : r - 256 < 256 then f 1 ⟨r - 256, h⟩
      else if h : r - 256 - 256 < 256 then f 2 ⟨r - 256 - 256, h⟩ else if h : r - 256 - 256 - 256 < 256 then f 3 ⟨r - 256 - 256 - 256, h⟩
      else if h : r - 256 - 256 - 256 - 256 < 256 then f 4 ⟨r - 256 - 256 - 256 - 256, h⟩
      else if h : r - 256 - 256 - 256 - 256 - 256 < 256 then f 5 ⟨r - 256 - 256 - 256 - 256 - 256, h⟩
      else if h : r - 256 - 256 - 256 - 256 - 256 - 256 < 256 then f 6 ⟨r - 256 - 256 - 256 - 256 - 256 - 256, h⟩
      else f 7 ⟨r - 256 - 256 - 256 - 256 - 256 - 256 - 256, by omega⟩)
      = f ⟨r / 256, by omega⟩ ⟨r % 256, by omega⟩ := by
  have key : ∀ (g : Fin 8) (k : Fin 256), g.val = r / 256 → k.val = r % 256 → f g k = f ⟨r / 256, by omega⟩ ⟨r % 256, by omega⟩ := by
    intro g k hg hk
    rw [show g = ⟨r / 256, by omega⟩ from Fin.ext hg, show k = ⟨r % 256, by omega⟩ from Fin.ext hk]
  split_ifs <;> exact key _ _ (by simp; omega) (by simp; omega)

end Cert.Gate

end
-- ==== Proof.Gate.Pay.lean ====
/-
  The kernel's stored values read at an index over the extended reals.
-/
module

public import proofs.«01_k».proof.Proof.Gen.Kernel2Ideal.Skeleton
public import proofs.«01_k».proof.Proof.Gate.Math
public import Idealize.ShloMosaic.Lib.Pointwise

@[expose] public section

set_option maxRecDepth 16384

noncomputable section

namespace Cert.Kernel2Ideal.Hand

open Cert.Kernel2Ideal Cert.Kernel2Ideal.Gen Cert.Gate
open Idealize.ShloMosaic Idealize.ShloMosaic.TcCoe

/-- The attention's row: the weighted sums over their divisors, spread to the head's lanes by a table. -/
theorem pay81_at (a0 a1 a2 a3 l x y g od) (A : Fin 4 → Fin 512 → Fin 128 → EReal)
    (h0 : ∀ r k, a0 (ix3 0 r k) = A 0 r k) (h1 : ∀ r k, a1 (ix3 0 r k) = A 1 r k) (h2 : ∀ r k, a2 (ix3 0 r k) = A 2 r k) (h3 : ∀ r k, a3 (ix3 0 r k) = A 3 r k)
    (r : Fin 512) (e : Fin 1024) :
    k0_pay81 (F := Ideal) a0 a1 a2 a3 l x y g od (ix2 r e)
      = att (fun e => A ⟨e.val / 128, by omega⟩ r ⟨e.val % 128, by omega⟩
            * ((∑ i : Fin 128, Ideal.div 1 (l (ix3 0 r i)) * x (ix2 i e)) + ∑ i : Fin 128, (Ideal.div 1 (l (ix3 0 r i)) - Ideal.div 1 (l (ix3 0 r i))) * y (ix2 i e)))
          (fun e => od (ix2 e r)) (fun e => g (ix2 r e)) e := by
  pointwise [k0_pay81]
  unfold att silu
  congr 1
  by_cases h : e.val < 512
  · rw [dif_pos h, dif_pos h]
    exact congrArg (· * _) (pick4 (fun c k => A c r k) (fun k => a0 (ix3 0 r k)) (fun k => a1 (ix3 0 r k)) (fun k => a2 (ix3 0 r k)) (fun k => a3 (ix3 0 r k))
      (h0 r) (h1 r) (h2 r) (h3 r) e.val h)
  · rw [dif_neg h, dif_neg h]
theorem pay82_at (y x w) (r : Fin 512) (d : Fin 1024) :
    k0_pay82 (F := Ideal) y x w (ix2 r d) = x1 (fun d => x (ix2 r d)) (fun e => y (ix2 r e)) (fun e d => w (ix2 e d)) d := by
  pointwise [k0_pay82]; rfl
theorem pay83_at (y x w g) (r : Fin 512) (d : Fin 1024) :
    k0_pay83 (F := Ideal) y x w g (ix2 r d) = rms (fun d => k0_pay82 y x w (ix2 r d)) (fun d => g (ix2 0 d)) d := by
  pointwise [k0_pay83]; rfl
theorem pay84_at (y x w g wu) (r : Fin 512) (j : Fin 2048) :
    k0_pay84 (F := Ideal) y x w g wu (ix2 r j) = ∑ k : Fin 1024, (k0_pay83 y x w g (ix2 r k) : EReal) * wu (ix2 k j) := by
  pointwise [k0_pay84]
theorem pay85_at (y x w g wv) (r : Fin 512) (j : Fin 2048) :
    k0_pay85 (F := Ideal) y x w g wv (ix2 r j) = cent (fun j => gelu (∑ k : Fin 1024, (k0_pay83 y x w g (ix2 r k) : EReal) * wv (ix2 k j))) j := by
  pointwise [k0_pay85]; rfl
theorem pay87_at (y x w g wv lg lb) (r : Fin 512) (j : Fin 2048) :
    k0_pay87 (F := Ideal) (k0_pay85 y x w g wv) (k0_pay86 y x w g wv) lg lb (ix2 r j)
      = ln (fun j => k0_pay85 y x w g wv (ix2 r j)) (fun j => lg (ix2 0 j)) (fun j => lb (ix2 0 j)) j := by
  pointwise [k0_pay87, k0_pay86]; rfl

/-- The mask of the mixing: a column not past its row. -/
theorem pay88_at (t s : Fin 128) (a : EReal) : Scalar.select (k0_pay88 (ix2 t s)) a 0 = if s.val ≤ t.val then a else 0 := by
  pointwise [k0_pay88]
  have e : (IntOp.cmpi CmpIPredicate.sle (BitVec.ofNat 32 s.val) (BitVec.ofNat 32 t.val)) = if s.val ≤ t.val then 1#1 else 0#1 := by
    have hs : (BitVec.ofNat 32 s.val).toInt = s.val := by
      rw [BitVec.toInt_eq_toNat_of_lt] <;> simp <;> omega
    have ht : (BitVec.ofNat 32 t.val).toInt = t.val := by
      rw [BitVec.toInt_eq_toNat_of_lt] <;> simp <;> omega
    simp only [IntOp.cmpi, BitVec.sle, hs, ht]
    by_cases h : s.val ≤ t.val <;> simp [h]
  rw [e]; split <;> rfl

/-- One group's mixing of a block's four chunks. -/
def grp (v : FVec Ideal S512x2048 .bf16) (ws : Vec Ideal S1x128x128 .f32) (b : Vec Ideal S1x128x1 .f32) (g : Fin 8) (c : Fin 4) (k : Fin 256)
    (t : Fin 128) : EReal :=
  mix (fun s => ws (ix3 0 t s)) (b (ix3 0 t 0)) (fun s => v (ix2 ⟨c.val * 128 + s.val, by omega⟩ ⟨256 * g.val + k.val, by omega⟩)) t
/-- One group's mixing at a row of the block. -/
abbrev grpRow (v : FVec Ideal S512x2048 .bf16) (ws : Vec Ideal S1x128x128 .f32) (b : Vec Ideal S1x128x1 .f32) (g : Fin 8) (r : Fin 512) (k : Fin 256) : EReal :=
  grp v ws b g ⟨r.val / 128, by omega⟩ k ⟨r.val % 128, by omega⟩
/-- One chunk's mixing of one column, the chunk's rows and the column named. -/
def chunk (v : FVec Ideal S512x2048 .bf16) (ws : Vec Ideal S1x128x128 .f32) (b : Vec Ideal S1x128x1 .f32) (R : Fin 128 → Fin 512) (C : Fin 2048) (t : Fin 128) : EReal :=
  (∑ s : Fin 128, if s.val ≤ t.val then (ws (ix3 0 t s) : EReal) * v (ix2 (R s) C) else 0) + b (ix3 0 t 0)

theorem chunk_eq (v ws b) (g : Fin 8) (c : Fin 4) (k : Fin 256) (R : Fin 128 → Fin 512) (C : Fin 2048) (hR : ∀ s, (R s).val = c.val * 128 + s.val)
    (hC : C.val = 256 * g.val + k.val) (t : Fin 128) : chunk v ws b R C t = grp v ws b g c k t := by
  have eC : C = ⟨256 * g.val + k.val, by omega⟩ := Fin.ext hC
  have eR : R = fun s => ⟨c.val * 128 + s.val, by omega⟩ := funext fun s => Fin.ext (hR s)
  exact congrArg₂ (fun R C => chunk v ws b R C t) eR eC

/-- The four chunks stacked are the group's mixing of the block. -/
theorem grp_of_chunks (v ws b) (g : Fin 8) (r : Fin 512) (k : Fin 256) (C : Fin 2048) (hC : C.val = 256 * g.val + k.val) :
    (if h : r.val < 128 then chunk v ws b (fun s => ⟨s.val, by omega⟩) C ⟨r.val, h⟩
      else if h : r.val - 128 < 128 then chunk v ws b (fun s => ⟨128 + s.val, by omega⟩) C ⟨r.val - 128, h⟩
      else if h : r.val - 128 - 128 < 128 then chunk v ws b (fun s => ⟨256 + s.val, by omega⟩) C ⟨r.val - 128 - 128, h⟩
      else chunk v ws b (fun s => ⟨384 + s.val, by omega⟩) C ⟨r.val - 128 - 128 - 128, by omega⟩) = grpRow v ws b g r k :=
  pick4 (fun c t => grp v ws b g c k t) (chunk v ws b (fun s => ⟨s.val, by omega⟩) C) (chunk v ws b (fun s => ⟨128 + s.val, by omega⟩) C)
    (chunk v ws b (fun s => ⟨256 + s.val, by omega⟩) C) (chunk v ws b (fun s => ⟨384 + s.val, by omega⟩) C)
    (chunk_eq v ws b g 0 k _ C (fun s => by simp) hC) (chunk_eq v ws b g 1 k _ C (fun s => by simp) hC)
    (chunk_eq v ws b g 2 k _ C (fun s => by simp) hC) (chunk_eq v ws b g 3 k _ C (fun s => by simp) hC) r.val r.isLt

/-- The eight groups' mixings, each as its operations are cut up. -/
theorem pay96_at (p q lg lb ws b) (r : Fin 512) (j : Fin 256) :
    k0_pay96 (F := Ideal) (k0_pay91 p q lg lb ws b) (k0_pay92 p q lg lb ws b) (k0_pay93 p q lg lb ws b) (k0_pay94 p q lg lb ws) (k0_pay95 b) (ix2 r j)
      = grpRow (k0_pay87 p q lg lb) ws b 0 r j := by
  pointwise [k0_pay96, k0_pay91, k0_pay92, k0_pay93, k0_pay94, k0_pay95, k0_pay89, k0_pay90]
  simp only [pay88_at]
  exact grp_of_chunks _ ws b 0 r j ⟨j.val, by omega⟩ (by simp)
theorem pay97_at (v ws b) (r : Fin 512) (j : Fin 256) :
    k0_pay97 (F := Ideal) v k0_pay88 ws b (ix2 r j) = grpRow v ws b 1 r j := by
  pointwise [k0_pay97]
  simp only [pay88_at]
  exact grp_of_chunks v ws b 1 r j ⟨256 + j.val, by omega⟩ rfl
theorem pay103_at (v ws b) (r : Fin 512) (j : Fin 256) :
    k0_pay103 (F := Ideal) v (k0_pay98 k0_pay88 ws) (k0_pay99 b) (k0_pay100 v k0_pay88 ws b) (k0_pay101 v k0_pay88 ws) (k0_pay102 b) (ix2 r j) = grpRow v ws b 2 r j := by
  pointwise [k0_pay103, k0_pay98, k0_pay99, k0_pay100, k0_pay101, k0_pay102]
  simp only [pay88_at]
  exact grp_of_chunks v ws b 2 r j ⟨512 + j.val, by omega⟩ rfl
theorem pay104_at (v ws b) (r : Fin 512) (j : Fin 256) :
    k0_pay104 (F := Ideal) v k0_pay88 ws b (ix2 r j) = grpRow v ws b 3 r j := by
  pointwise [k0_pay104]
  simp only [pay88_at]
  exact grp_of_chunks v ws b 3 r j ⟨768 + j.val, by omega⟩ rfl
theorem pay106_at (v ws b) (r : Fin 512) (j : Fin 256) :
    k0_pay106 (F := Ideal) v (k0_pay105 k0_pay88 ws) b (ix2 r j) = grpRow v ws b 4 r j := by
  pointwise [k0_pay106, k0_pay105]
  simp only [pay88_at]
  exact grp_of_chunks v ws b 4 r j ⟨1024 + j.val, by omega⟩ rfl
theorem pay107_at (v ws b) (r : Fin 512) (j : Fin 256) :
    k0_pay107 (F := Ideal) v k0_pay88 ws b (ix2 r j) = grpRow v ws b 5 r j := by
  pointwise [k0_pay107]
  simp only [pay88_at]
  exact grp_of_chunks v ws b 5 r j ⟨1280 + j.val, by omega⟩ rfl
theorem pay108_at (v ws b) (r : Fin 512) (j : Fin 256) :
    k0_pay108 (F := Ideal) v k0_pay88 ws b (ix2 r j) = grpRow v ws b 6 r j := by
  pointwise [k0_pay108]
  simp only [pay88_at]
  exact grp_of_chunks v ws b 6 r j ⟨1536 + j.val, by omega⟩ rfl
theorem pay115_at (v ws b) (r : Fin 512) (j : Fin 256) :
    k0_pay115 (F := Ideal) v (k0_pay109 k0_pay88 ws) (k0_pay110 b) (k0_pay111 v k0_pay88 ws b) (k0_pay112 v k0_pay88 ws b) (k0_pay113 v k0_pay88 ws) (k0_pay114 b) (ix2 r j)
      = grpRow v ws b 7 r j := by
  pointwise [k0_pay115, k0_pay109, k0_pay110, k0_pay111, k0_pay112, k0_pay113, k0_pay114]
  simp only [pay88_at]
  exact grp_of_chunks v ws b 7 r j ⟨1792 + j.val, by omega⟩ rfl

/-- The last stored value: the residual plus the gated rows' projection. -/
theorem pay116_at (x h u s0 s1 s2 s3 s4 s5 s6 s7 wg wo) (S : Fin 8 → Fin 512 → Fin 256 → EReal)
    (h0 : ∀ r k, s0 (ix2 r k) = S 0 r k) (h1 : ∀ r k, s1 (ix2 r k) = S 1 r k) (h2 : ∀ r k, s2 (ix2 r k) = S 2 r k) (h3 : ∀ r k, s3 (ix2 r k) = S 3 r k)
    (h4 : ∀ r k, s4 (ix2 r k) = S 4 r k) (h5 : ∀ r k, s5 (ix2 r k) = S 5 r k) (h6 : ∀ r k, s6 (ix2 r k) = S 6 r k) (h7 : ∀ r k, s7 (ix2 r k) = S 7 r k)
    (r : Fin 512) (d : Fin 1024) :
    k0_pay116 (F := Ideal) x h u s0 s1 s2 s3 s4 s5 s6 s7 wg wo (ix2 r d)
      = out (fun d => x (ix2 r d)) (fun j => u (ix2 r j)) (fun j => S ⟨j.val / 256, by omega⟩ r ⟨j.val % 256, by omega⟩)
          (fun j => ∑ k : Fin 1024, (h (ix2 r k) : EReal) * wg (ix2 k j)) (fun j d => wo (ix2 j d)) d := by
  pointwise [k0_pay116]
  simp only [h0, h1, h2, h3, h4, h5, h6, h7, pick8 (fun g k => S g r k) _ (Fin.isLt _)]
  rfl
end Cert.Kernel2Ideal.Hand

end
-- ==== Proof.Gate.State.lean ====
/-
  The kernel's scratch planes: the sums' blocks stored a row of every tile at a time, read back a plane at a time.
-/
module

public import proofs.«01_k».proof.Proof.Gen.Kernel2Ideal.Frame
public import proofs.«01_k».proof.Proof.Gate.Pay
public import Idealize.ShloMosaic.Lib.Pipeline.StridedRows
public import Idealize.ShloMosaic.Lib.WholeRead

@[expose] public section

set_option maxRecDepth 16384

noncomputable section

namespace Cert.Kernel2Ideal.Hand

open Cert.Kernel2Ideal Cert.Kernel2Ideal.Gen Cert.Gate
open Idealize.ShloMosaic Idealize.ShloMosaic.TcCoe Idealize.ShloMosaic.StridedRows

variable (c : Dev nD) (arg2 : Memref sig .tc .vmem S1x32x8192 .f32) (harg2 : arg2.IsWhole) (arg3 : Memref sig .tc .vmem S1x32x2048 .f32) (harg3 : arg3.IsWhole)
  (arg16 : Memref sig .tc .vmem S5x512x128 .f32) (x1 : Vec Ideal S1x32x8192 .f32) (x2 : Vec Ideal S1x32x2048 .f32)

theorem inbA (k : Fin 4) (r : Fin 16) : ∀ a, (![0, 0, 512 * r.val + 128 * k.val] : Fin 3 → ℕ) a + S1x32x128.size a ≤ S1x32x8192.size a
  | ⟨0, _⟩ => le_refl 1
  | ⟨1, _⟩ => le_refl 32
  | ⟨2, _⟩ => by show 512 * r.val + 128 * k.val + 128 ≤ 8192; omega
theorem inbL (r : Fin 16) : ∀ a, (![0, 0, 128 * r.val] : Fin 3 → ℕ) a + S1x32x128.size a ≤ S1x32x2048.size a
  | ⟨0, _⟩ => le_refl 1
  | ⟨1, _⟩ => le_refl 32
  | ⟨2, _⟩ => by show 128 * r.val + 128 ≤ 2048; omega

/-- The stored slice of the weighted sums: chunk `k` of token `r` of every tile. -/
def payA (k : Fin 4) (r : Fin 16) : (Row 32 128).Idx → EReal :=
  shapeCast S1x32x128 (shapeCast S32x128 (arg2.view.readAt (Elt Ideal) (Rect.unit (s := S1x32x8192) ![0, 0, 512 * r.val + 128 * k.val] S1x32x128.size (inbA k r)).toLoadRect
    (harg2.unread x1)) shapeCasts_S1x32x128_S32x128) shapeCasts_S32x128_S1x32x128
/-- The stored slice of the weights' sums: token `r` of every tile. -/
def payL (r : Fin 16) : (Row 32 128).Idx → EReal :=
  shapeCast S1x32x128 (shapeCast S32x128 (arg3.view.readAt (Elt Ideal) (Rect.unit (s := S1x32x2048) ![0, 0, 128 * r.val] S1x32x128.size (inbL r)).toLoadRect
    (harg3.unread x2)) shapeCasts_S1x32x128_S32x128) shapeCasts_S32x128_S1x32x128

theorem dle : 16 ≤ 16 := le_rfl
/-- The five stores of one token, newest first. -/
def five (r : Fin 16) : List (View.Piece (Elt Ideal) (Plane 5 32 16 128) .f32) :=
  [⟨rowRect dle 4 r, payL arg3 harg3 x2 r⟩, ⟨rowRect dle 3 r, payA arg2 harg2 x1 3 r⟩, ⟨rowRect dle 2 r, payA arg2 harg2 x1 2 r⟩,
   ⟨rowRect dle 1 r, payA arg2 harg2 x1 1 r⟩, ⟨rowRect dle 0 r, payA arg2 harg2 x1 0 r⟩]

/-- The run's stores to the scratch are the sixteen tokens' stores. -/
theorem stores_eq : kernelRun0_A.sl.HS0_80 (F := Ideal) c arg2 harg2 arg3 harg3 x1 x2
    = ([15, 14, 13, 12, 11, 10, 9, 8, 7, 6, 5, 4, 3, 2, 1, 0] : List (Fin 16)).flatMap (five arg2 harg2 arg3 harg3 x1 x2) := rfl

/-- What stands at a chunk, a token of its tile, a tile and a lane. -/
def Vp (k : Fin 5) (r : Fin 16) (n : Fin 32) (l : Fin 128) : EReal :=
  if h : k.val < 4 then x1 (ix3 0 n ⟨512 * r.val + 128 * k.val + l.val, by omega⟩) else x2 (ix3 0 n ⟨128 * r.val + l.val, by omega⟩)

theorem payA_at (k : Fin 4) (r : Fin 16) (n : Fin 32) (l : Fin 128) :
    payA arg2 harg2 x1 k r (ix3 0 n l) = x1 (ix3 0 n ⟨512 * r.val + 128 * k.val + l.val, by omega⟩) := by
  unfold payA
  pointwise
  rw [Memref.IsWhole.readAt_unread]
  refine congrArg x1 (funext fun a => Fin.ext ?_)
  match a with
  | ⟨0, _⟩ => rfl
  | ⟨1, _⟩ => show 0 + 1 * n.val = n.val; omega
  | ⟨2, _⟩ => show 512 * r.val + 128 * k.val + 1 * l.val = 512 * r.val + 128 * k.val + l.val; omega
theorem payL_at (r : Fin 16) (n : Fin 32) (l : Fin 128) :
    payL arg3 harg3 x2 r (ix3 0 n l) = x2 (ix3 0 n ⟨128 * r.val + l.val, by omega⟩) := by
  unfold payL
  pointwise
  rw [Memref.IsWhole.readAt_unread]
  refine congrArg x2 (funext fun a => Fin.ext ?_)
  match a with
  | ⟨0, _⟩ => rfl
  | ⟨1, _⟩ => show 0 + 1 * n.val = n.val; omega
  | ⟨2, _⟩ => show 128 * r.val + 1 * l.val = 128 * r.val + l.val; omega

theorem idx_eq (x : (Row 32 128).Idx) : x = (ix3 0 (x 1) (x 2) : S1x32x128.Idx) := by
  funext a
  match a with
  | ⟨0, _⟩ => exact Subsingleton.elim (α := Fin 1) _ _
  | ⟨1, _⟩ => rfl
  | ⟨2, _⟩ => rfl

theorem payA_V (k : Fin 4) (K : Fin 5) (hK : K.val = k.val) (r : Fin 16) (x : (Row 32 128).Idx) :
    payA arg2 harg2 x1 k r x = Vp x1 x2 K r (x 1) (x 2) := by
  have e := payA_at arg2 harg2 x1 k r (x 1) (x 2)
  rw [← idx_eq] at e
  rw [e]; unfold Vp
  rw [dif_pos (by omega)]
  refine congrArg x1 (congrArg (ix3 0 (x 1)) (Fin.ext ?_))
  show 512 * r.val + 128 * k.val + (x 2).val = 512 * r.val + 128 * K.val + (x 2).val
  omega
theorem payL_V (r : Fin 16) (x : (Row 32 128).Idx) : payL arg3 harg3 x2 r x = Vp x1 x2 4 r (x 1) (x 2) := by
  have e := payL_at arg3 harg3 x2 r (x 1) (x 2)
  rw [← idx_eq] at e
  rw [e]; unfold Vp
  rw [dif_neg (show ¬ ((4 : Fin 5).val < 4) by decide)]

theorem stores_V (p) (hp : p ∈ kernelRun0_A.sl.HS0_80 (F := Ideal) c arg2 harg2 arg3 harg3 x1 x2) (y : p.1.shape.Idx) :
    p.2 y = planeValue (Val := Elt Ideal) (e := .f32) (DP := 16) (Vp x1 x2) (p.1.emb y) := by
  rw [stores_eq, List.mem_flatMap] at hp
  obtain ⟨r, -, hp⟩ := hp
  simp only [five, List.mem_cons, List.not_mem_nil, or_false] at hp
  rcases hp with rfl | rfl | rfl | rfl | rfl
  · exact rowRect_payload_eq_planeValue (Val := Elt Ideal) (e := .f32) (Vp x1 x2) dle 4 r _ (payL_V arg3 harg3 x1 x2 r) y
  · exact rowRect_payload_eq_planeValue (Val := Elt Ideal) (e := .f32) (Vp x1 x2) dle 3 r _ (payA_V arg2 harg2 x1 x2 3 3 rfl r) y
  · exact rowRect_payload_eq_planeValue (Val := Elt Ideal) (e := .f32) (Vp x1 x2) dle 2 r _ (payA_V arg2 harg2 x1 x2 2 2 rfl r) y
  · exact rowRect_payload_eq_planeValue (Val := Elt Ideal) (e := .f32) (Vp x1 x2) dle 1 r _ (payA_V arg2 harg2 x1 x2 1 1 rfl r) y
  · exact rowRect_payload_eq_planeValue (Val := Elt Ideal) (e := .f32) (Vp x1 x2) dle 0 r _ (payA_V arg2 harg2 x1 x2 0 0 rfl r) y

theorem stores_mem (k : Fin 5) (r : Fin 16) : ∃ w, (⟨rowRect dle k r, w⟩ : View.Piece (Elt Ideal) (Plane 5 32 16 128) .f32)
    ∈ kernelRun0_A.sl.HS0_80 (F := Ideal) c arg2 harg2 arg3 harg3 x1 x2 := by
  rw [stores_eq]
  have hr : r ∈ ([15, 14, 13, 12, 11, 10, 9, 8, 7, 6, 5, 4, 3, 2, 1, 0] : List (Fin 16)) := by revert r; decide
  have hk : ∃ w, (⟨rowRect dle k r, w⟩ : View.Piece (Elt Ideal) (Plane 5 32 16 128) .f32) ∈ five arg2 harg2 arg3 harg3 x1 x2 r := by
    unfold five
    fin_cases k
    · exact ⟨payA arg2 harg2 x1 0 r, by simp⟩
    · exact ⟨payA arg2 harg2 x1 1 r, by simp⟩
    · exact ⟨payA arg2 harg2 x1 2 r, by simp⟩
    · exact ⟨payA arg2 harg2 x1 3 r, by simp⟩
    · exact ⟨payL arg3 harg3 x2 r, by simp⟩
  obtain ⟨w, hw⟩ := hk
  exact ⟨w, List.mem_flatMap.2 ⟨r, hr, hw⟩⟩

/-- A whole plane read back: row `t` is token `t % 16` of tile `t / 16`. -/
theorem plane_at (k : Fin 5) (inb : ∀ a, (![k.val, 0, 0] : Fin 3 → ℕ) a + S1x512x128.size a ≤ S5x512x128.size a) (t : Fin 512) (l : Fin 128) :
    arg16.view.readCov (Val := Elt Ideal) (kernelRun0_A.sl.HS0_80 (F := Ideal) c arg2 harg2 arg3 harg3 x1 x2)
      (Rect.unit (s := S5x512x128) ![k.val, 0, 0] S1x512x128.size inb).toLoadRect (ix3 0 t l : S1x512x128.Idx)
      = Vp x1 x2 k ⟨t.val % 16, by omega⟩ ⟨t.val / 16, by omega⟩ l := by
  rw [View.readCov_eq_canon']
  have i0 : ((Rect.unit (s := S5x512x128) ![k.val, 0, 0] S1x512x128.size inb).toLoadRect.idx (ix3 0 t l : S1x512x128.Idx))
      = (ix3 k t l : S5x512x128.Idx) := by
    funext a; apply Fin.ext
    match a with
    | ⟨0, _⟩ => show k.val + 1 * 0 = k.val; omega
    | ⟨1, _⟩ => show 0 + 1 * t.val = t.val; omega
    | ⟨2, _⟩ => show 0 + 1 * l.val = l.val; omega
  show View.canon _ _ = _
  rw [i0]
  obtain ⟨w, hw⟩ := stores_mem c arg2 harg2 arg3 harg3 x1 x2 k ⟨t.val % 16, by omega⟩
  refine (View.canon_apply_of_pieces (Val := Elt Ideal) (e := .f32) (planeValue (Val := Elt Ideal) (e := .f32) (DP := 16) (Vp x1 x2)) _
    (fun p hp y => stores_V c arg2 harg2 arg3 harg3 x1 x2 p hp y) _ ⟨_, hw, ?_⟩).trans ?_
  · rw [LoadRect.mem_set]
    intro a
    match a with
    | ⟨0, _⟩ => exact ⟨0, Nat.one_pos, show k.val = k.val + 1 * 0 by omega⟩
    | ⟨1, _⟩ => exact ⟨t.val / 16, show t.val / 16 < 32 by omega, show t.val = t.val % 16 + 16 * (t.val / 16) by omega⟩
    | ⟨2, _⟩ => exact ⟨l.val, l.isLt, show l.val = 0 + 1 * l.val by omega⟩
  · unfold planeValue
    exact dif_pos (⟨show t.val % 16 < 16 by omega, show t.val / 16 < 32 by omega⟩ : (t.val % 16 < 16 ∧ t.val / 16 < 32))

/-- A scratch plane as it is read. -/
def plane (k : Fin 5) : Vec Ideal S1x512x128 .f32 := fun y =>
  Vp x1 x2 k ⟨(y 1).val % 16, Nat.mod_lt _ (by omega)⟩ ⟨(y 1).val / 16, Nat.div_lt_of_lt_mul (y 1).isLt⟩ (y 2)

theorem plane_eq (n : ℕ) (inb : ∀ a, (![n, 0, 0] : Fin 3 → ℕ) a + S1x512x128.size a ≤ S5x512x128.size a) :
    arg16.view.readCov (Val := Elt Ideal) (kernelRun0_A.sl.HS0_80 (F := Ideal) c arg2 harg2 arg3 harg3 x1 x2)
      (Rect.unit (s := S5x512x128) ![n, 0, 0] (no_index S1x512x128.size) inb).toLoadRect = plane x1 x2 ⟨n, inb 0⟩ := by
  funext y
  have hy : y = (ix3 0 (y 1) (y 2) : S1x512x128.Idx) := by
    funext a
    match a with
    | ⟨0, _⟩ => exact Subsingleton.elim (α := Fin 1) _ _
    | ⟨1, _⟩ => rfl
    | ⟨2, _⟩ => rfl
  have e := plane_at c arg2 harg2 arg3 harg3 arg16 x1 x2 ⟨n, inb 0⟩ inb (y 1) (y 2)
  rw [← hy] at e
  exact e

/-- A whole buffer read. -/
theorem rd_whole {s : Shape} {e : EltTy} {κ : Kind} {sp : Space} {a : Memref sig κ sp s e} (h : a.IsWhole) (x : s.Idx → Elt Ideal e) {off : Fin s.rank → ℕ}
    (inb : ∀ i, off i + s.size i ≤ s.size i) : View.readAt (Elt Ideal) a.view (Rect.unit off (no_index s.size) inb).toLoadRect (h.unread x) = x := by
  funext y
  rw [Memref.IsWhole.readAt_unread]
  refine congrArg x (funext fun i => Fin.ext ?_)
  have := inb i
  show off i + 1 * (y i).val = (y i).val
  omega

/-- A third of the wide weight. -/
def cols (x : Vec Ideal S1024x6144 .bf16) (o : ℕ) (h : o + 2048 ≤ 6144) : Vec Ideal S1024x2048 .bf16 := fun y =>
  x (ix2 (y 0) ⟨o + (y 1).val, Nat.lt_of_lt_of_le (Nat.add_lt_add_left (y 1).isLt o) h⟩)
theorem rd_cols {a : Memref sig .tc .vmem S1024x6144 .bf16} (h : a.IsWhole) (x : Vec Ideal S1024x6144 .bf16) (o : ℕ)
    (inb : ∀ i, (![0, o] : Fin 2 → ℕ) i + S1024x2048.size i ≤ S1024x6144.size i) :
    View.readAt (Elt Ideal) a.view (Rect.unit (s := S1024x6144) ![0, o] (no_index S1024x2048.size) inb).toLoadRect (h.unread x) = cols x o (inb 1) := by
  funext y
  rw [Memref.IsWhole.readAt_unread]
  refine congrArg x (funext fun i => Fin.ext ?_)
  match i with
  | ⟨0, _⟩ => show 0 + 1 * (y 0).val = (y 0).val; omega
  | ⟨1, _⟩ => show o + 1 * (y 1).val = o + (y 1).val; omega
/-- One group's mixing weights, and its biases. -/
def wsOf (x : Vec Ideal S8x128x128 .f32) (g : Fin 8) : Vec Ideal S1x128x128 .f32 := fun y => x (ix3 g (y 1) (y 2))
def bOf (x : Vec Ideal S8x128x1 .f32) (g : Fin 8) : Vec Ideal S1x128x1 .f32 := fun y => x (ix3 g (y 1) (y 2))
theorem rd_ws {a : Memref sig .tc .vmem S8x128x128 .f32} (h : a.IsWhole) (x : Vec Ideal S8x128x128 .f32) (g : ℕ)
    (inb : ∀ i, (![g, 0, 0] : Fin 3 → ℕ) i + S1x128x128.size i ≤ S8x128x128.size i) :
    View.readAt (Elt Ideal) a.view (Rect.unit (s := S8x128x128) ![g, 0, 0] (no_index S1x128x128.size) inb).toLoadRect (h.unread x) = wsOf x ⟨g, inb 0⟩ := by
  funext y
  rw [Memref.IsWhole.readAt_unread]
  refine congrArg x (funext fun i => Fin.ext ?_)
  have h0 : (y 0).val < 1 := (y 0).isLt
  match i with
  | ⟨0, _⟩ => show g + 1 * (y 0).val = g; omega
  | ⟨1, _⟩ => show 0 + 1 * (y 1).val = (y 1).val; omega
  | ⟨2, _⟩ => show 0 + 1 * (y 2).val = (y 2).val; omega
theorem rd_b {a : Memref sig .tc .vmem S8x128x1 .f32} (h : a.IsWhole) (x : Vec Ideal S8x128x1 .f32) (g : ℕ)
    (inb : ∀ i, (![g, 0, 0] : Fin 3 → ℕ) i + S1x128x1.size i ≤ S8x128x1.size i) :
    View.readAt (Elt Ideal) a.view (Rect.unit (s := S8x128x1) ![g, 0, 0] (no_index S1x128x1.size) inb).toLoadRect (h.unread x) = bOf x ⟨g, inb 0⟩ := by
  funext y
  rw [Memref.IsWhole.readAt_unread]
  refine congrArg x (funext fun i => Fin.ext ?_)
  have h0 : (y 0).val < 1 := (y 0).isLt
  match i with
  | ⟨0, _⟩ => show g + 1 * (y 0).val = g; omega
  | ⟨1, _⟩ => show 0 + 1 * (y 1).val = (y 1).val; omega
  | ⟨2, _⟩ => show 0 + 1 * (y 2).val = (y 2).val; omega

end Cert.Kernel2Ideal.Hand

end
-- ==== Proof.Gate.Block.lean ====
/-
  What the kernel leaves in the result's block, as one function of the blocks it reads.
-/
module

public import proofs.«01_k».proof.Proof.Gate.State
public import Idealize.ShloMosaic.Lib.Pipeline.ValueKit.Basic

@[expose] public section

set_option maxRecDepth 16384

noncomputable section

namespace Cert.Kernel2Ideal.Hand

open Cert.Kernel2Ideal Cert.Kernel2Ideal.Gen Cert.Gate
open Idealize.ShloMosaic Idealize.ShloMosaic.TcCoe

variable (x0 : Vec Ideal S512x1024 .f32) (x1 : Vec Ideal S1x32x8192 .f32) (x2 : Vec Ideal S1x32x2048 .f32) (x3 : Vec Ideal S128x512 .bf16)
  (x4 : Vec Ideal S512x512 .f32) (x5 : Vec Ideal S512x1024 .f32) (x6 : Vec Ideal S1024x1024 .bf16) (x7 : Vec Ideal S1x1024 .f32)
  (x8 : Vec Ideal S1024x6144 .bf16) (x9 : Vec Ideal S1x2048 .f32) (x10 : Vec Ideal S1x2048 .f32) (x11 : Vec Ideal S8x128x128 .f32)
  (x12 : Vec Ideal S8x128x1 .f32) (x13 : Vec Ideal S2048x1024 .bf16)

theorem c0 : 0 + 2048 ≤ 6144 := by omega
theorem c1 : 2048 + 2048 ≤ 6144 := by omega
theorem c2 : 4096 + 2048 ≤ 6144 := by omega

/-- The attention's block. -/
def yB : FVec Ideal S512x1024 .f32 :=
  k0_pay81 (plane x1 x2 0) (plane x1 x2 1) (plane x1 x2 2) (plane x1 x2 3) (plane x1 x2 4) x3 x3 x5 x4
/-- The normalised gate's centred block and its spread. -/
def vC (y : FVec Ideal S512x1024 .f32) : FVec Ideal S512x2048 .f32 := k0_pay85 y x0 x6 x7 (cols x8 2048 c1)
def vS (y : FVec Ideal S512x1024 .f32) : FVec Ideal S512x2048 .f32 := k0_pay86 y x0 x6 x7 (cols x8 2048 c1)
/-- The normalised gate's block. -/
def vB (y : FVec Ideal S512x1024 .f32) : FVec Ideal S512x2048 .bf16 := k0_pay87 (vC x0 x6 x7 x8 y) (vS x0 x6 x7 x8 y) x9 x10

/-- The block the kernel stores. -/
def blkOf (y : FVec Ideal S512x1024 .f32) (p q : FVec Ideal S512x2048 .f32) (v : FVec Ideal S512x2048 .bf16) : FVec Ideal S512x1024 .f32 :=
  k0_pay116 (k0_pay82 y x0 x6) (k0_pay83 y x0 x6 x7) (k0_pay84 y x0 x6 x7 (cols x8 0 c0))
    (k0_pay96 (k0_pay91 p q x9 x10 (wsOf x11 0) (bOf x12 0)) (k0_pay92 p q x9 x10 (wsOf x11 0) (bOf x12 0)) (k0_pay93 p q x9 x10 (wsOf x11 0) (bOf x12 0))
      (k0_pay94 p q x9 x10 (wsOf x11 0)) (k0_pay95 (bOf x12 0)))
    (k0_pay97 v k0_pay88 (wsOf x11 1) (bOf x12 1))
    (k0_pay103 v (k0_pay98 k0_pay88 (wsOf x11 2)) (k0_pay99 (bOf x12 2)) (k0_pay100 v k0_pay88 (wsOf x11 2) (bOf x12 2)) (k0_pay101 v k0_pay88 (wsOf x11 2)) (k0_pay102 (bOf x12 2)))
    (k0_pay104 v k0_pay88 (wsOf x11 3) (bOf x12 3))
    (k0_pay106 v (k0_pay105 k0_pay88 (wsOf x11 4)) (bOf x12 4))
    (k0_pay107 v k0_pay88 (wsOf x11 5) (bOf x12 5))
    (k0_pay108 v k0_pay88 (wsOf x11 6) (bOf x12 6))
    (k0_pay115 v (k0_pay109 k0_pay88 (wsOf x11 7)) (k0_pay110 (bOf x12 7)) (k0_pay111 v k0_pay88 (wsOf x11 7) (bOf x12 7)) (k0_pay112 v k0_pay88 (wsOf x11 7) (bOf x12 7))
      (k0_pay113 v k0_pay88 (wsOf x11 7)) (k0_pay114 (bOf x12 7)))
    (cols x8 4096 c2) x13

/-- The run leaves that block. -/
theorem out_eq (c : Dev nD) (i : grid0.Coords) (a1 h1 a2 h2 a3 h3 a4 h4 a5 h5 a6 h6 a7 h7 a8 h8 a9 h9 a10 h10 a11 h11 a12 h12 a13 h13 a14 h14 a15 h15 a16 h16) :
    out0_A_14 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 x13
      = blkOf x0 x6 x7 x8 x9 x10 x11 x12 x13 (yB x1 x2 x3 x4 x5) (vC x0 x6 x7 x8 (yB x1 x2 x3 x4 x5)) (vS x0 x6 x7 x8 (yB x1 x2 x3 x4 x5))
          (vB x0 x6 x7 x8 x9 x10 (yB x1 x2 x3 x4 x5)) := by
  unfold out0_A_14 kernelRun0_A
  dsimp only
  funext y
  rw [View.read_writes_junk_apply_eq_canon]
  refine (congrFun (View.canon_cons_unit_lit (S := S512x1024) _ _ [] (fun a => by fin_cases a <;> rfl)) y).trans ?_
  simp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17, kernelRun0_A.sl.r_18, kernelRun0_A.sl.r_19, kernelRun0_A.sl.r_20,
    kernelRun0_A.sl.r_21, kernelRun0_A.sl.r_22, kernelRun0_A.sl.r_23, kernelRun0_A.sl.r_24, kernelRun0_A.sl.r_25, kernelRun0_A.sl.r_26, kernelRun0_A.sl.r_27,
    kernelRun0_A.sl.r_28, kernelRun0_A.sl.r_29, kernelRun0_A.sl.r_30, kernelRun0_A.sl.r_31, kernelRun0_A.sl.r_32, kernelRun0_A.sl.v683,
    kernelRun0_A.sl.v400, kernelRun0_A.sl.v402, kernelRun0_A.sl.v404, kernelRun0_A.sl.v406, kernelRun0_A.sl.v409,
    plane_eq, rd_cols, rd_ws, rd_b, rd_whole]
  rfl

end Cert.Kernel2Ideal.Hand

end
-- ==== Proof.Gate.Row.lean ====
/-
  The kernel's block at a row: the layer's function of the blocks' rows.
-/
module

public import proofs.«01_k».proof.Proof.Gate.Block

@[expose] public section

set_option maxRecDepth 16384

noncomputable section

namespace Cert.Kernel2Ideal.Hand

open Cert.Kernel2Ideal Cert.Kernel2Ideal.Gen
open Idealize.ShloMosaic Idealize.ShloMosaic.TcCoe

variable (x0 : Vec Ideal S512x1024 .f32) (x1 : Vec Ideal S1x32x8192 .f32) (x2 : Vec Ideal S1x32x2048 .f32) (x3 : Vec Ideal S128x512 .bf16)
  (x4 : Vec Ideal S512x512 .f32) (x5 : Vec Ideal S512x1024 .f32) (x6 : Vec Ideal S1024x1024 .bf16) (x7 : Vec Ideal S1x1024 .f32)
  (x8 : Vec Ideal S1024x6144 .bf16) (x9 : Vec Ideal S1x2048 .f32) (x10 : Vec Ideal S1x2048 .f32) (x11 : Vec Ideal S8x128x128 .f32)
  (x12 : Vec Ideal S8x128x1 .f32) (x13 : Vec Ideal S2048x1024 .bf16)

theorem plane_at' (k : Fin 5) (r : Fin 512) (l : Fin 128) : plane x1 x2 k (ix3 0 r l) = Vp x1 x2 k ⟨r.val % 16, by omega⟩ ⟨r.val / 16, by omega⟩ l := rfl

/-- The attention's block at a row. -/
theorem yB_at (h3 : ∀ i e, x3 (ix2 i e) = if i.val = e.val / 64 * 16 then 1 else 0) (r : Fin 512)
    (hl : ∀ k : Fin 8, x2 (ix3 0 ⟨r.val / 16, by omega⟩ ⟨128 * (r.val % 16) + k.val * 16, by omega⟩) ≠ 0) (e : Fin 1024) :
    yB x1 x2 x3 x4 x5 (ix2 r e)
      = Gate.att (fun e => Ideal.div (x1 (ix3 0 ⟨r.val / 16, by omega⟩ ⟨512 * (r.val % 16) + e.val, by omega⟩))
            (x2 (ix3 0 ⟨r.val / 16, by omega⟩ ⟨128 * (r.val % 16) + e.val / 64 * 16, by omega⟩)))
          (fun e => x4 (ix2 e r)) (fun e => x5 (ix2 r e)) e := by
  unfold yB
  rw [pay81_at _ _ _ _ _ x3 x3 x5 x4 (fun k r l => Vp x1 x2 ⟨k.val, by omega⟩ ⟨r.val % 16, by omega⟩ ⟨r.val / 16, by omega⟩ l)
    (fun _ _ => rfl) (fun _ _ => rfl) (fun _ _ => rfl) (fun _ _ => rfl)]
  congr 1
  funext e
  have hv : Vp x1 x2 ⟨e.val / 128, by omega⟩ ⟨r.val % 16, by omega⟩ ⟨r.val / 16, by omega⟩ ⟨e.val % 128, by omega⟩
      = x1 (ix3 0 ⟨r.val / 16, by omega⟩ ⟨512 * (r.val % 16) + e.val, by omega⟩) := by
    unfold Vp
    rw [dif_pos (show e.val / 128 < 4 by omega)]
    refine congrArg x1 (congrArg (ix3 0 _) (Fin.ext ?_))
    show 512 * (r.val % 16) + 128 * (e.val / 128) + e.val % 128 = 512 * (r.val % 16) + e.val
    omega
  have hL : ∀ i : Fin 128, plane x1 x2 4 (ix3 0 r i) = x2 (ix3 0 ⟨r.val / 16, by omega⟩ ⟨128 * (r.val % 16) + i.val, by omega⟩) := by
    intro i
    rw [plane_at']; unfold Vp
    rw [dif_neg (show ¬ ((4 : Fin 5).val < 4) by decide)]
  rw [hv]
  simp only [hL]
  exact Gate.spread _ (fun i => x2 (ix3 0 ⟨r.val / 16, by omega⟩ ⟨128 * (r.val % 16) + i.val, by omega⟩)) ⟨e.val / 64 * 16, by omega⟩ (hl ⟨e.val / 64, by omega⟩) (fun i => x3 (ix2 i e))
    (fun i => by rw [h3]; simp only [Fin.ext_iff])

variable (y : FVec Ideal S512x1024 .f32)

/-- The normalised row. -/
def hB (r : Fin 512) : Fin 1024 → EReal :=
  Gate.rms (Gate.x1 (fun d => x0 (ix2 r d)) (fun e => y (ix2 r e)) (fun e d => x6 (ix2 e d))) (fun d => x7 (ix2 0 d))

theorem hB_at (r : Fin 512) (d : Fin 1024) : k0_pay83 (F := Ideal) y x0 x6 x7 (ix2 r d) = hB x0 x6 x7 y r d := by
  rw [pay83_at]; simp only [pay82_at]; rfl

/-- The normalised gate's block at a row. -/
theorem vB_at (r : Fin 512) (j : Fin 2048) : vB x0 x6 x7 x8 x9 x10 y (ix2 r j)
    = Gate.vn (hB x0 x6 x7 y r) (fun k j => x8 (ix2 k j)) (fun j => x9 (ix2 0 j)) (fun j => x10 (ix2 0 j)) j := by
  unfold vB vC vS
  rw [pay87_at]
  simp only [pay85_at, hB_at]
  rfl

theorem grpRow_at (g : Fin 8) (r : Fin 512) (k : Fin 256) (j : Fin 2048) (hj : j.val = 256 * g.val + k.val) :
    grpRow (vB x0 x6 x7 x8 x9 x10 y) (wsOf x11 g) (bOf x12 g) g r k
      = Gate.mix (fun s => x11 (ix3 g ⟨r.val % 128, by omega⟩ s)) (x12 (ix3 g ⟨r.val % 128, by omega⟩ 0))
          (fun s => Gate.vn (hB x0 x6 x7 y ⟨r.val / 128 * 128 + s.val, by omega⟩) (fun k j => x8 (ix2 k j)) (fun j => x9 (ix2 0 j)) (fun j => x10 (ix2 0 j)) j)
          ⟨r.val % 128, by omega⟩ := by
  have ej : (⟨256 * g.val + k.val, by omega⟩ : Fin 2048) = j := Fin.ext hj.symm
  unfold grpRow grp
  simp only [vB_at, ej]
  rfl

/-- The kernel's block at a row. -/
theorem blk_at (r : Fin 512) (d : Fin 1024) :
    blkOf x0 x6 x7 x8 x9 x10 x11 x12 x13 y (vC x0 x6 x7 x8 y) (vS x0 x6 x7 x8 y) (vB x0 x6 x7 x8 x9 x10 y) (ix2 r d)
      = Gate.layer (fun r d => x0 (ix2 r d)) (fun r e => y (ix2 r e)) (fun e d => x6 (ix2 e d)) (fun d => x7 (ix2 0 d)) (fun k j => x8 (ix2 k j))
          (fun j => x9 (ix2 0 j)) (fun j => x10 (ix2 0 j)) (fun g t s => x11 (ix3 g t s)) (fun g t => x12 (ix3 g t 0)) (fun j d => x13 (ix2 j d))
          r (fun s => ⟨r.val / 128 * 128 + s.val, by omega⟩) ⟨r.val % 128, by omega⟩ d := by
  unfold blkOf
  rw [pay116_at _ _ _ _ _ _ _ _ _ _ _ _ _ (fun g r k => grpRow (vB x0 x6 x7 x8 x9 x10 y) (wsOf x11 g) (bOf x12 g) g r k)
    (pay96_at _ _ _ _ _ _) (pay97_at _ _ _) (pay103_at _ _ _) (pay104_at _ _ _) (pay106_at _ _ _) (pay107_at _ _ _) (pay108_at _ _ _) (pay115_at _ _ _)]
  have hg : ∀ j : Fin 2048, grpRow (vB x0 x6 x7 x8 x9 x10 y) (wsOf x11 ⟨j.val / 256, by omega⟩) (bOf x12 ⟨j.val / 256, by omega⟩) ⟨j.val / 256, by omega⟩ r ⟨j.val % 256, by omega⟩
      = _ := fun j => grpRow_at x0 x6 x7 x8 x9 x10 x11 x12 y ⟨j.val / 256, by omega⟩ r ⟨j.val % 256, by omega⟩ j (by simp; omega)
  simp only [hg, pay82_at, pay84_at, hB_at]
  rfl

end Cert.Kernel2Ideal.Hand

end
-- ==== Proof.Gate.Ref.lean ====
/-
  The reference's result cut into named pieces, each read at an index.
-/
module

public import proofs.«01_k».proof.Proof.Gen.Reference2Ideal.Run
public import proofs.«01_k».proof.Proof.Gate.Math
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe

/-- The gated attention. -/
def tY (a1 : FVec Ideal S8x128x8192 .f32) (a2 : FVec Ideal S8x128x2048 .f32) (a3 : FVec Ideal S512x16384 .f32) (a4 : FVec Ideal S16384x1024 .f32) : FVec Ideal S16384x1024 .f32 :=
  mulf (concatenate S16384x1024 1 [⟨S16384x512, (shapeCast _ (Host.divf (shapeCast _ a1 shapeCasts_S8x128x8192_S16384x8x64) (broadcastInDim S16384x8x64 ![0, 1, 2] bcast_S16384x8x1_S16384x8x64_0_1_2 (extractStridedSlice S16384x8x1 ![0, 0, 0] (shapeCast _ a2 shapeCasts_S8x128x2048_S16384x8x16) slices_S16384x8x16_S16384x8x1_0_0_0))) shapeCasts_S16384x8x64_S16384x512)⟩, ⟨S16384x512, (transpose S16384x512 [1, 0] a3 transposes_S512x16384_S16384x512_1_0)⟩] concatenates_S16384x512_S16384x512_S16384x1024_d1) (mulf a4 (Host.divf (broadcastInDim S16384x1024 ![] bcast_S_S16384x1024 (constant S_ .f32 0x3F800000#32)) (addf (broadcastInDim S16384x1024 ![] bcast_S_S16384x1024 (constant S_ .f32 0x3F800000#32)) (Host.exp (Host.negf a4)))))
/-- The residual stream after the output projection. -/
def tX (a0 : FVec Ideal S16384x1024 .f32) (y : FVec Ideal S16384x1024 .f32) (a5 : FVec Ideal S1024x1024 .bf16) : FVec Ideal S16384x1024 .f32 :=
  addf a0 (Host.dotGeneral dot_S16384x1024_S1024x1024_S16384x1024_1_0_0_1_n_n none y (extf .f32 a5 bitsLt_bf16_f32))
/-- The normalised stream. -/
def tH (x : FVec Ideal S16384x1024 .f32) (a6 : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a6))
/-- The wide projection. -/
def tP (h : FVec Ideal S16384x1024 .f32) (a7 : FVec Ideal S1024x6144 .bf16) : FVec Ideal S16384x6144 .f32 :=
  Host.dotGeneral dot_S16384x1024_S1024x6144_S16384x6144_1_0_0_1_n_n none h (extf .f32 a7 bitsLt_bf16_f32)
/-- The three parts of the wide projection. -/
def tU (p : FVec Ideal S16384x6144 .f32) : FVec Ideal S16384x2048 .f32 := extractStridedSlice S16384x2048 ![0, 0] p slices_S16384x6144_S16384x2048_0_0
def tV (p : FVec Ideal S16384x6144 .f32) : FVec Ideal S16384x2048 .f32 := extractStridedSlice S16384x2048 ![0, 2048] p slices_S16384x6144_S16384x2048_0_2048
def tG (p : FVec Ideal S16384x6144 .f32) : FVec Ideal S16384x2048 .f32 := extractStridedSlice S16384x2048 ![0, 4096] p slices_S16384x6144_S16384x2048_0_4096
/-- The exact GELU. -/
def tE (u : FVec Ideal S16384x2048 .f32) : FVec Ideal S16384x2048 .f32 :=
  mulf (mulf (broadcastInDim S16384x2048 ![] bcast_S_S16384x2048 (constant S_ .f32 0x3F000000#32)) u) (Host.erfc (mulf (Host.negf u) (broadcastInDim S16384x2048 ![] bcast_S_S16384x2048 (constant S_ .f32 0x3F3504F3#32))))
/-- The centred gate. -/
def tC (gg : FVec Ideal S16384x2048 .f32) : FVec Ideal S16384x2048 .f32 :=
  subf gg (broadcastInDim S16384x2048 ![0, 1] bcast_S16384x1_S16384x2048_0_1 (Host.divf (broadcastInDim S16384x1 ![0] bcast_S16384_S16384x1_0 (Host.reduceAdd gg (constant S_ .f32 0x00000000#32) reducesTo_S16384x2048_S16384_d1 h_S_)) (broadcastInDim S16384x1 ![] bcast_S_S16384x1 (constant S_ .f32 0x45000000#32))))
/-- The normalised gate. -/
def tN (vc : FVec Ideal S16384x2048 .f32) (a8 a9 : FVec Ideal S2048 .f32) : FVec Ideal S16384x2048 .f32 :=
  addf (mulf (mulf vc (broadcastInDim S16384x2048 ![0, 1] bcast_S16384x1_S16384x2048_0_1 (Host.rsqrt (addf (Host.divf (broadcastInDim S16384x1 ![0] bcast_S16384_S16384x1_0 (Host.reduceAdd (mulf vc vc) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 a8))) (broadcastInDim S16384x2048 ![0, 1] bcast_S1x2048_S16384x2048_0_1 (broadcastInDim S1x2048 ![1] bcast_S2048_S1x2048_1 a9))
/-- The mixing weights up to the row. -/
def tW (a10 : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) a10 (broadcastInDim S8x128x128 ![] bcast_S_S8x128x128 (sitofp .f32 (constantI S_ 32 0#32)))
/-- The mixed gate. -/
def tM (vn : FVec Ideal S16384x2048 .f32) (wsm : FVec Ideal S8x128x128 .f32) (a11 : FVec Ideal S8x128 .f32) : FVec Ideal S16384x2048 .f32 :=
  shapeCast _ (addf (transpose S128x128x8x256 [1, 3, 0, 2] (Host.dotGeneral dot_S128x128x8x256_S8x128x128_S8x128x256x128_1_2_03_1_2_0 none (shapeCast _ vn shapeCasts_S16384x2048_S128x128x8x256) wsm) transposes_S8x128x256x128_S128x128x8x256_1_3_0_2) (broadcastInDim S128x128x8x256 ![0, 1, 2, 3] bcast_S1x128x8x1_S128x128x8x256_0_1_2_3 (broadcastInDim S1x128x8x1 ![1, 2] bcast_S128x8_S1x128x8x1_1_2 (transpose S128x8 [1, 0] a11 transposes_S8x128_S128x8_1_0)))) shapeCasts_S128x128x8x256_S16384x2048
/-- The layer's result. -/
def tO (x : FVec Ideal S16384x1024 .f32) (gu sp w : FVec Ideal S16384x2048 .f32) (a12 : FVec Ideal S2048x1024 .bf16) : FVec Ideal S16384x1024 .f32 :=
  addf x (Host.dotGeneral dot_S16384x2048_S2048x1024_S16384x1024_1_0_0_1_n_n none (mulf (mulf gu sp) (mulf w (Host.divf (broadcastInDim S16384x2048 ![] bcast_S_S16384x2048 (constant S_ .f32 0x3F800000#32)) (addf (broadcastInDim S16384x2048 ![] bcast_S_S16384x2048 (constant S_ .f32 0x3F800000#32)) (Host.exp (Host.negf w)))))) (extf .f32 a12 bitsLt_bf16_f32))
/-- The result of the argument arrays. -/
def ref (a0 : FVec Ideal S16384x1024 .f32) (a1 : FVec Ideal S8x128x8192 .f32) (a2 : FVec Ideal S8x128x2048 .f32) (a3 : FVec Ideal S512x16384 .f32)
    (a4 : FVec Ideal S16384x1024 .f32) (a5 : FVec Ideal S1024x1024 .bf16) (a6 : FVec Ideal S1024 .f32) (a7 : FVec Ideal S1024x6144 .bf16)
    (a8 a9 : FVec Ideal S2048 .f32) (a10 : FVec Ideal S8x128x128 .f32) (a11 : FVec Ideal S8x128 .f32) (a12 : FVec Ideal S2048x1024 .bf16) :
    FVec Ideal S16384x1024 .f32 :=
  tO (tX a0 (tY a1 a2 a3 a4) a5) (tE (tU (tP (tH (tX a0 (tY a1 a2 a3 a4) a5) a6) a7)))
    (tM (tN (tC (tE (tV (tP (tH (tX a0 (tY a1 a2 a3 a4) a5) a6) a7)))) a8 a9) (tW a10) a11)
    (tG (tP (tH (tX a0 (tY a1 a2 a3 a4) a5) a6) a7)) a12

theorem res_eq (m : (ℓ : Loc nD τ sig) → Buf (Elt Ideal) ℓ) (c : Dev nD) :
    res_main_v84 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) := by
  unfold res_main_v84; rfl

/-- The gated attention at an index. -/
theorem tY_at (a1 a2 a3 a4) (T : Fin 16384) (e : Fin 1024) : tY a1 a2 a3 a4 (ix2 T e)
    = Gate.att (fun e => Ideal.div (a1 (ix3 ⟨T.val / 2048, by omega⟩ ⟨T.val / 16 % 128, by omega⟩ ⟨512 * (T.val % 16) + e.val, by omega⟩))
          (a2 (ix3 ⟨T.val / 2048, by omega⟩ ⟨T.val / 16 % 128, by omega⟩ ⟨128 * (T.val % 16) + e.val / 64 * 16, by omega⟩)))
        (fun e => a3 (ix2 e T)) (fun e => a4 (ix2 T e)) e := by
  pointwise [tY]
  unfold Gate.att Gate.silu Ideal.logistic
  congr 1
  by_cases h : e.val < 512
  · rw [dif_pos h, dif_pos h]
    congr 1
    · refine congrArg a1 (congrArg (ix3 _ _) (Fin.ext ?_))
      show T.val % 16 * 512 + e.val / 64 * 64 + e.val % 64 = 512 * (T.val % 16) + e.val
      omega
    · refine congrArg a2 (congrArg (ix3 _ _) (Fin.ext ?_))
      show T.val % 16 * 128 + e.val / 64 * 16 = 128 * (T.val % 16) + e.val / 64 * 16
      omega
  · rw [dif_neg h, dif_neg h]
theorem tX_at (a0 y a5) (T : Fin 16384) (d : Fin 1024) : tX a0 y a5 (ix2 T d)
    = Gate.x1 (fun d => a0 (ix2 T d)) (fun e => y (ix2 T e)) (fun e d => a5 (ix2 e d)) d := by
  pointwise [tX]; rfl
theorem tH_at (x a6) (T : Fin 16384) (d : Fin 1024) : tH x a6 (ix2 T d) = Gate.rms (fun d => x (ix2 T d)) (fun d => a6 (ix1 d)) d := by
  pointwise [tH]; rfl
theorem tP_at (h a7) (T : Fin 16384) (j : Fin 6144) : tP h a7 (ix2 T j) = Gate.proj (fun d => h (ix2 T d)) (fun k j => a7 (ix2 k j)) j := by
  pointwise [tP]; rfl
theorem tU_at (p) (T : Fin 16384) (j : Fin 2048) : tU p (ix2 T j) = p (ix2 T ⟨0 + j.val, by omega⟩) := by
  pointwise [tU]
theorem tV_at (p) (T : Fin 16384) (j : Fin 2048) : tV p (ix2 T j) = p (ix2 T ⟨2048 + j.val, by omega⟩) := by
  pointwise [tV]
theorem tG_at (p) (T : Fin 16384) (j : Fin 2048) : tG p (ix2 T j) = p (ix2 T ⟨4096 + j.val, by omega⟩) := by
  pointwise [tG]
theorem tE_at (u) (T : Fin 16384) (j : Fin 2048) : tE u (ix2 T j) = Gate.gelu (u (ix2 T j)) := by
  pointwise [tE]
  unfold Gate.gelu
  rw [EReal.neg_mul, Ideal.erfc_neg]
theorem tC_at (u) (T : Fin 16384) (j : Fin 2048) : tC u (ix2 T j) = Gate.cent (fun j => u (ix2 T j)) j := by
  pointwise [tC]; rfl
theorem tN_at (v a8 a9) (T : Fin 16384) (j : Fin 2048) : tN v a8 a9 (ix2 T j)
    = Gate.ln (fun j => v (ix2 T j)) (fun j => a8 (ix1 j)) (fun j => a9 (ix1 j)) j := by
  pointwise [tN]; rfl
theorem tW_at (a10) (g : Fin 8) (t s : Fin 128) : tW a10 (ix3 g t s) = if s.val ≤ t.val then a10 (ix3 g t s) else 0 := by
  pointwise [tW]
  have e : (IntOp.cmpi CmpIPredicate.sge (IntOp.addi (BitVec.ofNat 32 t.val) 0#32) (BitVec.ofNat 32 s.val)) = if s.val ≤ t.val then 1#1 else 0#1 := by
    have hs : (BitVec.ofNat 32 s.val).toInt = s.val := by
      rw [BitVec.toInt_eq_toNat_of_lt] <;> simp <;> omega
    have ht : (BitVec.ofNat 32 t.val).toInt = t.val := by
      rw [BitVec.toInt_eq_toNat_of_lt] <;> simp <;> omega
    have ha : IntOp.addi (BitVec.ofNat 32 t.val) 0#32 = BitVec.ofNat 32 t.val := BitVec.add_zero _
    rw [ha]
    simp only [IntOp.cmpi, BitVec.sle, hs, ht]
    by_cases h : s.val ≤ t.val <;> simp [h]
  have z : (FloatOps.sitofp FTy.f32 0#32 : Ideal .f32) = (0 : EReal) := by
    show (((0#32 : BitVec 32).toInt : ℝ) : EReal) = 0
    simp
  rw [e, z]; split <;> rfl
theorem tM_at (v w a11) (T : Fin 16384) (j : Fin 2048) : tM v w a11 (ix2 T j)
    = (∑ s : Fin 128, (v (ix2 ⟨T.val / 128 * 128 + s.val, by omega⟩ j) : EReal) * w (ix3 ⟨j.val / 256, by omega⟩ ⟨T.val % 128, by omega⟩ s))
      + a11 (ix2 ⟨j.val / 256, by omega⟩ ⟨T.val % 128, by omega⟩) := by
  pointwise [tM]
theorem tO_at (x u s w a12) (T : Fin 16384) (d : Fin 1024) : tO x u s w a12 (ix2 T d)
    = x (ix2 T d) + ∑ j : Fin 2048, (u (ix2 T j) : EReal) * s (ix2 T j) * Gate.silu (w (ix2 T j)) * a12 (ix2 j d) := by
  pointwise [tO]; rfl

variable (a0 : FVec Ideal S16384x1024 .f32) (a1 : FVec Ideal S8x128x8192 .f32) (a2 : FVec Ideal S8x128x2048 .f32) (a3 : FVec Ideal S512x16384 .f32)
    (a4 : FVec Ideal S16384x1024 .f32) (a5 : FVec Ideal S1024x1024 .bf16) (a6 : FVec Ideal S1024 .f32) (a7 : FVec Ideal S1024x6144 .bf16)
    (a8 a9 : FVec Ideal S2048 .f32) (a10 : FVec Ideal S8x128x128 .f32) (a11 : FVec Ideal S8x128 .f32) (a12 : FVec Ideal S2048x1024 .bf16)

/-- The gated attention's row. -/
def yR (T : Fin 16384) : Fin 1024 → EReal :=
  Gate.att (fun e => Ideal.div (a1 (ix3 ⟨T.val / 2048, by omega⟩ ⟨T.val / 16 % 128, by omega⟩ ⟨512 * (T.val % 16) + e.val, by omega⟩))
        (a2 (ix3 ⟨T.val / 2048, by omega⟩ ⟨T.val / 16 % 128, by omega⟩ ⟨128 * (T.val % 16) + e.val / 64 * 16, by omega⟩)))
    (fun e => a3 (ix2 e T)) (fun e => a4 (ix2 T e))

/-- The reference's result at an index: the layer at that row. -/
theorem ref_at (T : Fin 16384) (d : Fin 1024) : ref a0 a1 a2 a3 a4 a5 a6 a7 a8 a9 a10 a11 a12 (ix2 T d)
    = Gate.layer (fun T d => a0 (ix2 T d)) (yR a1 a2 a3 a4) (fun e d => a5 (ix2 e d)) (fun d => a6 (ix1 d)) (fun k j => a7 (ix2 k j))
        (fun j => a8 (ix1 j)) (fun j => a9 (ix1 j)) (fun g t s => a10 (ix3 g t s)) (fun g t => a11 (ix2 g t)) (fun j d => a12 (ix2 j d))
        T (fun s => ⟨T.val / 128 * 128 + s.val, by omega⟩) ⟨T.val % 128, by omega⟩ d := by
  have hy : ∀ T, (fun e => tY a1 a2 a3 a4 (ix2 T e)) = yR a1 a2 a3 a4 T := fun T => funext fun e => tY_at a1 a2 a3 a4 T e
  have hw : ∀ (a b : EReal) (p : Prop) [Decidable p], a * (if p then b else 0) = if p then b * a else 0 := by
    intro a b p _; split
    · exact mul_comm _ _
    · exact mul_zero _
  unfold ref
  rw [tO_at]
  simp only [tE_at, tU_at, tV_at, tG_at, tM_at, tN_at, tC_at, tW_at, tP_at, tH_at, tX_at, hy, hw]
  rfl

end Cert.Reference2Ideal.Value

end
-- ==== Proof.Gate.Final.lean ====
/-
  The result array of the output projection and the gating layer, whole: where no sum is zero it is the reference's
  function of the argument arrays.
-/
module

public import proofs.«01_k».proof.Proof.Gen.Kernel2Ideal.Value
public import proofs.«01_k».proof.Proof.Gate.Row
public import proofs.«01_k».proof.Proof.Gate.Ref
public import Idealize.ShloMosaic.Lib.Pipeline.ValueKit.Geometry
public import Idealize.ShloMosaic.Lib.StableHlo.ReadAt

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Cert.Reference2Ideal.Value (ref ref_at yR)

variable (m : (ℓ : Loc nD τ sig) → Buf (Elt Ideal) ℓ) (c : Dev nD) (t : Fin cfg0.N)

theorem t_lt : t.val < 32 := t.isLt

/-- The windows' block indices at a point. -/
theorem idx0 : ∀ t : Fin cfg0.N, win0_0.index t (0 : Fin 2) = t.val ∧ win0_0.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 := (by decide +kernel : ∀ t : Fin grid0.N, _)
theorem idx2 : ∀ t : Fin cfg0.N, win0_2.index t (0 : Fin 3) = t.val / 4 ∧ win0_2.index t (1 : Fin 3) = t.val % 4 ∧ win0_2.index t (2 : Fin 3) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx13 : ∀ t : Fin cfg0.N, win0_13.index t (0 : Fin 2) = 0 ∧ win0_13.index t (1 : Fin 2) = 0 := (by decide +kernel : ∀ t : Fin grid0.N, _)
theorem idx11 : ∀ t : Fin cfg0.N, win0_11.index t (0 : Fin 3) = 0 ∧ win0_11.index t (1 : Fin 3) = 0 ∧ win0_11.index t (2 : Fin 3) = 0 := (by decide +kernel : ∀ t : Fin grid0.N, _)
theorem idx12 : ∀ t : Fin cfg0.N, win0_12.index t (0 : Fin 3) = 0 ∧ win0_12.index t (1 : Fin 3) = 0 ∧ win0_12.index t (2 : Fin 3) = 0 := (by decide +kernel : ∀ t : Fin grid0.N, _)

/-- The arrays that the host code makes: the table, and the vectors as rows and planes. -/
theorem V_table (i : Fin 128) (e : Fin 512) : V m c main_v7 (ix2 i e) = if i.val = e.val / 64 * 16 then (1 : EReal) else 0 := by
  unfold V
  after_reads_at
  have hw : ∀ e : Fin 512, IntOp.shli ArithUnit.host (IntOp.shrui ArithUnit.host (BitVec.ofNat 32 e.val) 6#32) 4#32 = BitVec.ofNat 32 (e.val / 64 * 16) := by
    decide +kernel
  rw [hw e]
  have hb : IntOp.cmpi CmpIPredicate.eq (BitVec.ofNat 32 i.val) (BitVec.ofNat 32 (e.val / 64 * 16)) = if i.val = e.val / 64 * 16 then 1#1 else 0#1 := by
    have hi : (BitVec.ofNat 32 i.val = BitVec.ofNat 32 (e.val / 64 * 16)) ↔ i.val = e.val / 64 * 16 := by
      rw [← BitVec.toNat_inj, BitVec.toNat_ofNat, BitVec.toNat_ofNat]
      omega
    by_cases hq : i.val = e.val / 64 * 16
    · simp [IntOp.cmpi, hi.2 hq, hq]
    · rw [if_neg hq]
      simp only [IntOp.cmpi]
      rw [show (BitVec.ofNat 32 i.val == BitVec.ofNat 32 (e.val / 64 * 16)) = false from beq_eq_false_iff_ne.2 (mt hi.1 hq)]
      rfl
  rw [hb]
  split
  · show ((((1#1 : BitVec 1).toNat : ℝ)) : EReal) = 1
    norm_num
  · show ((((0#1 : BitVec 1).toNat : ℝ)) : EReal) = 0
    norm_num
theorem V_ng (d : Fin 1024) : V m c main_v8 (ix2 0 d) = m ((c : Thread nD τ).loc main_arg6) (ix1 d) := by
  unfold V
  after_reads_at
theorem V_lg (d : Fin 2048) : V m c main_v9 (ix2 0 d) = m ((c : Thread nD τ).loc main_arg8) (ix1 d) := by
  unfold V
  after_reads_at
theorem V_lb (d : Fin 2048) : V m c main_v10 (ix2 0 d) = m ((c : Thread nD τ).loc main_arg9) (ix1 d) := by
  unfold V
  after_reads_at
theorem V_b (g : Fin 8) (s : Fin 128) : V m c main_v11 (ix3 g s 0) = m ((c : Thread nD τ).loc main_arg11) (ix2 g s) := by
  unfold V
  after_reads_at

/-- The blocks in their arrays. -/
theorem iblk0_at (r : Fin 512) (d : Fin 1024) : iblk m c 0 t (ix2 r d) = m ((c : Thread nD τ).loc main_arg0) (ix2 ⟨512 * t.val + r.val, by have := t_lt t; omega⟩ d) := by
  have ht := t_lt t
  obtain ⟨e0, e1⟩ := idx0 t
  show V m c main_arg0 (((cfg0.win 0).blk t).view.emb (ix2 r d)) = _
  rw [V_main_arg0]
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * d.val = d.val; omega
theorem iblk5_at (r : Fin 512) (d : Fin 1024) : iblk m c 5 t (ix2 r d) = m ((c : Thread nD τ).loc main_arg4) (ix2 ⟨512 * t.val + r.val, by have := t_lt t; omega⟩ d) := by
  have ht := t_lt t
  obtain ⟨e0, e1⟩ := idx5 t
  show V m c main_arg4 (((cfg0.win 5).blk t).view.emb (ix2 r d)) = _
  rw [V_main_arg4]
  refine congrArg _ (funext fun a => Fin.ext ?_)
  match a with
  | ⟨0, _⟩ => show win0_5.index t (0 : Fin 2) * 512 + 1 * r.val = 512 * t.val + r.val; omega
  | ⟨1, _⟩ => show win0_5.index t (1 : Fin 2) * 1024 + 1 * d.val = d.val; omega
theorem iblk4_at (e r : Fin 512) : iblk m c 4 t (ix2 e r) = m ((c : Thread nD τ).loc main_arg3) (ix2 e ⟨512 * t.val + r.val, by have := t_lt t; omega⟩) := by
  have ht := t_lt t
  obtain ⟨e0, e1⟩ := idx4 t
  show V m c main_arg3 (((cfg0.win 4).blk t).view.emb (ix2 e r)) = _
  rw [V_main_arg3]
  refine congrArg _ (funext fun a => Fin.ext ?_)
  match a with
  | ⟨0, _⟩ => show win0_4.index t (0 : Fin 2) * 512 + 1 * e.val = e.val; omega
  | ⟨1, _⟩ => show win0_4.index t (1 : Fin 2) * 512 + 1 * r.val = 512 * t.val + r.val; omega
theorem iblk1_at (n : Fin 32) (x : Fin 8192) : iblk m c 1 t (ix3 0 n x) = m ((c : Thread nD τ).loc main_arg1) (ix3 ⟨t.val / 4, by have := t_lt t; omega⟩ ⟨32 * (t.val % 4) + n.val, by omega⟩ x) := by
  have ht := t_lt t
  obtain ⟨e0, e1, e2⟩ := idx1 t
  show V m c main_arg1 (((cfg0.win 1).blk t).view.emb (ix3 0 n x)) = _
  rw [V_main_arg1]
  refine congrArg _ (funext fun a => Fin.ext ?_)
  match a with
  | ⟨0, _⟩ => show win0_1.index t (0 : Fin 3) * 1 + 1 * 0 = t.val / 4; omega
  | ⟨1, _⟩ => show win0_1.index t (1 : Fin 3) * 32 + 1 * n.val = 32 * (t.val % 4) + n.val; omega
  | ⟨2, _⟩ => show win0_1.index t (2 : Fin 3) * 8192 + 1 * x.val = x.val; omega
theorem iblk2_at (n : Fin 32) (x : Fin 2048) : iblk m c 2 t (ix3 0 n x) = m ((c : Thread nD τ).loc main_arg2) (ix3 ⟨t.val / 4, by have := t_lt t; omega⟩ ⟨32 * (t.val % 4) + n.val, by omega⟩ x) := by
  have ht := t_lt t
  obtain ⟨e0, e1, e2⟩ := idx2 t
  show V m c main_arg2 (((cfg0.win 2).blk t).view.emb (ix3 0 n x)) = _
  rw [V_main_arg2]
  refine congrArg _ (funext fun a => Fin.ext ?_)
  match a with
  | ⟨0, _⟩ => show win0_2.index t (0 : Fin 3) * 1 + 1 * 0 = t.val / 4; omega
  | ⟨1, _⟩ => show win0_2.index t (1 : Fin 3) * 32 + 1 * n.val = 32 * (t.val % 4) + n.val; omega
  | ⟨2, _⟩ => show win0_2.index t (2 : Fin 3) * 2048 + 1 * x.val = x.val; omega
theorem iblk3_at (i : Fin 128) (j : Fin 512) : iblk m c 3 t (ix2 i j) = V m c main_v7 (ix2 i j) := by
  have ht := t_lt t
  obtain ⟨e0, e1⟩ := idx3 t
  show V m c main_v7 (((cfg0.win 3).blk t).view.emb (ix2 i j)) = _
  refine congrArg _ (funext fun a => Fin.ext ?_)
  match a with
  | ⟨0, _⟩ => show win0_3.index t (0 : Fin 2) * 128 + 1 * i.val = i.val; omega
  | ⟨1, _⟩ => show win0_3.index t (1 : Fin 2) * 512 + 1 * j.val = j.val; omega
theorem iblk6_at (i : Fin 1024) (j : Fin 1024) : iblk m c 6 t (ix2 i j) = m ((c : Thread nD τ).loc main_arg5) (ix2 i j) := by
  have ht := t_lt t
  obtain ⟨e0, e1⟩ := idx6 t
  show V m c main_arg5 (((cfg0.win 6).blk t).view.emb (ix2 i j)) = _
  rw [V_main_arg5]
  refine congrArg _ (funext fun a => Fin.ext ?_)
  match a with
  | ⟨0, _⟩ => show win0_6.index t (0 : Fin 2) * 1024 + 1 * i.val = i.val; omega
  | ⟨1, _⟩ => show win0_6.index t (1 : Fin 2) * 1024 + 1 * j.val = j.val; omega
theorem iblk8_at (i : Fin 1024) (j : Fin 6144) : iblk m c 8 t (ix2 i j) = m ((c : Thread nD τ).loc main_arg7) (ix2 i j) := by
  have ht := t_lt t
  obtain ⟨e0, e1⟩ := idx8 t
  show V m c main_arg7 (((cfg0.win 8).blk t).view.emb (ix2 i j)) = _
  rw [V_main_arg7]
  refine congrArg _ (funext fun a => Fin.ext ?_)
  match a with
  | ⟨0, _⟩ => show win0_8.index t (0 : Fin 2) * 1024 + 1 * i.val = i.val; omega
  | ⟨1, _⟩ => show win0_8.index t (1 : Fin 2) * 6144 + 1 * j.val = j.val; omega
theorem iblk13_at (i : Fin 2048) (j : Fin 1024) : iblk m c 13 t (ix2 i j) = m ((c : Thread nD τ).loc main_arg12) (ix2 i j) := by
  have ht := t_lt t
  obtain ⟨e0, e1⟩ := idx13 t
  show V m c main_arg12 (((cfg0.win 13).blk t).view.emb (ix2 i j)) = _
  rw [V_main_arg12]
  refine congrArg _ (funext fun a => Fin.ext ?_)
  match a with
  | ⟨0, _⟩ => show win0_13.index t (0 : Fin 2) * 2048 + 1 * i.val = i.val; omega
  | ⟨1, _⟩ => show win0_13.index t (1 : Fin 2) * 1024 + 1 * j.val = j.val; omega
theorem iblk7_at (j : Fin 1024) : iblk m c 7 t (ix2 0 j) = V m c main_v8 (ix2 0 j) := by
  have ht := t_lt t
  obtain ⟨e0, e1⟩ := idx7 t
  show V m c main_v8 (((cfg0.win 7).blk t).view.emb (ix2 0 j)) = _
  refine congrArg _ (funext fun a => Fin.ext ?_)
  match a with
  | ⟨0, _⟩ => show win0_7.index t (0 : Fin 2) * 1 + 1 * 0 = 0; omega
  | ⟨1, _⟩ => show win0_7.index t (1 : Fin 2) * 1024 + 1 * j.val = j.val; omega
theorem iblk9_at (j : Fin 2048) : iblk m c 9 t (ix2 0 j) = V m c main_v9 (ix2 0 j) := by
  have ht := t_lt t
  obtain ⟨e0, e1⟩ := idx9 t
  show V m c main_v9 (((cfg0.win 9).blk t).view.emb (ix2 0 j)) = _
  refine congrArg _ (funext fun a => Fin.ext ?_)
  match a with
  | ⟨0, _⟩ => show win0_9.index t (0 : Fin 2) * 1 + 1 * 0 = 0; omega
  | ⟨1, _⟩ => show win0_9.index t (1 : Fin 2) * 2048 + 1 * j.val = j.val; omega
theorem iblk10_at (j : Fin 2048) : iblk m c 10 t (ix2 0 j) = V m c main_v10 (ix2 0 j) := by
  have ht := t_lt t
  obtain ⟨e0, e1⟩ := idx10 t
  show V m c main_v10 (((cfg0.win 10).blk t).view.emb (ix2 0 j)) = _
  refine congrArg _ (funext fun a => Fin.ext ?_)
  match a with
  | ⟨0, _⟩ => show win0_10.index t (0 : Fin 2) * 1 + 1 * 0 = 0; omega
  | ⟨1, _⟩ => show win0_10.index t (1 : Fin 2) * 2048 + 1 * j.val = j.val; omega
theorem iblk11_at (g : Fin 8) (i j : Fin 128) : iblk m c 11 t (ix3 g i j) = m ((c : Thread nD τ).loc main_arg10) (ix3 g i j) := by
  have ht := t_lt t
  obtain ⟨e0, e1, e2⟩ := idx11 t
  show V m c main_arg10 (((cfg0.win 11).blk t).view.emb (ix3 g i j)) = _
  rw [V_main_arg10]
  refine congrArg _ (funext fun a => Fin.ext ?_)
  match a with
  | ⟨0, _⟩ => show win0_11.index t (0 : Fin 3) * 8 + 1 * g.val = g.val; omega
  | ⟨1, _⟩ => show win0_11.index t (1 : Fin 3) * 128 + 1 * i.val = i.val; omega
  | ⟨2, _⟩ => show win0_11.index t (2 : Fin 3) * 128 + 1 * j.val = j.val; omega
theorem iblk12_at (g : Fin 8) (i : Fin 128) : iblk m c 12 t (ix3 g i 0) = V m c main_v11 (ix3 g i 0) := by
  have ht := t_lt t
  obtain ⟨e0, e1, e2⟩ := idx12 t
  show V m c main_v11 (((cfg0.win 12).blk t).view.emb (ix3 g i 0)) = _
  refine congrArg _ (funext fun a => Fin.ext ?_)
  match a with
  | ⟨0, _⟩ => show win0_12.index t (0 : Fin 3) * 8 + 1 * g.val = g.val; omega
  | ⟨1, _⟩ => show win0_12.index t (1 : Fin 3) * 128 + 1 * i.val = i.val; omega
  | ⟨2, _⟩ => show win0_12.index t (2 : Fin 3) * 1 + 1 * 0 = 0; omega

/-- The reference's function of the argument arrays: what the run is shown to leave. -/
def result : FVec Ideal S16384x1024 .f32 :=
  ref (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- No row's sum is zero for any head. -/
def Nonzero (l : FVec Ideal S8x128x2048 .f32) : Prop := ∀ (T : Fin 16384) (k : Fin 8),
  l (ix3 ⟨T.val / 2048, by omega⟩ ⟨T.val / 16 % 128, by omega⟩ ⟨128 * (T.val % 16) + k.val * 16, by omega⟩) ≠ (0 : EReal)

variable (hl : Nonzero (m ((c : Thread nD τ).loc main_arg2)))

include hl in
/-- A row of the point's attention is that row of the reference's. -/
theorem yB_row (r : Fin 512) (e : Fin 1024) :
    yB (iblk m c 1 t) (iblk m c 2 t) (iblk m c 3 t) (iblk m c 4 t) (iblk m c 5 t) (ix2 r e)
      = yR (m ((c : Thread nD τ).loc main_arg1)) (m ((c : Thread nD τ).loc main_arg2)) (m ((c : Thread nD τ).loc main_arg3))
          (m ((c : Thread nD τ).loc main_arg4)) ⟨512 * t.val + r.val, by have := t_lt t; omega⟩ e := by
  have ht := t_lt t
  have h0 : (512 * t.val + r.val) / 2048 = t.val / 4 := by omega
  have h1 : (512 * t.val + r.val) / 16 % 128 = 32 * (t.val % 4) + r.val / 16 := by omega
  have h2 : (512 * t.val + r.val) % 16 = r.val % 16 := by omega
  have hp := hl ⟨512 * t.val + r.val, by omega⟩
  rw [yB_at _ _ _ _ _ (fun i e => (iblk3_at m c t i e).trans (V_table m c i e)) r (fun k => by
    rw [iblk2_at]
    have := hp k
    simp only [h0, h1, h2] at this
    exact this)]
  unfold yR
  simp only [h0, h1, h2, iblk1_at, iblk2_at, iblk4_at, iblk5_at]

/-- The block's contents after a point. -/
def outB : FVec Ideal S512x1024 .f32 := outsAt0 m c t

/-- They are the block's text over the window's blocks. -/
theorem outB_eq : outB m c t = blkOf (iblk m c 0 t) (iblk m c 6 t) (iblk m c 7 t) (iblk m c 8 t) (iblk m c 9 t) (iblk m c 10 t) (iblk m c 11 t) (iblk m c 12 t) (iblk m c 13 t)
    (yB (iblk m c 1 t) (iblk m c 2 t) (iblk m c 3 t) (iblk m c 4 t) (iblk m c 5 t))
    (vC (iblk m c 0 t) (iblk m c 6 t) (iblk m c 7 t) (iblk m c 8 t) (yB (iblk m c 1 t) (iblk m c 2 t) (iblk m c 3 t) (iblk m c 4 t) (iblk m c 5 t)))
    (vS (iblk m c 0 t) (iblk m c 6 t) (iblk m c 7 t) (iblk m c 8 t) (yB (iblk m c 1 t) (iblk m c 2 t) (iblk m c 3 t) (iblk m c 4 t) (iblk m c 5 t)))
    (vB (iblk m c 0 t) (iblk m c 6 t) (iblk m c 7 t) (iblk m c 8 t) (iblk m c 9 t) (iblk m c 10 t) (yB (iblk m c 1 t) (iblk m c 2 t) (iblk m c 3 t) (iblk m c 4 t) (iblk m c 5 t))) := by
  unfold outB outsAt0
  exact out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _)

include hl in
/-- What a point leaves in the result's block is that block of the reference's function. -/
theorem outs_at (r : Fin 512) (d : Fin 1024) : outB m c t (ix2 r d)
    = result m c (ix2 ⟨512 * t.val + r.val, by have := t_lt t; omega⟩ d) := by
  have ht := t_lt t
  rw [outB_eq, blk_at]
  simp only [yB_row m c t hl, iblk0_at, iblk6_at, iblk7_at, iblk8_at, iblk9_at, iblk10_at, iblk11_at, iblk12_at, iblk13_at]
  unfold result
  rw [ref_at]
  have h1 : (512 * t.val + r.val) % 128 = r.val % 128 := by omega
  have h2 : ∀ s : Fin 128, 512 * t.val + (r.val / 128 * 128 + s.val) = (512 * t.val + r.val) / 128 * 128 + s.val := fun s => by omega
  simp only [h1, ← h2]
  exact Gate.layer_rows (fun r : Fin 512 => (⟨512 * t.val + r.val, by omega⟩ : Fin 16384)) (fun T d => m ((c : Thread nD τ).loc main_arg0) (ix2 T d)) (yR _ _ _ _) _ _ _ _ _ _ _ _ _ _ _ _ _ _ _ _
    (funext fun d => V_ng m c d) (funext fun d => V_lg m c d) (funext fun d => V_lb m c d) (funext fun g => funext fun s => V_b m c g s)

theorem after_14 : (dats m 0 c).after 14 t = outB m c t := after0_14 m c t

/-- A block that holds an array's rows from `512 t` on is that array read at the block's place. -/
theorem place14 (f : FVec Ideal S512x1024 .f32) (g : FVec Ideal S16384x1024 .f32)
    (h : ∀ (r : Fin 512) (d : Fin 1024), f (ix2 r d) = g (ix2 ⟨512 * t.val + r.val, by have := t_lt t; omega⟩ d))
    (y : ((cfg0.win 14).xblock (cfg0.grid.coords t)).Idx) :
    f ((cfg0.win 14).xinj (cfg0.grid.coords t) y) = g (((cfg0.win 14).blk t).view.emb y) := by
  obtain ⟨e0, e1⟩ := idx14 t
  have hy : f ((cfg0.win 14).xinj (cfg0.grid.coords t) y) = f (ix2 (y 0) (y 1)) :=
    congrArg _ (funext fun a => match a with | ⟨0, _⟩ => rfl | ⟨1, _⟩ => rfl)
  refine Eq.trans hy ((h (y 0) (y 1)).trans ?_)
  refine congrArg _ (funext fun a => Fin.ext ?_)
  match a with
  | ⟨0, _⟩ => show 512 * t.val + (y 0).val = win0_14.index t (0 : Fin 2) * 512 + 1 * (y 0).val; omega
  | ⟨1, _⟩ => show (y 1).val = win0_14.index t (1 : Fin 2) * 1024 + 1 * (y 1).val; omega

include hl in
/-- The result array after the run. -/
theorem final14 : (dats m 0 c).arrAt 14 cfg0.N = result m c := by
  refine (dats m 0 c).arrAt_eq_of_covers 14 _ (by decide +kernel) fun t _ y => ?_
  rw [after_14]
  have key := place14 t (outB m c t) (result m c) (outs_at m c t hl) y
  revert key
  generalize outB m c t = f
  generalize result m c = g
  exact fun key => key

/-- The run: the result array at the reference's function of the arguments, the arguments unchanged. -/
theorem value (ρ : Dev nD → PrngReg) (hfin : ∀ c : Dev nD, (dats m 0 c).arrAt 14 cfg0.N = result m c) :
    θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (hfin c), (h c).2⟩) (Value.run_blocks m ρ)

end Cert.Kernel2Ideal.Hand

end
-- ==== Proof.Gate.Pre.lean ====
/-
  The second precondition read: where it holds, no head's sum is zero.
-/
module

public import proofs.«01_k».proof.Pre_nonzero_sums
public import Idealize.ShloMosaic.Lib.Pointwise
public import Idealize.ShloMosaic.Lib.IdealHost

@[expose] public section

set_option maxRecDepth 16384

noncomputable section

namespace Cert.Pre_nonzero_sums.Read

open Cert.Pre_nonzero_sums Idealize.ShloMosaic

/-- The predicate's side conditions. -/
theorem facts : Cert.Pre_nonzero_sums.Facts where
  shapeCasts_S8x128x2048_S16384x8x16 := by decide
  slices_S16384x8x16_S16384x8x1_0_0_0 := by decide
  shapeCasts_S16384x8x1_S16384x8 := by decide
  bcast_S_S16384x8 := by decide

/-- The comparison that the predicate makes, decoded. -/
theorem ne_of_cmp (x : EReal) (h : FloatOps.cmpf (F := Ideal) (φ := .f32) .une x (Ideal.ofBits .f32 0x00000000#32) = 1#1) : x ≠ 0 := by
  rintro rfl
  rw [Ideal.cmpf_def] at h
  simp [Ideal.cmp, Ideal.ofBits, Ideal.ieee] at h

attribute [local instance] facts

/-- Each row's sum for each head is not zero. -/
theorem nonzero (a0 : FVec Ideal S16384x1024 .f32) (a1 : FVec Ideal S8x128x8192 .f32) (a2 : FVec Ideal S8x128x2048 .f32) (a3 : FVec Ideal S512x16384 .f32)
    (a4 : FVec Ideal S16384x1024 .f32) (a5 : FVec Ideal S1024x1024 .bf16) (a6 : FVec Ideal S1024 .f32) (a7 : FVec Ideal S1024x6144 .bf16)
    (a8 a9 : FVec Ideal S2048 .f32) (a10 : FVec Ideal S8x128x128 .f32) (a11 : FVec Ideal S8x128 .f32) (a12 : FVec Ideal S2048x1024 .bf16)
    (h : fn a0 a1 a2 a3 a4 a5 a6 a7 a8 a9 a10 a11 a12 = fun _ => 1#1) (T : Fin 16384) (k : Fin 8) :
    a2 (ix3 ⟨T.val / 2048, by omega⟩ ⟨T.val / 16 % 128, by omega⟩ ⟨128 * (T.val % 16) + k.val * 16, by omega⟩) ≠ (0 : EReal) := by
  have e : fn a0 a1 a2 a3 a4 a5 a6 a7 a8 a9 a10 a11 a12 (ix2 T k)
      = FloatOps.cmpf (F := Ideal) (φ := .f32) .une
          (a2 (ix3 ⟨T.val / 2048, by omega⟩ ⟨T.val / 16 % 128, by omega⟩ ⟨128 * (T.val % 16) + k.val * 16, by omega⟩)) (Ideal.ofBits .f32 0x00000000#32) := by
    pointwise [fn]
    simp only [Nat.mul_comm]
  exact ne_of_cmp _ (e.symm.trans (congrFun h (ix2 T k)))

end Cert.Pre_nonzero_sums.Read

end
-- ==== Proof.lean ====
/- The certificate of two calls, the differential attention and the output projection with the gating layer: their frames,
   over bit patterns and over the extended reals, the frames of their references, that the named mask is the mask, and that
   over the extended reals each call computes its reference's function.  The proofs are in Proof/Bits (the attention over
   bit patterns), Proof/Hand (the attention over the extended reals), Proof/Value (what it computes), Proof/Gate (what the
   projection and the gating layer compute) and the generated runs of the references. -/
module

public import proofs.«01_k».proof.Defs
public import proofs.«01_k».proof.Proof.Bits.Frame
public import proofs.«01_k».proof.Proof.Hand.Frame
public import proofs.«01_k».proof.Proof.Value.Final
public import proofs.«01_k».proof.Proof.Value.Pre
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gate.Final
public import proofs.«01_k».proof.Proof.Gate.Pre
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof

open Idealize.ShloMosaic Idealize.SL.Sem Cert.Kernel

/-- The kernel over bit patterns ends with its arguments unchanged and every counter at zero. -/
theorem frameKernel : Cert.quiescent_Kernel := fun m ρ _ => Cert.Kernel.Hand.frame m ρ

/-- So does the kernel over the extended reals. -/
theorem frameKernelIdeal : Cert.quiescent_KernelIdeal := fun m ρ _ => Cert.KernelIdeal.Hand.frame m ρ

/-- So does the reference, which has no counter at all. -/
theorem frameReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named mask is the value that the table gives it. -/
theorem preserves : Cert.preserves_Kernel_KernelIdeal :=
  IdealRules.named_const.statement Cert.KernelIdeal.κ "mask" .f32 0xF149F2CA#32 ⊥ rfl

attribute [local instance] Cert.Pre_finite_operands.Read.facts

/-- The two frames again, where the precondition holds. -/
theorem frameKernelIdeal_pre : Cert.quiescent_KernelIdeal_pre_finite_operands := fun m ρ _ => Cert.KernelIdeal.Hand.frame m ρ
theorem frameReferenceIdeal_pre : Cert.quiescent_ReferenceIdeal_pre_finite_operands := fun m ρ _ => frameReferenceIdeal m ρ trivial

/-- Where the precondition holds, the result array of the kernel is the reference's function of its arguments. -/
theorem kernel_final (m : (ℓ : Loc Cert.KernelIdeal.nD Cert.KernelIdeal.τ Cert.KernelIdeal.sig) → Buf (Elt Ideal) ℓ)
    (h : Cert.Pre_KernelIdeal_finite_operands m) (c : Dev Cert.KernelIdeal.nD) :
    (Cert.KernelIdeal.Hand.dats m 0 c).arrAt 6 Cert.KernelIdeal.cfg0.N = Cert.KernelIdeal.Hand.result m c := by
  obtain ⟨h1, h2, h3, h4⟩ := h c
  obtain ⟨L, hL⟩ := Cert.Pre_finite_operands.Read.lamb_real _ _ (Cert.Pre_finite_operands.Read.real4 _ _ _ _ _ _ h4)
  exact Cert.KernelIdeal.Hand.final6 m c (Cert.Pre_finite_operands.Read.real1 _ _ _ _ _ _ h1)
    (Cert.Pre_finite_operands.Read.real2 _ _ _ _ _ _ h2) (Cert.Pre_finite_operands.Read.real3 _ _ _ _ _ _ h3) L hL

/-- Over the extended reals, where the precondition holds, the kernel and the reference leave the same result. -/
theorem algebraic : Cert.algebraic_KernelIdeal_ReferenceIdeal_pre_finite_operands := by
  intro m g m' g' hpre hagree
  refine ⟨fun c => Cert.KernelIdeal.Hand.result m c, Cert.KernelIdeal.Hand.value m g (kernel_final m hpre), ?_⟩
  refine (θ_run Cert.ReferenceIdeal.defs _ _).mono (fun r h c => ⟨(h c).1.trans ?_, (h c).2⟩) (Cert.ReferenceIdeal.Value.run (F := Ideal) m' g')
  obtain ⟨_, e1, e2, e3, e4, e5⟩ := hagree c
  rw [Cert.ReferenceIdeal.Value.res_eq, e1, e2, e3, e4, e5]
  rfl

/-- The output projection and the gating layer, over bit patterns and over the extended reals, end with their arguments
    unchanged and every counter at zero; so does their reference. -/
theorem frameKernel2 : Cert.quiescent_Kernel2 := fun m ρ _ => Cert.Kernel2.Gen.frame m ρ
theorem frameKernel2Ideal : Cert.quiescent_Kernel2Ideal := fun m ρ _ => Cert.Kernel2Ideal.Gen.frame m ρ
theorem frameReference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Its text over the extended reals is its own text. -/
theorem preserves2 : Cert.preserves_Kernel2_Kernel2Ideal := trivial

attribute [local instance] Cert.Pre_nonzero_sums.Read.facts

/-- The two frames again, where the precondition holds. -/
theorem frameKernel2Ideal_pre : Cert.quiescent_Kernel2Ideal_pre_nonzero_sums := fun m ρ _ => Cert.Kernel2Ideal.Gen.frame m ρ
theorem frameReference2Ideal_pre : Cert.quiescent_Reference2Ideal_pre_nonzero_sums := fun m ρ _ => frameReference2Ideal m ρ trivial

/-- Where no sum is zero, the projection and the gating layer leave their reference's result. -/
theorem algebraic2 : Cert.algebraic_Kernel2Ideal_Reference2Ideal_pre_nonzero_sums := by
  intro m g m' g' hpre hagree
  refine ⟨fun c => Cert.Kernel2Ideal.Hand.result m c, Cert.Kernel2Ideal.Hand.value m g (fun c => Cert.Kernel2Ideal.Hand.final14 m c
    (Cert.Pre_nonzero_sums.Read.nonzero _ _ _ _ _ _ _ _ _ _ _ _ _ (hpre c))), ?_⟩
  refine (θ_run Cert.Reference2Ideal.defs _ _).mono (fun r h c => ⟨(h c).1.trans ?_, (h c).2⟩) (Cert.Reference2Ideal.Value.run (F := Ideal) m' g')
  obtain ⟨e0, e1, e2, e3, e4, e5, e6, e7, e8, e9, e10, e11, e12⟩ := hagree c
  rw [Cert.Reference2Ideal.Value.res_eq, e0, e1, e2, e3, e4, e5, e6, e7, e8, e9, e10, e11, e12]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_finite_operands.Read.facts, Cert.Pre_nonzero_sums.Read.facts, frameKernel, frameKernelIdeal, frameKernelIdeal_pre,
  frameReferenceIdeal, frameReferenceIdeal_pre, frameKernel2, frameKernel2Ideal, frameKernel2Ideal_pre, frameReference2Ideal,
  frameReference2Ideal_pre, preserves, algebraic, preserves2, algebraic2⟩

end Cert.Proof

end
